-- ==== Defs.lean ====
def Pre_Kernel [hPre_sizes_cover : Cert.Pre_sizes_cover.Facts] (m : (ℓ : Loc Cert.Kernel.nD Cert.Kernel.τ Cert.Kernel.sig) → Buf (Elt Bits) ℓ) : Prop :=
  ∀ c : Dev Cert.Kernel.nD,
    (Cert.Pre_sizes_cover.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sizes_cover : Cert.Pre_sizes_cover.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_cover.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_sizes_cover_finite [hPre_sizes_cover_finite : Cert.Pre_sizes_cover_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_cover_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_cover_finite [hPre_sizes_cover_finite : Cert.Pre_sizes_cover_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_cover_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sizes_cover : Cert.Pre_sizes_cover.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_cover : Cert.Pre_sizes_cover.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sizes_cover_finite [hKernelIdeal : Cert.KernelIdeal.Facts] [hPre_sizes_cover_finite : Cert.Pre_sizes_cover_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_cover_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sizes_cover_finite [hReferenceIdeal : Cert.ReferenceIdeal.Facts] [hPre_sizes_cover_finite : Cert.Pre_sizes_cover_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_cover_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sizes_cover_finite [hKernelIdeal : Cert.KernelIdeal.Facts] [hReferenceIdeal : Cert.ReferenceIdeal.Facts] [hPre_sizes_cover_finite : Cert.Pre_sizes_cover_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_cover_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_cover : Cert.Pre_sizes_cover.Facts) (hPre_sizes_cover_finite : Cert.Pre_sizes_cover_finite.Facts),
    quiescent_Kernel (hKernel := hKernel) (hPre_sizes_cover := hPre_sizes_cover)
    ∧ quiescent_KernelIdeal (hKernelIdeal := hKernelIdeal) (hPre_sizes_cover := hPre_sizes_cover)
    ∧ quiescent_KernelIdeal_pre_sizes_cover_finite (hKernelIdeal := hKernelIdeal) (hPre_sizes_cover_finite := hPre_sizes_cover_finite)
    ∧ quiescent_ReferenceIdeal (hReferenceIdeal := hReferenceIdeal)
    ∧ quiescent_ReferenceIdeal_pre_sizes_cover_finite (hReferenceIdeal := hReferenceIdeal) (hPre_sizes_cover_finite := hPre_sizes_cover_finite)
    ∧ preserves_Kernel_KernelIdeal
    ∧ algebraic_KernelIdeal_ReferenceIdeal_pre_sizes_cover_finite (hKernelIdeal := hKernelIdeal) (hReferenceIdeal := hReferenceIdeal) (hPre_sizes_cover_finite := hPre_sizes_cover_finite)
-- ==== Pre_sizes_cover.lean ====
abbrev S1536x2816 : Shape := ⟨2, ![1536, 2816]⟩
abbrev S8 : Shape := ⟨1, ![8]⟩
abbrev S8x1408x14336 : Shape := ⟨3, ![8, 1408, 14336]⟩
abbrev S8x22x14336 : Shape := ⟨3, ![8, 22, 14336]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S1536x2816 .bf16) (main_arg1 : IVec S8 32) (main_arg2 : IVec S8x1408x14336 8) (main_arg3 : FVec F S8x22x14336 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 1536#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S_ 32 := (fun x v => Host.reduce IntOp.addi x v reducesTo_S8_S_d0 h_S_) main_arg1 main_c_2
  let main_c_3 : IVec S_ 32 := constantI S_ 32 1536#32
  let main_v7 : IVec S_ 1 := cmpi .eq main_v6 main_c_3
  let main_v8 : IVec S_ 1 := andi main_v5 main_v7
  main_v8
-- ==== Pre_sizes_cover_finite.lean ====
abbrev S1536x2816 : Shape := ⟨2, ![1536, 2816]⟩
abbrev S8 : Shape := ⟨1, ![8]⟩
abbrev S8x1408x14336 : Shape := ⟨3, ![8, 1408, 14336]⟩
abbrev S8x22x14336 : Shape := ⟨3, ![8, 22, 14336]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  bcast_S_S1536x2816 : S_.BroadcastsInDim S1536x2816 (![] : Fin 0 → Fin S1536x2816.rank)
  reducesTo_S1536x2816_S_d0_1 : S1536x2816.ReducesTo [0, 1] S_

variable [Facts]

def fn {F : FTy → Type} [FloatOps F] (main_arg0 : FVec F S1536x2816 .bf16) (main_arg1 : IVec S8 32) (main_arg2 : IVec S8x1408x14336 8) (main_arg3 : FVec F S8x22x14336 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 1536#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S_ 32 := (fun x v => Host.reduce IntOp.addi x v reducesTo_S8_S_d0 h_S_) main_arg1 main_c_2
  let main_c_3 : IVec S_ 32 := constantI S_ 32 1536#32
  let main_v7 : IVec S_ 1 := cmpi .eq main_v6 main_c_3
  let main_v8 : IVec S_ 1 := andi main_v5 main_v7
  let main_v9 : FVec F S1536x2816 .f32 := (extf .f32 · bitsLt_bf16_f32) main_arg0
  let main_v10 : FVec F S1536x2816 .f32 := Host.absf main_v9
  let main_cst : FVec F S_ .f32 := constant S_ .f32 0x7F7F0000#32
  let main_v11 : FVec F S1536x2816 .f32 := broadcastInDim S1536x2816 ![] bcast_S_S1536x2816 main_cst
  let main_v12 : IVec S1536x2816 1 := cmpf .ole main_v10 main_v11
  let main_c_4 : IVec S_ 1 := constantI S_ 1 1#1
  let main_v13 : IVec S_ 1 := (fun x v => Host.reduce IntOp.andi x v reducesTo_S1536x2816_S_d0_1 h_S_) main_v12 main_c_4
  let main_v14 : IVec S_ 1 := andi main_v8 main_v13
  main_v14
-- ==== Kernel.lean ====
abbrev S1536x2816 : Shape := ⟨2, ![1536, 2816]⟩
abbrev S8 : Shape := ⟨1, ![8]⟩
abbrev S8x1408x14336 : Shape := ⟨3, ![8, 1408, 14336]⟩
abbrev S8x22x14336 : Shape := ⟨3, ![8, 22, 14336]⟩
abbrev S1536x128 : Shape := ⟨2, ![1536, 128]⟩
abbrev S256x2816 : Shape := ⟨2, ![256, 2816]⟩
abbrev S256x128 : Shape := ⟨2, ![256, 128]⟩
abbrev S256 : Shape := ⟨1, ![256]⟩
abbrev S256x1 : Shape := ⟨2, ![256, 1]⟩
abbrev S1536x2x11x128 : Shape := ⟨4, ![1536, 2, 11, 128]⟩
abbrev S1536x11x2x128 : Shape := ⟨4, ![1536, 11, 2, 128]⟩
abbrev S_ : Shape := ⟨0, ![]⟩
abbrev S1 : Shape := ⟨1, ![1]⟩
abbrev S9 : Shape := ⟨1, ![9]⟩
abbrev S1536x14336 : Shape := ⟨2, ![1536, 14336]⟩
abbrev S1x1408x512 : Shape := ⟨3, ![1, 1408, 512]⟩
abbrev S1x22x512 : Shape := ⟨3, ![1, 22, 512]⟩
abbrev S1536x512 : Shape := ⟨2, ![1536, 512]⟩
abbrev S2816x512 : Shape := ⟨2, ![2816, 512]⟩
abbrev S1x128x512 : Shape := ⟨3, ![1, 128, 512]⟩
abbrev S128x512 : Shape := ⟨2, ![128, 512]⟩
abbrev S32x512 : Shape := ⟨2, ![32, 512]⟩
abbrev S1x1x512 : Shape := ⟨3, ![1, 1, 512]⟩
abbrev S1x512 : Shape := ⟨2, ![1, 512]⟩
abbrev S256x512 : Shape := ⟨2, ![256, 512]⟩

abbrev nBuf : Space → Nat
  | .hbm => 25
  | .vmem => 15
  | .smem => 2
  | _ => 0

abbrev bufTy : (tb : Table) → Fin (tcTables nBuf tb) → BufTy
  | .hbm, ⟨0, _⟩ => ⟨S1536x2816, .bf16⟩
  | .hbm, ⟨1, _⟩ => ⟨S8, .i32⟩
  | .hbm, ⟨2, _⟩ => ⟨S8x1408x14336, .i8⟩
  | .hbm, ⟨3, _⟩ => ⟨S8x22x14336, .f32⟩
  | .hbm, ⟨4, _⟩ => ⟨S1536x2816, .bf16⟩
  | .hbm, ⟨5, _⟩ => ⟨S1536x128, .f32⟩
  | .hbm, ⟨6, _⟩ => ⟨S1536x2x11x128, .bf16⟩
  | .hbm, ⟨7, _⟩ => ⟨S1536x11x2x128, .bf16⟩
  | .hbm, ⟨8, _⟩ => ⟨S1536x2816, .bf16⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S_, .i32⟩
  | .hbm, ⟨24, _⟩ => ⟨S1536x14336, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x128, .f32⟩
  | .local _ .vmem, ⟨5, _⟩ => ⟨S256x128, .f32⟩
  | .local _ .vmem, ⟨6, _⟩ => ⟨S1536x2816, .bf16⟩
  | .local _ .vmem, ⟨7, _⟩ => ⟨S1536x128, .f32⟩
  | .local _ .vmem, ⟨8, _⟩ => ⟨S1x1408x512, .i8⟩
  | .local _ .vmem, ⟨9, _⟩ => ⟨S1x1408x512, .i8⟩
  | .local _ .vmem, ⟨10, _⟩ => ⟨S1x22x512, .f32⟩
  | .local _ .vmem, ⟨11, _⟩ => ⟨S1x22x512, .f32⟩
  | .local _ .vmem, ⟨12, _⟩ => ⟨S1536x512, .bf16⟩
  | .local _ .vmem, ⟨13, _⟩ => ⟨S1536x512, .bf16⟩
  | .local _ .vmem, ⟨14, _⟩ => ⟨S2816x512, .bf16⟩
  | .local _ .smem, ⟨0, _⟩ => ⟨S9, .i32⟩
  | .local _ .smem, ⟨1, _⟩ => ⟨S8, .i32⟩
  | _, _ => ⟨S1536x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_call0_call0_c : Ref sig .tc := ⟨.hbm, 11, rfl⟩
abbrev main_call0_call0_v0 : Ref sig .tc := ⟨.hbm, 12, rfl⟩
abbrev main_v5 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_v10 : Ref sig .tc := ⟨.hbm, 21, rfl⟩
abbrev main_call2_c : Ref sig .tc := ⟨.hbm, 22, rfl⟩
abbrev main_call2_v0 : Ref sig .tc := ⟨.hbm, 23, rfl⟩
abbrev main_v12 : Ref sig .tc := ⟨.hbm, 24, rfl⟩
abbrev main_v6 : Ref sig .tc := ⟨.smem, 0, rfl⟩
abbrev main_v11 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![28, 8], ![false, false]⟩

abbrev pre1 : Pipeline.Prefetch sig := ⟨2, ![main_v6.idx, main_v11.idx], fun | 0 => main_v6.names | 1 => main_v11.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_off2 (i : grid1.Coords) : Fin 1 → Nat :=
  let arg1 : BitVec 32 := BitVec.ofNat 32 (i 1).val
  let v0 : Index := Scalar.indexCast arg1
  ![v0.toNat]
def k1_off3 (i : grid1.Coords) : Fin 1 → Nat :=
  let arg1 : BitVec 32 := BitVec.ofNat 32 (i 1).val
  let c1_i32 : BitVec 32 := 1#32
  let v2 : BitVec 32 := Scalar.addi arg1 c1_i32
  let v3 : Index := Scalar.indexCast v2
  ![v3.toNat]
@[reducible] def k1_t1_loop (v1 : BitVec 32) (v4 : BitVec 32) : Scf.Loop 32 :=
  let c0_i32_167 : BitVec 32 := 0#32
  let c0_i32_152 : BitVec 32 := 0#32
  let v372 : BitVec 1 := Scalar.cmpi .sgt v1 c0_i32_152
  let v373 : BitVec 32 := Scalar.extui v372
  let c0_i32_153 : BitVec 32 := 0#32
  let v374 : BitVec 1 := Scalar.cmpi .slt v1 c0_i32_153
  let v375 : BitVec 32 := Scalar.extui v374
  let v376 : BitVec 32 := Scalar.subi v373 v375
  let c16_i32 : BitVec 32 := 16#32
  let c0_i32_154 : BitVec 32 := 0#32
  let v377 : BitVec 1 := Scalar.cmpi .sgt c16_i32 c0_i32_154
  let v378 : BitVec 32 := Scalar.extui v377
  let c0_i32_155 : BitVec 32 := 0#32
  let v379 : BitVec 1 := Scalar.cmpi .slt c16_i32 c0_i32_155
  let v380 : BitVec 32 := Scalar.extui v379
  let v381 : BitVec 32 := Scalar.subi v378 v380
  let v382 : BitVec 1 := Scalar.cmpi .ne v376 v381
  let v383 : BitVec 32 := Scalar.remsi v1 c16_i32
  let c0_i32_156 : BitVec 32 := 0#32
  let v384 : BitVec 1 := Scalar.cmpi .ne v383 c0_i32_156
  let v385 : BitVec 1 := Scalar.andi v382 v384
  let v371 : BitVec 32 := Scalar.divsi v1 c16_i32
  let c1_i32_157 : BitVec 32 := 1#32
  let v386 : BitVec 32 := Scalar.subi v371 c1_i32_157
  let v387 : BitVec 32 := Scalar.select v385 v386 v371
  let c16_i32_158 : BitVec 32 := 16#32
  let v388 : BitVec 32 := Scalar.muli v387 c16_i32_158
  let v389 : BitVec 32 := Scalar.subi v4 v388
  let c256_i32 : BitVec 32 := 256#32
  let v390 : BitVec 32 := Scalar.addi v389 c256_i32
  let c1_i32_159 : BitVec 32 := 1#32
  let v391 : BitVec 32 := Scalar.subi v390 c1_i32_159
  let c0_i32_161 : BitVec 32 := 0#32
  let v393 : BitVec 1 := Scalar.cmpi .sgt v391 c0_i32_161
  let v394 : BitVec 32 := Scalar.extui v393
  let c0_i32_162 : BitVec 32 := 0#32
  let v395 : BitVec 1 := Scalar.cmpi .slt v391 c0_i32_162
  let v396 : BitVec 32 := Scalar.extui v395
  let v397 : BitVec 32 := Scalar.subi v394 v396
  let c256_i32_160 : BitVec 32 := 256#32
  let c0_i32_163 : BitVec 32 := 0#32
  let v398 : BitVec 1 := Scalar.cmpi .sgt c256_i32_160 c0_i32_163
  let v399 : BitVec 32 := Scalar.extui v398
  let c0_i32_164 : BitVec 32 := 0#32
  let v400 : BitVec 1 := Scalar.cmpi .slt c256_i32_160 c0_i32_164
  let v401 : BitVec 32 := Scalar.extui v400
  let v402 : BitVec 32 := Scalar.subi v399 v401
  let v403 : BitVec 1 := Scalar.cmpi .ne v397 v402
  let v404 : BitVec 32 := Scalar.remsi v391 c256_i32_160
  let c0_i32_165 : BitVec 32 := 0#32
  let v405 : BitVec 1 := Scalar.cmpi .ne v404 c0_i32_165
  let v406 : BitVec 1 := Scalar.andi v403 v405
  let v392 : BitVec 32 := Scalar.divsi v391 c256_i32_160
  let c1_i32_166 : BitVec 32 := 1#32
  let v407 : BitVec 32 := Scalar.subi v392 c1_i32_166
  let v408 : BitVec 32 := Scalar.select v406 v407 v392
  let v409 : BitVec 32 := Scalar.subi v408 c0_i32_167
  let c1_i32_169 : BitVec 32 := 1#32
  let v411 : BitVec 32 := Scalar.divsi v409 c1_i32_169
  let v412 : BitVec 32 := Scalar.muli v411 c1_i32_169
  let v413 : BitVec 32 := Scalar.addi c0_i32_167 v412
  let c1_i32_170 : BitVec 32 := 1#32
  ⟨c0_i32_167, v413, c1_i32_170⟩
def k1_cond1 (v1 : BitVec 32) (v4 : BitVec 32) : BitVec 1 :=
  let v5 : BitVec 1 := Scalar.cmpi .sgt v4 v1
  let v6 : BitVec 32 := Scalar.extui v5
  let c0_i32 : BitVec 32 := 0#32
  let v7 : BitVec 1 := Scalar.cmpi .ne v6 c0_i32
  v7

def k1_mult1 (v1 : BitVec 32) (v4 : BitVec 32) (k1_t1 : Fin (k1_t1_loop v1 v4).trips) : BitVec 32 :=
  let c0_i32_152 : BitVec 32 := 0#32
  let v372 : BitVec 1 := Scalar.cmpi .sgt v1 c0_i32_152
  let v373 : BitVec 32 := Scalar.extui v372
  let c0_i32_153 : BitVec 32 := 0#32
  let v374 : BitVec 1 := Scalar.cmpi .slt v1 c0_i32_153
  let v375 : BitVec 32 := Scalar.extui v374
  let v376 : BitVec 32 := Scalar.subi v373 v375
  let c16_i32 : BitVec 32 := 16#32
  let c0_i32_154 : BitVec 32 := 0#32
  let v377 : BitVec 1 := Scalar.cmpi .sgt c16_i32 c0_i32_154
  let v378 : BitVec 32 := Scalar.extui v377
  let c0_i32_155 : BitVec 32 := 0#32
  let v379 : BitVec 1 := Scalar.cmpi .slt c16_i32 c0_i32_155
  let v380 : BitVec 32 := Scalar.extui v379
  let v381 : BitVec 32 := Scalar.subi v378 v380
  let v382 : BitVec 1 := Scalar.cmpi .ne v376 v381
  let v383 : BitVec 32 := Scalar.remsi v1 c16_i32
  let c0_i32_156 : BitVec 32 := 0#32
  let v384 : BitVec 1 := Scalar.cmpi .ne v383 c0_i32_156
  let v385 : BitVec 1 := Scalar.andi v382 v384
  let v371 : BitVec 32 := Scalar.divsi v1 c16_i32
  let c1_i32_157 : BitVec 32 := 1#32
  let v386 : BitVec 32 := Scalar.subi v371 c1_i32_157
  let v387 : BitVec 32 := Scalar.select v385 v386 v371
  let c16_i32_158 : BitVec 32 := 16#32
  let v388 : BitVec 32 := Scalar.muli v387 c16_i32_158
  let c0_i32_167 : BitVec 32 := 0#32
  let c1_i32_170 : BitVec 32 := 1#32
  let arg10 : BitVec 32 := Scf.iv c0_i32_167 c1_i32_170 k1_t1
  let c256_i32_172 : BitVec 32 := 256#32
  let v416 : BitVec 32 := Scalar.muli arg10 c256_i32_172
  let v417 : BitVec 32 := Scalar.addi v388 v416
  let c1280_i32 : BitVec 32 := 1280#32
  let v418 : BitVec 32 := Scalar.minsi v417 c1280_i32
  v418
def k1_off4 (v1 : BitVec 32) (v4 : BitVec 32) (k1_t1 : Fin (k1_t1_loop v1 v4).trips) : Fin 2 → Nat :=
  let c0_i32_152 : BitVec 32 := 0#32
  let v372 : BitVec 1 := Scalar.cmpi .sgt v1 c0_i32_152
  let v373 : BitVec 32 := Scalar.extui v372
  let c0_i32_153 : BitVec 32 := 0#32
  let v374 : BitVec 1 := Scalar.cmpi .slt v1 c0_i32_153
  let v375 : BitVec 32 := Scalar.extui v374
  let v376 : BitVec 32 := Scalar.subi v373 v375
  let c16_i32 : BitVec 32 := 16#32
  let c0_i32_154 : BitVec 32 := 0#32
  let v377 : BitVec 1 := Scalar.cmpi .sgt c16_i32 c0_i32_154
  let v378 : BitVec 32 := Scalar.extui v377
  let c0_i32_155 : BitVec 32 := 0#32
  let v379 : BitVec 1 := Scalar.cmpi .slt c16_i32 c0_i32_155
  let v380 : BitVec 32 := Scalar.extui v379
  let v381 : BitVec 32 := Scalar.subi v378 v380
  let v382 : BitVec 1 := Scalar.cmpi .ne v376 v381
  let v383 : BitVec 32 := Scalar.remsi v1 c16_i32
  let c0_i32_156 : BitVec 32 := 0#32
  let v384 : BitVec 1 := Scalar.cmpi .ne v383 c0_i32_156
  let v385 : BitVec 1 := Scalar.andi v382 v384
  let v371 : BitVec 32 := Scalar.divsi v1 c16_i32
  let c1_i32_157 : BitVec 32 := 1#32
  let v386 : BitVec 32 := Scalar.subi v371 c1_i32_157
  let v387 : BitVec 32 := Scalar.select v385 v386 v371
  let c16_i32_158 : BitVec 32 := 16#32
  let v388 : BitVec 32 := Scalar.muli v387 c16_i32_158
  let c0_i32_167 : BitVec 32 := 0#32
  let c1_i32_170 : BitVec 32 := 1#32
  let arg10 : BitVec 32 := Scf.iv c0_i32_167 c1_i32_170 k1_t1
  let c256_i32_172 : BitVec 32 := 256#32
  let v416 : BitVec 32 := Scalar.muli arg10 c256_i32_172
  let v417 : BitVec 32 := Scalar.addi v388 v416
  let c1280_i32 : BitVec 32 := 1280#32
  let v418 : BitVec 32 := Scalar.minsi v417 c1280_i32
  let v419 : BitVec 32 := v418
  let v420 : Index := Scalar.indexCast v419
  let c0_173 : Index := 0#32
  ![v420.toNat, 0]
def k1_off5 (v1 : BitVec 32) (v4 : BitVec 32) (k1_t1 : Fin (k1_t1_loop v1 v4).trips) : Fin 2 → Nat :=
  let c0_i32_152 : BitVec 32 := 0#32
  let v372 : BitVec 1 := Scalar.cmpi .sgt v1 c0_i32_152
  let v373 : BitVec 32 := Scalar.extui v372
  let c0_i32_153 : BitVec 32 := 0#32
  let v374 : BitVec 1 := Scalar.cmpi .slt v1 c0_i32_153
  let v375 : BitVec 32 := Scalar.extui v374
  let v376 : BitVec 32 := Scalar.subi v373 v375
  let c16_i32 : BitVec 32 := 16#32
  let c0_i32_154 : BitVec 32 := 0#32
  let v377 : BitVec 1 := Scalar.cmpi .sgt c16_i32 c0_i32_154
  let v378 : BitVec 32 := Scalar.extui v377
  let c0_i32_155 : BitVec 32 := 0#32
  let v379 : BitVec 1 := Scalar.cmpi .slt c16_i32 c0_i32_155
  let v380 : BitVec 32 := Scalar.extui v379
  let v381 : BitVec 32 := Scalar.subi v378 v380
  let v382 : BitVec 1 := Scalar.cmpi .ne v376 v381
  let v383 : BitVec 32 := Scalar.remsi v1 c16_i32
  let c0_i32_156 : BitVec 32 := 0#32
  let v384 : BitVec 1 := Scalar.cmpi .ne v383 c0_i32_156
  let v385 : BitVec 1 := Scalar.andi v382 v384
  let v371 : BitVec 32 := Scalar.divsi v1 c16_i32
  let c1_i32_157 : BitVec 32 := 1#32
  let v386 : BitVec 32 := Scalar.subi v371 c1_i32_157
  let v387 : BitVec 32 := Scalar.select v385 v386 v371
  let c16_i32_158 : BitVec 32 := 16#32
  let v388 : BitVec 32 := Scalar.muli v387 c16_i32_158
  let c0_i32_167 : BitVec 32 := 0#32
  let c1_i32_170 : BitVec 32 := 1#32
  let arg10 : BitVec 32 := Scf.iv c0_i32_167 c1_i32_170 k1_t1
  let c256_i32_172 : BitVec 32 := 256#32
  let v416 : BitVec 32 := Scalar.muli arg10 c256_i32_172
  let v417 : BitVec 32 := Scalar.addi v388 v416
  let c1280_i32 : BitVec 32 := 1280#32
  let v418 : BitVec 32 := Scalar.minsi v417 c1280_i32
  let v419 : BitVec 32 := v418
  let v425 : Index := Scalar.indexCast v419
  let c0_177 : Index := 0#32
  ![v425.toNat, 0]
def k1_off6 (v1 : BitVec 32) (v4 : BitVec 32) (k1_t1 : Fin (k1_t1_loop v1 v4).trips) : Fin 2 → Nat :=
  let c0_i32_152 : BitVec 32 := 0#32
  let v372 : BitVec 1 := Scalar.cmpi .sgt v1 c0_i32_152
  let v373 : BitVec 32 := Scalar.extui v372
  let c0_i32_153 : BitVec 32 := 0#32
  let v374 : BitVec 1 := Scalar.cmpi .slt v1 c0_i32_153
  let v375 : BitVec 32 := Scalar.extui v374
  let v376 : BitVec 32 := Scalar.subi v373 v375
  let c16_i32 : BitVec 32 := 16#32
  let c0_i32_154 : BitVec 32 := 0#32
  let v377 : BitVec 1 := Scalar.cmpi .sgt c16_i32 c0_i32_154
  let v378 : BitVec 32 := Scalar.extui v377
  let c0_i32_155 : BitVec 32 := 0#32
  let v379 : BitVec 1 := Scalar.cmpi .slt c16_i32 c0_i32_155
  let v380 : BitVec 32 := Scalar.extui v379
  let v381 : BitVec 32 := Scalar.subi v378 v380
  let v382 : BitVec 1 := Scalar.cmpi .ne v376 v381
  let v383 : BitVec 32 := Scalar.remsi v1 c16_i32
  let c0_i32_156 : BitVec 32 := 0#32
  let v384 : BitVec 1 := Scalar.cmpi .ne v383 c0_i32_156
  let v385 : BitVec 1 := Scalar.andi v382 v384
  let v371 : BitVec 32 := Scalar.divsi v1 c16_i32
  let c1_i32_157 : BitVec 32 := 1#32
  let v386 : BitVec 32 := Scalar.subi v371 c1_i32_157
  let v387 : BitVec 32 := Scalar.select v385 v386 v371
  let c16_i32_158 : BitVec 32 := 16#32
  let v388 : BitVec 32 := Scalar.muli v387 c16_i32_158
  let c0_i32_167 : BitVec 32 := 0#32
  let c1_i32_170 : BitVec 32 := 1#32
  let arg10 : BitVec 32 := Scf.iv c0_i32_167 c1_i32_170 k1_t1
  let c256_i32_172 : BitVec 32 := 256#32
  let v416 : BitVec 32 := Scalar.muli arg10 c256_i32_172
  let v417 : BitVec 32 := Scalar.addi v388 v416
  let c1280_i32 : BitVec 32 := 1280#32
  let v418 : BitVec 32 := Scalar.minsi v417 c1280_i32
  let v419 : BitVec 32 := v418
  let v433 : Index := Scalar.indexCast v419
  let c0_178 : Index := 0#32
  ![v433.toNat, 0]
@[reducible] def k1_t2_loop (v1 : BitVec 32) (v4 : BitVec 32) : Scf.Loop 32 :=
  let c0_i32_167 : BitVec 32 := 0#32
  let c0_i32_152 : BitVec 32 := 0#32
  let v372 : BitVec 1 := Scalar.cmpi .sgt v1 c0_i32_152
  let v373 : BitVec 32 := Scalar.extui v372
  let c0_i32_153 : BitVec 32 := 0#32
  let v374 : BitVec 1 := Scalar.cmpi .slt v1 c0_i32_153
  let v375 : BitVec 32 := Scalar.extui v374
  let v376 : BitVec 32 := Scalar.subi v373 v375
  let c16_i32 : BitVec 32 := 16#32
  let c0_i32_154 : BitVec 32 := 0#32
  let v377 : BitVec 1 := Scalar.cmpi .sgt c16_i32 c0_i32_154
  let v378 : BitVec 32 := Scalar.extui v377
  let c0_i32_155 : BitVec 32 := 0#32
  let v379 : BitVec 1 := Scalar.cmpi .slt c16_i32 c0_i32_155
  let v380 : BitVec 32 := Scalar.extui v379
  let v381 : BitVec 32 := Scalar.subi v378 v380
  let v382 : BitVec 1 := Scalar.cmpi .ne v376 v381
  let v383 : BitVec 32 := Scalar.remsi v1 c16_i32
  let c0_i32_156 : BitVec 32 := 0#32
  let v384 : BitVec 1 := Scalar.cmpi .ne v383 c0_i32_156
  let v385 : BitVec 1 := Scalar.andi v382 v384
  let v371 : BitVec 32 := Scalar.divsi v1 c16_i32
  let c1_i32_157 : BitVec 32 := 1#32
  let v386 : BitVec 32 := Scalar.subi v371 c1_i32_157
  let v387 : BitVec 32 := Scalar.select v385 v386 v371
  let c16_i32_158 : BitVec 32 := 16#32
  let v388 : BitVec 32 := Scalar.muli v387 c16_i32_158
  let v389 : BitVec 32 := Scalar.subi v4 v388
  let c256_i32 : BitVec 32 := 256#32
  let v390 : BitVec 32 := Scalar.addi v389 c256_i32
  let c1_i32_159 : BitVec 32 := 1#32
  let v391 : BitVec 32 := Scalar.subi v390 c1_i32_159
  let c0_i32_161 : BitVec 32 := 0#32
  let v393 : BitVec 1 := Scalar.cmpi .sgt v391 c0_i32_161
  let v394 : BitVec 32 := Scalar.extui v393
  let c0_i32_162 : BitVec 32 := 0#32
  let v395 : BitVec 1 := Scalar.cmpi .slt v391 c0_i32_162
  let v396 : BitVec 32 := Scalar.extui v395
  let v397 : BitVec 32 := Scalar.subi v394 v396
  let c256_i32_160 : BitVec 32 := 256#32
  let c0_i32_163 : BitVec 32 := 0#32
  let v398 : BitVec 1 := Scalar.cmpi .sgt c256_i32_160 c0_i32_163
  let v399 : BitVec 32 := Scalar.extui v398
  let c0_i32_164 : BitVec 32 := 0#32
  let v400 : BitVec 1 := Scalar.cmpi .slt c256_i32_160 c0_i32_164
  let v401 : BitVec 32 := Scalar.extui v400
  let v402 : BitVec 32 := Scalar.subi v399 v401
  let v403 : BitVec 1 := Scalar.cmpi .ne v397 v402
  let v404 : BitVec 32 := Scalar.remsi v391 c256_i32_160
  let c0_i32_165 : BitVec 32 := 0#32
  let v405 : BitVec 1 := Scalar.cmpi .ne v404 c0_i32_165
  let v406 : BitVec 1 := Scalar.andi v403 v405
  let v392 : BitVec 32 := Scalar.divsi v391 c256_i32_160
  let c1_i32_166 : BitVec 32 := 1#32
  let v407 : BitVec 32 := Scalar.subi v392 c1_i32_166
  let v408 : BitVec 32 := Scalar.select v406 v407 v392
  let v409 : BitVec 32 := Scalar.subi v408 c0_i32_167
  let c1_i32_169 : BitVec 32 := 1#32
  let v411 : BitVec 32 := Scalar.divsi v409 c1_i32_169
  let v412 : BitVec 32 := Scalar.muli v411 c1_i32_169
  let v413 : BitVec 32 := Scalar.addi c0_i32_167 v412
  let v410 : BitVec 32 := Scalar.addi c0_i32_167 v409
  let c1_i32_171 : BitVec 32 := 1#32
  ⟨v413, v410, c1_i32_171⟩
def k1_mult2 (v1 : BitVec 32) (v4 : BitVec 32) (k1_t2 : Fin (k1_t2_loop v1 v4).trips) : BitVec 32 :=
  let c0_i32_152 : BitVec 32 := 0#32
  let v372 : BitVec 1 := Scalar.cmpi .sgt v1 c0_i32_152
  let v373 : BitVec 32 := Scalar.extui v372
  let c0_i32_153 : BitVec 32 := 0#32
  let v374 : BitVec 1 := Scalar.cmpi .slt v1 c0_i32_153
  let v375 : BitVec 32 := Scalar.extui v374
  let v376 : BitVec 32 := Scalar.subi v373 v375
  let c16_i32 : BitVec 32 := 16#32
  let c0_i32_154 : BitVec 32 := 0#32
  let v377 : BitVec 1 := Scalar.cmpi .sgt c16_i32 c0_i32_154
  let v378 : BitVec 32 := Scalar.extui v377
  let c0_i32_155 : BitVec 32 := 0#32
  let v379 : BitVec 1 := Scalar.cmpi .slt c16_i32 c0_i32_155
  let v380 : BitVec 32 := Scalar.extui v379
  let v381 : BitVec 32 := Scalar.subi v378 v380
  let v382 : BitVec 1 := Scalar.cmpi .ne v376 v381
  let v383 : BitVec 32 := Scalar.remsi v1 c16_i32
  let c0_i32_156 : BitVec 32 := 0#32
  let v384 : BitVec 1 := Scalar.cmpi .ne v383 c0_i32_156
  let v385 : BitVec 1 := Scalar.andi v382 v384
  let v371 : BitVec 32 := Scalar.divsi v1 c16_i32
  let c1_i32_157 : BitVec 32 := 1#32
  let v386 : BitVec 32 := Scalar.subi v371 c1_i32_157
  let v387 : BitVec 32 := Scalar.select v385 v386 v371
  let c16_i32_158 : BitVec 32 := 16#32
  let v388 : BitVec 32 := Scalar.muli v387 c16_i32_158
  let c0_i32_167 : BitVec 32 := 0#32
  let v389 : BitVec 32 := Scalar.subi v4 v388
  let c256_i32 : BitVec 32 := 256#32
  let v390 : BitVec 32 := Scalar.addi v389 c256_i32
  let c1_i32_159 : BitVec 32 := 1#32
  let v391 : BitVec 32 := Scalar.subi v390 c1_i32_159
  let c0_i32_161 : BitVec 32 := 0#32
  let v393 : BitVec 1 := Scalar.cmpi .sgt v391 c0_i32_161
  let v394 : BitVec 32 := Scalar.extui v393
  let c0_i32_162 : BitVec 32 := 0#32
  let v395 : BitVec 1 := Scalar.cmpi .slt v391 c0_i32_162
  let v396 : BitVec 32 := Scalar.extui v395
  let v397 : BitVec 32 := Scalar.subi v394 v396
  let c256_i32_160 : BitVec 32 := 256#32
  let c0_i32_163 : BitVec 32 := 0#32
  let v398 : BitVec 1 := Scalar.cmpi .sgt c256_i32_160 c0_i32_163
  let v399 : BitVec 32 := Scalar.extui v398
  let c0_i32_164 : BitVec 32 := 0#32
  let v400 : BitVec 1 := Scalar.cmpi .slt c256_i32_160 c0_i32_164
  let v401 : BitVec 32 := Scalar.extui v400
  let v402 : BitVec 32 := Scalar.subi v399 v401
  let v403 : BitVec 1 := Scalar.cmpi .ne v397 v402
  let v404 : BitVec 32 := Scalar.remsi v391 c256_i32_160
  let c0_i32_165 : BitVec 32 := 0#32
  let v405 : BitVec 1 := Scalar.cmpi .ne v404 c0_i32_165
  let v406 : BitVec 1 := Scalar.andi v403 v405
  let v392 : BitVec 32 := Scalar.divsi v391 c256_i32_160
  let c1_i32_166 : BitVec 32 := 1#32
  let v407 : BitVec 32 := Scalar.subi v392 c1_i32_166
  let v408 : BitVec 32 := Scalar.select v406 v407 v392
  let v409 : BitVec 32 := Scalar.subi v408 c0_i32_167
  let c1_i32_169 : BitVec 32 := 1#32
  let v411 : BitVec 32 := Scalar.divsi v409 c1_i32_169
  let v412 : BitVec 32 := Scalar.muli v411 c1_i32_169
  let v413 : BitVec 32 := Scalar.addi c0_i32_167 v412
  let c1_i32_171 : BitVec 32 := 1#32
  let arg10 : BitVec 32 := Scf.iv v413 c1_i32_171 k1_t2
  let c256_i32_172 : BitVec 32 := 256#32
  let v416 : BitVec 32 := Scalar.muli arg10 c256_i32_172
  let v417 : BitVec 32 := Scalar.addi v388 v416
  let c1280_i32 : BitVec 32 := 1280#32
  let v418 : BitVec 32 := Scalar.minsi v417 c1280_i32
  v418
def k1_off7 (v1 : BitVec 32) (v4 : BitVec 32) (k1_t2 : Fin (k1_t2_loop v1 v4).trips) : Fin 2 → Nat :=
  let c0_i32_152 : BitVec 32 := 0#32
  let v372 : BitVec 1 := Scalar.cmpi .sgt v1 c0_i32_152
  let v373 : BitVec 32 := Scalar.extui v372
  let c0_i32_153 : BitVec 32 := 0#32
  let v374 : BitVec 1 := Scalar.cmpi .slt v1 c0_i32_153
  let v375 : BitVec 32 := Scalar.extui v374
  let v376 : BitVec 32 := Scalar.subi v373 v375
  let c16_i32 : BitVec 32 := 16#32
  let c0_i32_154 : BitVec 32 := 0#32
  let v377 : BitVec 1 := Scalar.cmpi .sgt c16_i32 c0_i32_154
  let v378 : BitVec 32 := Scalar.extui v377
  let c0_i32_155 : BitVec 32 := 0#32
  let v379 : BitVec 1 := Scalar.cmpi .slt c16_i32 c0_i32_155
  let v380 : BitVec 32 := Scalar.extui v379
  let v381 : BitVec 32 := Scalar.subi v378 v380
  let v382 : BitVec 1 := Scalar.cmpi .ne v376 v381
  let v383 : BitVec 32 := Scalar.remsi v1 c16_i32
  let c0_i32_156 : BitVec 32 := 0#32
  let v384 : BitVec 1 := Scalar.cmpi .ne v383 c0_i32_156
  let v385 : BitVec 1 := Scalar.andi v382 v384
  let v371 : BitVec 32 := Scalar.divsi v1 c16_i32
  let c1_i32_157 : BitVec 32 := 1#32
  let v386 : BitVec 32 := Scalar.subi v371 c1_i32_157
  let v387 : BitVec 32 := Scalar.select v385 v386 v371
  let c16_i32_158 : BitVec 32 := 16#32
  let v388 : BitVec 32 := Scalar.muli v387 c16_i32_158
  let c0_i32_167 : BitVec 32 := 0#32
  let v389 : BitVec 32 := Scalar.subi v4 v388
  let c256_i32 : BitVec 32 := 256#32
  let v390 : BitVec 32 := Scalar.addi v389 c256_i32
  let c1_i32_159 : BitVec 32 := 1#32
  let v391 : BitVec 32 := Scalar.subi v390 c1_i32_159
  let c0_i32_161 : BitVec 32 := 0#32
  let v393 : BitVec 1 := Scalar.cmpi .sgt v391 c0_i32_161
  let v394 : BitVec 32 := Scalar.extui v393
  let c0_i32_162 : BitVec 32 := 0#32
  let v395 : BitVec 1 := Scalar.cmpi .slt v391 c0_i32_162
  let v396 : BitVec 32 := Scalar.extui v395
  let v397 : BitVec 32 := Scalar.subi v394 v396
  let c256_i32_160 : BitVec 32 := 256#32
  let c0_i32_163 : BitVec 32 := 0#32
  let v398 : BitVec 1 := Scalar.cmpi .sgt c256_i32_160 c0_i32_163
  let v399 : BitVec 32 := Scalar.extui v398
  let c0_i32_164 : BitVec 32 := 0#32
  let v400 : BitVec 1 := Scalar.cmpi .slt c256_i32_160 c0_i32_164
  let v401 : BitVec 32 := Scalar.extui v400
  let v402 : BitVec 32 := Scalar.subi v399 v401
  let v403 : BitVec 1 := Scalar.cmpi .ne v397 v402
  let v404 : BitVec 32 := Scalar.remsi v391 c256_i32_160
  let c0_i32_165 : BitVec 32 := 0#32
  let v405 : BitVec 1 := Scalar.cmpi .ne v404 c0_i32_165
  let v406 : BitVec 1 := Scalar.andi v403 v405
  let v392 : BitVec 32 := Scalar.divsi v391 c256_i32_160
  let c1_i32_166 : BitVec 32 := 1#32
  let v407 : BitVec 32 := Scalar.subi v392 c1_i32_166
  let v408 : BitVec 32 := Scalar.select v406 v407 v392
  let v409 : BitVec 32 := Scalar.subi v408 c0_i32_167
  let c1_i32_169 : BitVec 32 := 1#32
  let v411 : BitVec 32 := Scalar.divsi v409 c1_i32_169
  let v412 : BitVec 32 := Scalar.muli v411 c1_i32_169
  let v413 : BitVec 32 := Scalar.addi c0_i32_167 v412
  let c1_i32_171 : BitVec 32 := 1#32
  let arg10 : BitVec 32 := Scf.iv v413 c1_i32_171 k1_t2
  let c256_i32_172 : BitVec 32 := 256#32
  let v416 : BitVec 32 := Scalar.muli arg10 c256_i32_172
  let v417 : BitVec 32 := Scalar.addi v388 v416
  let c1280_i32 : BitVec 32 := 1280#32
  let v418 : BitVec 32 := Scalar.minsi v417 c1280_i32
  let v419 : BitVec 32 := v418
  let v420 : Index := Scalar.indexCast v419
  let c0_173 : Index := 0#32
  ![v420.toNat, 0]
def k1_off8 (v1 : BitVec 32) (v4 : BitVec 32) (k1_t2 : Fin (k1_t2_loop v1 v4).trips) : Fin 2 → Nat :=
  let c0_i32_152 : BitVec 32 := 0#32
  let v372 : BitVec 1 := Scalar.cmpi .sgt v1 c0_i32_152
  let v373 : BitVec 32 := Scalar.extui v372
  let c0_i32_153 : BitVec 32 := 0#32
  let v374 : BitVec 1 := Scalar.cmpi .slt v1 c0_i32_153
  let v375 : BitVec 32 := Scalar.extui v374
  let v376 : BitVec 32 := Scalar.subi v373 v375
  let c16_i32 : BitVec 32 := 16#32
  let c0_i32_154 : BitVec 32 := 0#32
  let v377 : BitVec 1 := Scalar.cmpi .sgt c16_i32 c0_i32_154
  let v378 : BitVec 32 := Scalar.extui v377
  let c0_i32_155 : BitVec 32 := 0#32
  let v379 : BitVec 1 := Scalar.cmpi .slt c16_i32 c0_i32_155
  let v380 : BitVec 32 := Scalar.extui v379
  let v381 : BitVec 32 := Scalar.subi v378 v380
  let v382 : BitVec 1 := Scalar.cmpi .ne v376 v381
  let v383 : BitVec 32 := Scalar.remsi v1 c16_i32
  let c0_i32_156 : BitVec 32 := 0#32
  let v384 : BitVec 1 := Scalar.cmpi .ne v383 c0_i32_156
  let v385 : BitVec 1 := Scalar.andi v382 v384
  let v371 : BitVec 32 := Scalar.divsi v1 c16_i32
  let c1_i32_157 : BitVec 32 := 1#32
  let v386 : BitVec 32 := Scalar.subi v371 c1_i32_157
  let v387 : BitVec 32 := Scalar.select v385 v386 v371
  let c16_i32_158 : BitVec 32 := 16#32
  let v388 : BitVec 32 := Scalar.muli v387 c16_i32_158
  let c0_i32_167 : BitVec 32 := 0#32
  let v389 : BitVec 32 := Scalar.subi v4 v388
  let c256_i32 : BitVec 32 := 256#32
  let v390 : BitVec 32 := Scalar.addi v389 c256_i32
  let c1_i32_159 : BitVec 32 := 1#32
  let v391 : BitVec 32 := Scalar.subi v390 c1_i32_159
  let c0_i32_161 : BitVec 32 := 0#32
  let v393 : BitVec 1 := Scalar.cmpi .sgt v391 c0_i32_161
  let v394 : BitVec 32 := Scalar.extui v393
  let c0_i32_162 : BitVec 32 := 0#32
  let v395 : BitVec 1 := Scalar.cmpi .slt v391 c0_i32_162
  let v396 : BitVec 32 := Scalar.extui v395
  let v397 : BitVec 32 := Scalar.subi v394 v396
  let c256_i32_160 : BitVec 32 := 256#32
  let c0_i32_163 : BitVec 32 := 0#32
  let v398 : BitVec 1 := Scalar.cmpi .sgt c256_i32_160 c0_i32_163
  let v399 : BitVec 32 := Scalar.extui v398
  let c0_i32_164 : BitVec 32 := 0#32
  let v400 : BitVec 1 := Scalar.cmpi .slt c256_i32_160 c0_i32_164
  let v401 : BitVec 32 := Scalar.extui v400
  let v402 : BitVec 32 := Scalar.subi v399 v401
  let v403 : BitVec 1 := Scalar.cmpi .ne v397 v402
  let v404 : BitVec 32 := Scalar.remsi v391 c256_i32_160
  let c0_i32_165 : BitVec 32 := 0#32
  let v405 : BitVec 1 := Scalar.cmpi .ne v404 c0_i32_165
  let v406 : BitVec 1 := Scalar.andi v403 v405
  let v392 : BitVec 32 := Scalar.divsi v391 c256_i32_160
  let c1_i32_166 : BitVec 32 := 1#32
  let v407 : BitVec 32 := Scalar.subi v392 c1_i32_166
  let v408 : BitVec 32 := Scalar.select v406 v407 v392
  let v409 : BitVec 32 := Scalar.subi v408 c0_i32_167
  let c1_i32_169 : BitVec 32 := 1#32
  let v411 : BitVec 32 := Scalar.divsi v409 c1_i32_169
  let v412 : BitVec 32 := Scalar.muli v411 c1_i32_169
  let v413 : BitVec 32 := Scalar.addi c0_i32_167 v412
  let c1_i32_171 : BitVec 32 := 1#32
  let arg10 : BitVec 32 := Scf.iv v413 c1_i32_171 k1_t2
  let c256_i32_172 : BitVec 32 := 256#32
  let v416 : BitVec 32 := Scalar.muli arg10 c256_i32_172
  let v417 : BitVec 32 := Scalar.addi v388 v416
  let c1280_i32 : BitVec 32 := 1280#32
  let v418 : BitVec 32 := Scalar.minsi v417 c1280_i32
  let v419 : BitVec 32 := v418
  let v425 : Index := Scalar.indexCast v419
  let c0_177 : Index := 0#32
  ![v425.toNat, 0]
def k1_off9 (v1 : BitVec 32) (v4 : BitVec 32) (k1_t2 : Fin (k1_t2_loop v1 v4).trips) : Fin 2 → Nat :=
  let c0_i32_152 : BitVec 32 := 0#32
  let v372 : BitVec 1 := Scalar.cmpi .sgt v1 c0_i32_152
  let v373 : BitVec 32 := Scalar.extui v372
  let c0_i32_153 : BitVec 32 := 0#32
  let v374 : BitVec 1 := Scalar.cmpi .slt v1 c0_i32_153
  let v375 : BitVec 32 := Scalar.extui v374
  let v376 : BitVec 32 := Scalar.subi v373 v375
  let c16_i32 : BitVec 32 := 16#32
  let c0_i32_154 : BitVec 32 := 0#32
  let v377 : BitVec 1 := Scalar.cmpi .sgt c16_i32 c0_i32_154
  let v378 : BitVec 32 := Scalar.extui v377
  let c0_i32_155 : BitVec 32 := 0#32
  let v379 : BitVec 1 := Scalar.cmpi .slt c16_i32 c0_i32_155
  let v380 : BitVec 32 := Scalar.extui v379
  let v381 : BitVec 32 := Scalar.subi v378 v380
  let v382 : BitVec 1 := Scalar.cmpi .ne v376 v381
  let v383 : BitVec 32 := Scalar.remsi v1 c16_i32
  let c0_i32_156 : BitVec 32 := 0#32
  let v384 : BitVec 1 := Scalar.cmpi .ne v383 c0_i32_156
  let v385 : BitVec 1 := Scalar.andi v382 v384
  let v371 : BitVec 32 := Scalar.divsi v1 c16_i32
  let c1_i32_157 : BitVec 32 := 1#32
  let v386 : BitVec 32 := Scalar.subi v371 c1_i32_157
  let v387 : BitVec 32 := Scalar.select v385 v386 v371
  let c16_i32_158 : BitVec 32 := 16#32
  let v388 : BitVec 32 := Scalar.muli v387 c16_i32_158
  let c0_i32_167 : BitVec 32 := 0#32
  let v389 : BitVec 32 := Scalar.subi v4 v388
  let c256_i32 : BitVec 32 := 256#32
  let v390 : BitVec 32 := Scalar.addi v389 c256_i32
  let c1_i32_159 : BitVec 32 := 1#32
  let v391 : BitVec 32 := Scalar.subi v390 c1_i32_159
  let c0_i32_161 : BitVec 32 := 0#32
  let v393 : BitVec 1 := Scalar.cmpi .sgt v391 c0_i32_161
  let v394 : BitVec 32 := Scalar.extui v393
  let c0_i32_162 : BitVec 32 := 0#32
  let v395 : BitVec 1 := Scalar.cmpi .slt v391 c0_i32_162
  let v396 : BitVec 32 := Scalar.extui v395
  let v397 : BitVec 32 := Scalar.subi v394 v396
  let c256_i32_160 : BitVec 32 := 256#32
  let c0_i32_163 : BitVec 32 := 0#32
  let v398 : BitVec 1 := Scalar.cmpi .sgt c256_i32_160 c0_i32_163
  let v399 : BitVec 32 := Scalar.extui v398
  let c0_i32_164 : BitVec 32 := 0#32
  let v400 : BitVec 1 := Scalar.cmpi .slt c256_i32_160 c0_i32_164
  let v401 : BitVec 32 := Scalar.extui v400
  let v402 : BitVec 32 := Scalar.subi v399 v401
  let v403 : BitVec 1 := Scalar.cmpi .ne v397 v402
  let v404 : BitVec 32 := Scalar.remsi v391 c256_i32_160
  let c0_i32_165 : BitVec 32 := 0#32
  let v405 : BitVec 1 := Scalar.cmpi .ne v404 c0_i32_165
  let v406 : BitVec 1 := Scalar.andi v403 v405
  let v392 : BitVec 32 := Scalar.divsi v391 c256_i32_160
  let c1_i32_166 : BitVec 32 := 1#32
  let v407 : BitVec 32 := Scalar.subi v392 c1_i32_166
  let v408 : BitVec 32 := Scalar.select v406 v407 v392
  let v409 : BitVec 32 := Scalar.subi v408 c0_i32_167
  let c1_i32_169 : BitVec 32 := 1#32
  let v411 : BitVec 32 := Scalar.divsi v409 c1_i32_169
  let v412 : BitVec 32 := Scalar.muli v411 c1_i32_169
  let v413 : BitVec 32 := Scalar.addi c0_i32_167 v412
  let c1_i32_171 : BitVec 32 := 1#32
  let arg10 : BitVec 32 := Scf.iv v413 c1_i32_171 k1_t2
  let c256_i32_172 : BitVec 32 := 256#32
  let v416 : BitVec 32 := Scalar.muli arg10 c256_i32_172
  let v417 : BitVec 32 := Scalar.addi v388 v416
  let c1280_i32 : BitVec 32 := 1280#32
  let v418 : BitVec 32 := Scalar.minsi v417 c1280_i32
  let v419 : BitVec 32 := v418
  let v433 : Index := Scalar.indexCast v419
  let c0_178 : Index := 0#32
  ![v433.toNat, 0]

def k1_chk1 (v1 : BitVec 32) (v4 : BitVec 32) : Prop :=
  (∀ (k1_h1 : k1_cond1 v1 v4 = 1#1), (k1_t1_loop v1 v4).OK) ∧
  (∀ k1_t1 : Fin (k1_t1_loop v1 v4).trips, ∀ (k1_h1 : k1_cond1 v1 v4 = 1#1), 16 ∣ (k1_mult1 v1 v4 k1_t1).toNat) ∧
  (∀ k1_t1 : Fin (k1_t1_loop v1 v4).trips, ∀ (k1_h1 : k1_cond1 v1 v4 = 1#1), ∀ a, (k1_off4 v1 v4 k1_t1) a + S256x2816.size a ≤ S1536x2816.size a) ∧
  (∀ k1_t1 : Fin (k1_t1_loop v1 v4).trips, ∀ (k1_h1 : k1_cond1 v1 v4 = 1#1), ∀ a, (k1_off5 v1 v4 k1_t1) a + S256x1.size a ≤ S1536x128.size a) ∧
  (∀ k1_t1 : Fin (k1_t1_loop v1 v4).trips, ∀ (k1_h1 : k1_cond1 v1 v4 = 1#1), ∀ a, (k1_off6 v1 v4 k1_t1) a + S256x512.size a ≤ S1536x512.size a) ∧
  (∀ k1_t1 : Fin (k1_t1_loop v1 v4).trips, ∀ (k1_h1 : k1_cond1 v1 v4 = 1#1), ∀ (hinb : ∀ a, (k1_off6 v1 v4 k1_t1) a + S256x512.size a ≤ S1536x512.size a), (Rect.unit (s := S1536x512) (k1_off6 v1 v4 k1_t1) S256x512.size hinb).PackedRows (EltTy.packing .bf16)) ∧
  (∀ (k1_h1 : k1_cond1 v1 v4 = 1#1), (k1_t2_loop v1 v4).OK) ∧
  (∀ k1_t2 : Fin (k1_t2_loop v1 v4).trips, ∀ (k1_h1 : k1_cond1 v1 v4 = 1#1), 16 ∣ (k1_mult2 v1 v4 k1_t2).toNat) ∧
  (∀ k1_t2 : Fin (k1_t2_loop v1 v4).trips, ∀ (k1_h1 : k1_cond1 v1 v4 = 1#1), ∀ a, (k1_off7 v1 v4 k1_t2) a + S256x2816.size a ≤ S1536x2816.size a) ∧
  (∀ k1_t2 : Fin (k1_t2_loop v1 v4).trips, ∀ (k1_h1 : k1_cond1 v1 v4 = 1#1), ∀ a, (k1_off8 v1 v4 k1_t2) a + S256x1.size a ≤ S1536x128.size a) ∧
  (∀ k1_t2 : Fin (k1_t2_loop v1 v4).trips, ∀ (k1_h1 : k1_cond1 v1 v4 = 1#1), ∀ a, (k1_off9 v1 v4 k1_t2) a + S256x512.size a ≤ S1536x512.size a) ∧
  (∀ k1_t2 : Fin (k1_t2_loop v1 v4).trips, ∀ (k1_h1 : k1_cond1 v1 v4 = 1#1), ∀ (hinb : ∀ a, (k1_off9 v1 v4 k1_t2) a + S256x512.size a ≤ S1536x512.size a), (Rect.unit (s := S1536x512) (k1_off9 v1 v4 k1_t2) S256x512.size hinb).PackedRows (EltTy.packing .bf16))
theorem k1_t1_ok : ∀ (v1 : BitVec 32) (v4 : BitVec 32) (k1_hw1 : k1_chk1 v1 v4), ∀ (k1_h1 : k1_cond1 v1 v4 = 1#1), (k1_t1_loop v1 v4).OK := fun v1 v4 k1_hw1 k1_h1 => k1_hw1.1 k1_h1
theorem k1_mult1_dvd : ∀ (v1 : BitVec 32) (v4 : BitVec 32) (k1_hw1 : k1_chk1 v1 v4) (k1_t1 : Fin (k1_t1_loop v1 v4).trips), ∀ (k1_h1 : k1_cond1 v1 v4 = 1#1), 16 ∣ (k1_mult1 v1 v4 k1_t1).toNat := fun v1 v4 k1_hw1 k1_t1 k1_h1 => k1_hw1.2.1 k1_t1 k1_h1
theorem k1_off4_inb : ∀ (v1 : BitVec 32) (v4 : BitVec 32) (k1_hw1 : k1_chk1 v1 v4) (k1_t1 : Fin (k1_t1_loop v1 v4).trips), ∀ (k1_h1 : k1_cond1 v1 v4 = 1#1), ∀ a, (k1_off4 v1 v4 k1_t1) a + S256x2816.size a ≤ S1536x2816.size a := fun v1 v4 k1_hw1 k1_t1 k1_h1 => k1_hw1.2.2.1 k1_t1 k1_h1
theorem k1_off5_inb : ∀ (v1 : BitVec 32) (v4 : BitVec 32) (k1_hw1 : k1_chk1 v1 v4) (k1_t1 : Fin (k1_t1_loop v1 v4).trips), ∀ (k1_h1 : k1_cond1 v1 v4 = 1#1), ∀ a, (k1_off5 v1 v4 k1_t1) a + S256x1.size a ≤ S1536x128.size a := fun v1 v4 k1_hw1 k1_t1 k1_h1 => k1_hw1.2.2.2.1 k1_t1 k1_h1
theorem k1_off6_inb : ∀ (v1 : BitVec 32) (v4 : BitVec 32) (k1_hw1 : k1_chk1 v1 v4) (k1_t1 : Fin (k1_t1_loop v1 v4).trips), ∀ (k1_h1 : k1_cond1 v1 v4 = 1#1), ∀ a, (k1_off6 v1 v4 k1_t1) a + S256x512.size a ≤ S1536x512.size a := fun v1 v4 k1_hw1 k1_t1 k1_h1 => k1_hw1.2.2.2.2.1 k1_t1 k1_h1
theorem k1_off6_packedbf16 : ∀ (v1 : BitVec 32) (v4 : BitVec 32) (k1_hw1 : k1_chk1 v1 v4) (k1_t1 : Fin (k1_t1_loop v1 v4).trips), ∀ (k1_h1 : k1_cond1 v1 v4 = 1#1), (Rect.unit (s := S1536x512) (k1_off6 v1 v4 k1_t1) S256x512.size (k1_off6_inb v1 v4 k1_hw1 k1_t1 k1_h1)).PackedRows (EltTy.packing .bf16) := fun v1 v4 k1_hw1 k1_t1 k1_h1 => k1_hw1.2.2.2.2.2.1 k1_t1 k1_h1 (k1_off6_inb v1 v4 k1_hw1 k1_t1 k1_h1)
theorem k1_t2_ok : ∀ (v1 : BitVec 32) (v4 : BitVec 32) (k1_hw1 : k1_chk1 v1 v4), ∀ (k1_h1 : k1_cond1 v1 v4 = 1#1), (k1_t2_loop v1 v4).OK := fun v1 v4 k1_hw1 k1_h1 => k1_hw1.2.2.2.2.2.2.1 k1_h1
theorem k1_mult2_dvd : ∀ (v1 : BitVec 32) (v4 : BitVec 32) (k1_hw1 : k1_chk1 v1 v4) (k1_t2 : Fin (k1_t2_loop v1 v4).trips), ∀ (k1_h1 : k1_cond1 v1 v4 = 1#1), 16 ∣ (k1_mult2 v1 v4 k1_t2).toNat := fun v1 v4 k1_hw1 k1_t2 k1_h1 => k1_hw1.2.2.2.2.2.2.2.1 k1_t2 k1_h1
theorem k1_off7_inb : ∀ (v1 : BitVec 32) (v4 : BitVec 32) (k1_hw1 : k1_chk1 v1 v4) (k1_t2 : Fin (k1_t2_loop v1 v4).trips), ∀ (k1_h1 : k1_cond1 v1 v4 = 1#1), ∀ a, (k1_off7 v1 v4 k1_t2) a + S256x2816.size a ≤ S1536x2816.size a := fun v1 v4 k1_hw1 k1_t2 k1_h1 => k1_hw1.2.2.2.2.2.2.2.2.1 k1_t2 k1_h1
theorem k1_off8_inb : ∀ (v1 : BitVec 32) (v4 : BitVec 32) (k1_hw1 : k1_chk1 v1 v4) (k1_t2 : Fin (k1_t2_loop v1 v4).trips), ∀ (k1_h1 : k1_cond1 v1 v4 = 1#1), ∀ a, (k1_off8 v1 v4 k1_t2) a + S256x1.size a ≤ S1536x128.size a := fun v1 v4 k1_hw1 k1_t2 k1_h1 => k1_hw1.2.2.2.2.2.2.2.2.2.1 k1_t2 k1_h1
theorem k1_off9_inb : ∀ (v1 : BitVec 32) (v4 : BitVec 32) (k1_hw1 : k1_chk1 v1 v4) (k1_t2 : Fin (k1_t2_loop v1 v4).trips), ∀ (k1_h1 : k1_cond1 v1 v4 = 1#1), ∀ a, (k1_off9 v1 v4 k1_t2) a + S256x512.size a ≤ S1536x512.size a := fun v1 v4 k1_hw1 k1_t2 k1_h1 => k1_hw1.2.2.2.2.2.2.2.2.2.2.1 k1_t2 k1_h1
theorem k1_off9_packedbf16 : ∀ (v1 : BitVec 32) (v4 : BitVec 32) (k1_hw1 : k1_chk1 v1 v4) (k1_t2 : Fin (k1_t2_loop v1 v4).trips), ∀ (k1_h1 : k1_cond1 v1 v4 = 1#1), (Rect.unit (s := S1536x512) (k1_off9 v1 v4 k1_t2) S256x512.size (k1_off9_inb v1 v4 k1_hw1 k1_t2 k1_h1)).PackedRows (EltTy.packing .bf16) := fun v1 v4 k1_hw1 k1_t2 k1_h1 => k1_hw1.2.2.2.2.2.2.2.2.2.2.2 k1_t2 k1_h1 (k1_off9_inb v1 v4 k1_hw1 k1_t2 k1_h1)

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (k1_off1_inb : ∀ i : grid1.Coords, ∀ a, (k1_off1 i) a + S1.size a ≤ S8.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S8) ![v0.toNat] S1.size (k1_off1_inb i)) numel1_S1
  let c0_i32 : BitVec 32 := 0#32
  let c0_i32_0 : BitVec 32 := 0#32
  ![v1.toNat, c0_i32.toNat, arg0.toNat]

def cc1_transform_3 (k1_off1_inb : ∀ i : grid1.Coords, ∀ a, (k1_off1 i) a + S1.size a ≤ S8.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S8) ![v0.toNat] S1.size (k1_off1_inb i)) numel1_S1
  let c0_i32 : BitVec 32 := 0#32
  let c0_i32_0 : BitVec 32 := 0#32
  ![v1.toNat, c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S1536x2816 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1536x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1408x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x22x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1536x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S1536x2816 : Shape := ⟨2, ![1536, 2816]⟩
abbrev S8 : Shape := ⟨1, ![8]⟩
abbrev S8x1408x14336 : Shape := ⟨3, ![8, 1408, 14336]⟩
abbrev S8x22x14336 : Shape := ⟨3, ![8, 22, 14336]⟩
abbrev S_ : Shape := ⟨0, ![]⟩
abbrev S1536 : Shape := ⟨1, ![1536]⟩
abbrev S1536x1 : Shape := ⟨2, ![1536, 1]⟩
abbrev S254 : Shape := ⟨1, ![254]⟩
abbrev S1x254 : Shape := ⟨2, ![1, 254]⟩
abbrev S1536x254 : Shape := ⟨2, ![1536, 254]⟩
abbrev S8x2816x14336 : Shape := ⟨3, ![8, 2816, 14336]⟩
abbrev S8x22x128x14336 : Shape := ⟨4, ![8, 22, 128, 14336]⟩
abbrev S1536x14336 : Shape := ⟨2, ![1536, 14336]⟩
abbrev S1 : Shape := ⟨1, ![1]⟩
abbrev S1x2816x14336 : Shape := ⟨3, ![1, 2816, 14336]⟩
abbrev S2816x14336 : Shape := ⟨2, ![2816, 14336]⟩

abbrev nBuf : Space → Nat
  | .hbm => 224
  | .vmem => 0
  | .smem => 0
  | _ => 0

abbrev hbmTy0_0 (i : Nat) : BufTy := match i % 128 with
  | 0 => ⟨S1536x2816, .bf16⟩
  | 1 => ⟨S8, .i32⟩
  | 2 => ⟨S8x1408x14336, .i8⟩
  | 3 => ⟨S8x22x14336, .f32⟩
  | 4 => ⟨S1536x2816, .f32⟩
  | 5 => ⟨S1536x2816, .f32⟩
  | 6 => ⟨S_, .f32⟩
  | 7 => ⟨S1536, .f32⟩
  | 8 => ⟨S1536x1, .f32⟩
  | 9 => ⟨S_, .f32⟩
  | 10 => ⟨S1536x1, .f32⟩
  | 11 => ⟨S1536x1, .f32⟩
  | 12 => ⟨S254, .i32⟩
  | 13 => ⟨S_, .i32⟩
  | 14 => ⟨S254, .i32⟩
  | 15 => ⟨S254, .i32⟩
  | 16 => ⟨S_, .i32⟩
  | 17 => ⟨S254, .i32⟩
  | 18 => ⟨S254, .i32⟩
  | 19 => ⟨S254, .f32⟩
  | 20 => ⟨S1x254, .f32⟩
  | 21 => ⟨S1536x254, .f32⟩
  | 22 => ⟨S1536x254, .f32⟩
  | 23 => ⟨S1536x254, .i1⟩
  | 24 => ⟨S_, .f32⟩
  | 25 => ⟨S_, .f32⟩
  | 26 => ⟨S1536x254, .f32⟩
  | 27 => ⟨S1536x254, .f32⟩
  | 28 => ⟨S1536x254, .f32⟩
  | 29 => ⟨S_, .f32⟩
  | 30 => ⟨S1536, .f32⟩
  | 31 => ⟨S1536x1, .f32⟩
  | 32 => ⟨S_, .f32⟩
  | 33 => ⟨S1536x1, .f32⟩
  | 34 => ⟨S1536x1, .i1⟩
  | 35 => ⟨S_, .f32⟩
  | 36 => ⟨S_, .f32⟩
  | 37 => ⟨S1536x1, .f32⟩
  | 38 => ⟨S1536x1, .f32⟩
  | 39 => ⟨S1536x2816, .f32⟩
  | 40 => ⟨S1536x2816, .f32⟩
  | 41 => ⟨S_, .f32⟩
  | 42 => ⟨S_, .f32⟩
  | 43 => ⟨S_, .f32⟩
  | 44 => ⟨S1536x2816, .f32⟩
  | 45 => ⟨S1536x2816, .f32⟩
  | 46 => ⟨S_, .f32⟩
  | 47 => ⟨S1536x2816, .f32⟩
  | 48 => ⟨S1536x2816, .f32⟩
  | 49 => ⟨S1536x2816, .bf16⟩
  | 50 => ⟨S8x1408x14336, .i32⟩
  | 51 => ⟨S_, .i32⟩
  | 52 => ⟨S8x1408x14336, .i32⟩
  | 53 => ⟨S8x1408x14336, .i32⟩
  | 54 => ⟨S_, .i32⟩
  | 55 => ⟨S8x1408x14336, .i32⟩
  | 56 => ⟨S8x1408x14336, .i32⟩
  | 57 => ⟨S_, .i32⟩
  | 58 => ⟨S8x1408x14336, .i32⟩
  | 59 => ⟨S8x1408x14336, .i32⟩
  | 60 => ⟨S_, .i32⟩
  | 61 => ⟨S8x1408x14336, .i32⟩
  | 62 => ⟨S8x1408x14336, .i32⟩
  | 63 => ⟨S8x2816x14336, .i32⟩
  | 64 => ⟨S8x2816x14336, .bf16⟩
  | 65 => ⟨S8x22x14336, .bf16⟩
  | 66 => ⟨S8x22x128x14336, .bf16⟩
  | 67 => ⟨S8x2816x14336, .bf16⟩
  | 68 => ⟨S8x2816x14336, .bf16⟩
  | 69 => ⟨S_, .i32⟩
  | 70 => ⟨S_, .i32⟩
  | 71 => ⟨S8, .i32⟩
  | 72 => ⟨S8, .i32⟩
  | 73 => ⟨S1536, .i32⟩
  | 74 => ⟨S1536x1, .i32⟩
  | 75 => ⟨S_, .f32⟩
  | 76 => ⟨S1536x14336, .f32⟩
  | 77 => ⟨S1, .i32⟩
  | 78 => ⟨S_, .i32⟩
  | 79 => ⟨S1536x1, .i32⟩
  | 80 => ⟨S1536x1, .i1⟩
  | 81 => ⟨S1, .i32⟩
  | 82 => ⟨S_, .i32⟩
  | 83 => ⟨S1536x1, .i32⟩
  | 84 => ⟨S1536x1, .i1⟩
  | 85 => ⟨S1536x1, .i1⟩
  | 86 => ⟨S1x2816x14336, .bf16⟩
  | 87 => ⟨S2816x14336, .bf16⟩
  | 88 => ⟨S1536x14336, .f32⟩
  | 89 => ⟨S_, .f32⟩
  | 90 => ⟨S_, .f32⟩
  | 91 => ⟨S1536x14336, .i1⟩
  | 92 => ⟨S1536x14336, .f32⟩
  | 93 => ⟨S1536x14336, .f32⟩
  | 94 => ⟨S1536x14336, .f32⟩
  | 95 => ⟨S1, .i32⟩
  | 96 => ⟨S_, .i32⟩
  | 97 => ⟨S1536x1, .i32⟩
  | 98 => ⟨S1536x1, .i1⟩
  | 99 => ⟨S1, .i32⟩
  | 100 => ⟨S_, .i32⟩
  | 101 => ⟨S1536x1, .i32⟩
  | 102 => ⟨S1536x1, .i1⟩
  | 103 => ⟨S1536x1, .i1⟩
  | 104 => ⟨S1x2816x14336, .bf16⟩
  | 105 => ⟨S2816x14336, .bf16⟩
  | 106 => ⟨S1536x14336, .f32⟩
  | 107 => ⟨S_, .f32⟩
  | 108 => ⟨S_, .f32⟩
  | 109 => ⟨S1536x14336, .i1⟩
  | 110 => ⟨S1536x14336, .f32⟩
  | 111 => ⟨S1536x14336, .f32⟩
  | 112 => ⟨S1536x14336, .f32⟩
  | 113 => ⟨S1, .i32⟩
  | 114 => ⟨S_, .i32⟩
  | 115 => ⟨S1536x1, .i32⟩
  | 116 => ⟨S1536x1, .i1⟩
  | 117 => ⟨S1, .i32⟩
  | 118 => ⟨S_, .i32⟩
  | 119 => ⟨S1536x1, .i32⟩
  | 120 => ⟨S1536x1, .i1⟩
  | 121 => ⟨S1536x1, .i1⟩
  | 122 => ⟨S1x2816x14336, .bf16⟩
  | 123 => ⟨S2816x14336, .bf16⟩
  | 124 => ⟨S1536x14336, .f32⟩
  | 125 => ⟨S_, .f32⟩
  | 126 => ⟨S_, .f32⟩
  | 127 => ⟨S1536x14336, .i1⟩
  | _ => ⟨S1536x2816, .bf16⟩

abbrev hbmTy0_1 (i : Nat) : BufTy := match i % 128 with
  | 0 => ⟨S1536x14336, .f32⟩
  | 1 => ⟨S1536x14336, .f32⟩
  | 2 => ⟨S1536x14336, .f32⟩
  | 3 => ⟨S1, .i32⟩
  | 4 => ⟨S_, .i32⟩
  | 5 => ⟨S1536x1, .i32⟩
  | 6 => ⟨S1536x1, .i1⟩
  | 7 => ⟨S1, .i32⟩
  | 8 => ⟨S_, .i32⟩
  | 9 => ⟨S1536x1, .i32⟩
  | 10 => ⟨S1536x1, .i1⟩
  | 11 => ⟨S1536x1, .i1⟩
  | 12 => ⟨S1x2816x14336, .bf16⟩
  | 13 => ⟨S2816x14336, .bf16⟩
  | 14 => ⟨S1536x14336, .f32⟩
  | 15 => ⟨S_, .f32⟩
  | 16 => ⟨S_, .f32⟩
  | 17 => ⟨S1536x14336, .i1⟩
  | 18 => ⟨S1536x14336, .f32⟩
  | 19 => ⟨S1536x14336, .f32⟩
  | 20 => ⟨S1536x14336, .f32⟩
  | 21 => ⟨S1, .i32⟩
  | 22 => ⟨S_, .i32⟩
  | 23 => ⟨S1536x1, .i32⟩
  | 24 => ⟨S1536x1, .i1⟩
  | 25 => ⟨S1, .i32⟩
  | 26 => ⟨S_, .i32⟩
  | 27 => ⟨S1536x1, .i32⟩
  | 28 => ⟨S1536x1, .i1⟩
  | 29 => ⟨S1536x1, .i1⟩
  | 30 => ⟨S1x2816x14336, .bf16⟩
  | 31 => ⟨S2816x14336, .bf16⟩
  | 32 => ⟨S1536x14336, .f32⟩
  | 33 => ⟨S_, .f32⟩
  | 34 => ⟨S_, .f32⟩
  | 35 => ⟨S1536x14336, .i1⟩
  | 36 => ⟨S1536x14336, .f32⟩
  | 37 => ⟨S1536x14336, .f32⟩
  | 38 => ⟨S1536x14336, .f32⟩
  | 39 => ⟨S1, .i32⟩
  | 40 => ⟨S_, .i32⟩
  | 41 => ⟨S1536x1, .i32⟩
  | 42 => ⟨S1536x1, .i1⟩
  | 43 => ⟨S1, .i32⟩
  | 44 => ⟨S_, .i32⟩
  | 45 => ⟨S1536x1, .i32⟩
  | 46 => ⟨S1536x1, .i1⟩
  | 47 => ⟨S1536x1, .i1⟩
  | 48 => ⟨S1x2816x14336, .bf16⟩
  | 49 => ⟨S2816x14336, .bf16⟩
  | 50 => ⟨S1536x14336, .f32⟩
  | 51 => ⟨S_, .f32⟩
  | 52 => ⟨S_, .f32⟩
  | 53 => ⟨S1536x14336, .i1⟩
  | 54 => ⟨S1536x14336, .f32⟩
  | 55 => ⟨S1536x14336, .f32⟩
  | 56 => ⟨S1536x14336, .f32⟩
  | 57 => ⟨S1, .i32⟩
  | 58 => ⟨S_, .i32⟩
  | 59 => ⟨S1536x1, .i32⟩
  | 60 => ⟨S1536x1, .i1⟩
  | 61 => ⟨S1, .i32⟩
  | 62 => ⟨S_, .i32⟩
  | 63 => ⟨S1536x1, .i32⟩
  | 64 => ⟨S1536x1, .i1⟩
  | 65 => ⟨S1536x1, .i1⟩
  | 66 => ⟨S1x2816x14336, .bf16⟩
  | 67 => ⟨S2816x14336, .bf16⟩
  | 68 => ⟨S1536x14336, .f32⟩
  | 69 => ⟨S_, .f32⟩
  | 70 => ⟨S_, .f32⟩
  | 71 => ⟨S1536x14336, .i1⟩
  | 72 => ⟨S1536x14336, .f32⟩
  | 73 => ⟨S1536x14336, .f32⟩
  | 74 => ⟨S1536x14336, .f32⟩
  | 75 => ⟨S1, .i32⟩
  | 76 => ⟨S_, .i32⟩
  | 77 => ⟨S1536x1, .i32⟩
  | 78 => ⟨S1536x1, .i1⟩
  | 79 => ⟨S1, .i32⟩
  | 80 => ⟨S_, .i32⟩
  | 81 => ⟨S1536x1, .i32⟩
  | 82 => ⟨S1536x1, .i1⟩
  | 83 => ⟨S1536x1, .i1⟩
  | 84 => ⟨S1x2816x14336, .bf16⟩
  | 85 => ⟨S2816x14336, .bf16⟩
  | 86 => ⟨S1536x14336, .f32⟩
  | 87 => ⟨S_, .f32⟩
  | 88 => ⟨S_, .f32⟩
  | 89 => ⟨S1536x14336, .i1⟩
  | 90 => ⟨S1536x14336, .f32⟩
  | 91 => ⟨S1536x14336, .f32⟩
  | 92 => ⟨S1536x14336, .f32⟩
  | 93 => ⟨S1536x14336, .f32⟩
  | 94 => ⟨S1536x14336, .f32⟩
  | 95 => ⟨S1536x14336, .bf16⟩
  | _ => ⟨S1536x2816, .bf16⟩

abbrev hbmTy (i : Nat) : BufTy := match i / 128 with
  | 0 => hbmTy0_0 i
  | 1 => hbmTy0_1 i
  | _ => ⟨S1536x2816, .bf16⟩

abbrev bufTy : (tb : Table) → Fin (tcTables nBuf tb) → BufTy
  | .hbm, ⟨i, _⟩ => hbmTy i
  | _, _ => ⟨S1536x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_cst_7 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_8 : Ref sig .tc := ⟨.hbm, 51, rfl⟩
abbrev main_v27 : Ref sig .tc := ⟨.hbm, 52, rfl⟩
abbrev main_v28 : Ref sig .tc := ⟨.hbm, 53, rfl⟩
abbrev main_c_9 : Ref sig .tc := ⟨.hbm, 54, rfl⟩
abbrev main_v29 : Ref sig .tc := ⟨.hbm, 55, rfl⟩
abbrev main_v30 : Ref sig .tc := ⟨.hbm, 56, rfl⟩
abbrev main_c_10 : Ref sig .tc := ⟨.hbm, 57, rfl⟩
abbrev main_v31 : Ref sig .tc := ⟨.hbm, 58, rfl⟩
abbrev main_v32 : Ref sig .tc := ⟨.hbm, 59, rfl⟩
abbrev main_c_11 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call3_call0_c : Ref sig .tc := ⟨.hbm, 69, rfl⟩
abbrev main_call3_call0_v0 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_12 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_13 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_15 : Ref sig .tc := ⟨.hbm, 125, rfl⟩
abbrev main_call6_v0 : Ref sig .tc := ⟨.hbm, 126, rfl⟩
abbrev main_call6_v1 : Ref sig .tc := ⟨.hbm, 127, rfl⟩
abbrev main_call6_v2 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_16 : Ref sig .tc := ⟨.hbm, 143, rfl⟩
abbrev main_call7_v0 : Ref sig .tc := ⟨.hbm, 144, rfl⟩
abbrev main_call7_v1 : Ref sig .tc := ⟨.hbm, 145, rfl⟩
abbrev main_call7_v2 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_17 : Ref sig .tc := ⟨.hbm, 161, rfl⟩
abbrev main_call8_v0 : Ref sig .tc := ⟨.hbm, 162, rfl⟩
abbrev main_call8_v1 : Ref sig .tc := ⟨.hbm, 163, rfl⟩
abbrev main_call8_v2 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_18 : Ref sig .tc := ⟨.hbm, 179, rfl⟩
abbrev main_call9_v0 : Ref sig .tc := ⟨.hbm, 180, rfl⟩
abbrev main_call9_v1 : Ref sig .tc := ⟨.hbm, 181, rfl⟩
abbrev main_call9_v2 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_19 : Ref sig .tc := ⟨.hbm, 197, rfl⟩
abbrev main_call10_v0 : Ref sig .tc := ⟨.hbm, 198, rfl⟩
abbrev main_call10_v1 : Ref sig .tc := ⟨.hbm, 199, rfl⟩
abbrev main_call10_v2 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_cst_20 : Ref sig .tc := ⟨.hbm, 215, rfl⟩
abbrev main_call11_v0 : Ref sig .tc := ⟨.hbm, 216, rfl⟩
abbrev main_call11_v1 : Ref sig .tc := ⟨.hbm, 217, rfl⟩
abbrev main_call11_v2 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩

abbrev nD : Nat := 1
abbrev τ : Topo := Topo.v7x

variable {F : FTy → Type} [FloatOps F]
-- ==== Proof.Groups.lean ====
module

public import Idealize.ShloMosaic.PureOps.Contract
public import Idealize.ShloMosaic.PureOps.Reduce
public import Idealize.ShloMosaic.Lib.ReduceAll
public import Idealize.ShloMosaic.Lib.Pointwise.Index
public import Idealize.ShloMosaic.Lib.StableHlo.Predicate

/-! The integers of the grouped product: the running sums of the eight group sizes and the table of the experts that have rows, as
    the host computes them with two windowed reductions. -/

@[expose] public section

noncomputable section

namespace Cert.Groups

open Idealize.ShloMosaic

abbrev T0 : Shape := ⟨0, ![]⟩
abbrev T8 : Shape := ⟨1, ![8]⟩
abbrev T1 : Shape := ⟨1, ![1]⟩
abbrev T9 : Shape := ⟨1, ![9]⟩

/-- Every group has between 0 and 1536 rows, and together they have 1536. -/
def Good (g : IVec T8 32) : Prop := (∀ e : Fin 8, (g (ix1 e)).toNat ≤ 1536) ∧ ∑ e : Fin 8, (g (ix1 e)).toNat = 1536

/-- The rows of the groups before group `k`. -/
def pre (g : IVec T8 32) (k : ℕ) : ℕ := ∑ j ∈ Finset.range k, if h : j < 8 then (g (ix1 ⟨j, h⟩)).toNat else 0

theorem pre_succ (g : IVec T8 32) (e : Fin 8) : pre g (e.val + 1) = pre g e.val + (g (ix1 e)).toNat := by
  unfold pre; rw [Finset.sum_range_succ, dif_pos e.isLt]

theorem pre_zero (g : IVec T8 32) : pre g 0 = 0 := rfl

theorem pre_mono (g : IVec T8 32) {a b : ℕ} (h : a ≤ b) : pre g a ≤ pre g b := by
  induction b, h using Nat.le_induction with
  | base => exact le_refl _
  | succ n _ ih => exact ih.trans (by unfold pre; rw [Finset.sum_range_succ]; exact Nat.le_add_right _ _)

theorem pre_eight (g : IVec T8 32) (hg : Good g) : pre g 8 = 1536 := by
  unfold pre; rw [Finset.sum_range, ← hg.2]
  exact Finset.sum_congr rfl fun j _ => dif_pos j.isLt

theorem pre_le (g : IVec T8 32) (hg : Good g) {k : ℕ} (h : k ≤ 8) : pre g k ≤ 1536 := pre_eight g hg ▸ pre_mono g h

/-- The windowed reduction over the eight entries up to entry `i`. -/
def fold8 (f : BitVec 32 → BitVec 32 → BitVec 32) (v : BitVec 32) (x : IVec T8 32) (i : Fin 8) : BitVec 32 :=
  (List.finRange 8).foldl (fun r n => f r (if h : 7 ≤ i.val + n.val then x (ix1 ⟨i.val + n.val - 7, by omega⟩) else v)) v

theorem reduceWindow_eq (f : BitVec 32 → BitVec 32 → BitVec 32) (init : IVec T0 32) (x : IVec T8 32)
    (h : T8.ReduceWindows (![8] : Fin 1 → Nat) ![1] ![7] ![0] T8) (hu : 0 < T0.numel) (i : Fin 8) :
    Host.reduceWindow f ![8] ![1] ![7] ![0] x init h hu (ix1 i) = fold8 f (init (Shape.Idx.first hu)) x i := by
  have hW : ∀ n : Fin 8, (((⟨1, ![8]⟩ : Shape).rowMajor.symm n) 0).val = n.val := by decide
  unfold Host.reduceWindow fold8
  refine congrArg (fun q => (List.finRange 8).foldl q (init (Shape.Idx.first hu))) (funext fun r => funext fun (n : Fin 8) => ?_)
  refine congrArg (f r) ?_
  have hn := n.isLt
  have hi := i.isLt
  have hp : ∀ a : Fin 1, (ix1 i (Fin.cast h.1.symm a)).val * (![1] : Fin 1 → ℕ) a + (((⟨1, ![8]⟩ : Shape).rowMajor.symm n) a).val = i.val + n.val := by
    intro a
    obtain rfl : a = (0 : Fin 1) := Subsingleton.elim a 0
    rw [hW n]; show i.val * 1 + n.val = _; omega
  have h8 : ∀ a : Fin 1, (![7] : Fin 1 → ℕ) a = 7 := fun a => by
    obtain rfl : a = (0 : Fin 1) := Subsingleton.elim a 0
    rfl
  have h9 : ∀ a : Fin 1, (![8] : Fin 1 → ℕ) a = 8 := fun a => by
    obtain rfl : a = (0 : Fin 1) := Subsingleton.elim a 0
    rfl
  by_cases h7 : 7 ≤ i.val + n.val
  · rw [dif_pos h7]
    refine (dif_pos ?_).trans ?_
    · intro a
      refine ⟨?_, ?_⟩
      · exact (h8 a).trans_le (h7.trans_eq (hp a).symm)
      · exact ((congrArg₂ (· - ·) (hp a) (h8 a)).trans_lt (by show i.val + n.val - 7 < 8; omega)).trans_eq (h9 a).symm
    · refine congrArg x (funext fun a => Fin.ext ?_)
      exact (congrArg₂ (· - ·) (hp a) (h8 a)).trans (by
        obtain rfl : a = (0 : Fin 1) := Subsingleton.elim (α := Fin 1) a 0
        rfl)
  · rw [dif_neg h7]
    exact dif_neg fun hh => h7 (((h8 0).symm.trans_le (hh (0 : Fin 1)).1).trans_eq (hp 0))

/-- The running sum. -/
theorem cumsum_eq (g : IVec T8 32) (hg : Good g) (i : Fin 8) :
    fold8 IntOp.addi 0#32 g i = BitVec.ofNat 32 (pre g (i.val + 1)) := by
  have h0 := hg.1 0; have h1 := hg.1 1; have h2 := hg.1 2; have h3 := hg.1 3
  have h4 := hg.1 4; have h5 := hg.1 5; have h6 := hg.1 6; have h7 := hg.1 7
  apply BitVec.eq_of_toNat_eq
  fin_cases i <;>
    simp [fold8, List.finRange, List.ofFn, Fin.foldr, Fin.foldr.loop, IntOp.addi, BitVec.toNat_add, pre, Finset.sum_range_succ] <;>
    omega

theorem maxsi_cases (x y : BitVec 32) : IntOp.maxsi x y = x ∨ IntOp.maxsi x y = y := by
  unfold IntOp.maxsi; split
  · exact .inl rfl
  · exact .inr rfl

/-- The least word, or a word at most `b`. -/
def Low (b : ℕ) (w : BitVec 32) : Prop := w = 2147483648#32 ∨ w.toNat ≤ b

theorem maxsi_low {b : ℕ} {x y : BitVec 32} (hx : Low b x) (hy : Low b y) : Low b (IntOp.maxsi x y) := by
  rcases maxsi_cases x y with h | h <;> rw [h] <;> assumption

/-- A small word last: the larger of it and a low word is small. -/
theorem maxsi_le {b : ℕ} (hb : b < 8) {x y : BitVec 32} (hx : Low b x) (hy : y.toNat ≤ b) : (IntOp.maxsi x y).toNat ≤ b := by
  rcases hx with rfl | hx
  · have : IntOp.maxsi 2147483648#32 y = y := by
      unfold IntOp.maxsi
      have hm : y.msb = false := BitVec.msb_eq_false_iff_two_mul_lt.mpr (by omega)
      have hM : (2147483648#32 : BitVec 32).msb = true := by decide
      rw [if_neg]
      simp [BitVec.slt, BitVec.toInt_eq_msb_cond, hm, hM]
    rw [this]; exact hy
  · rcases maxsi_cases x y with h | h <;> rw [h] <;> assumption

theorem maxsi_eq {b : ℕ} (hb : b < 8) {x y : BitVec 32} (hx : Low b x) (hy : y.toNat = b) : IntOp.maxsi x y = y := by
  unfold IntOp.maxsi
  have hm : y.msb = false := BitVec.msb_eq_false_iff_two_mul_lt.mpr (by omega)
  rw [if_neg]
  rcases hx with rfl | hx
  · have hM : (2147483648#32 : BitVec 32).msb = true := by decide
    simp [BitVec.slt, BitVec.toInt_eq_msb_cond, hm, hM]
  · have hm' : x.msb = false := BitVec.msb_eq_false_iff_two_mul_lt.mpr (by omega)
    simp only [BitVec.slt, BitVec.toInt_eq_msb_cond, hm, hm', decide_eq_true_eq, Bool.false_eq_true, if_false]; omega

/-- Entry `i` of a running maximum is the larger of a low word (what the entries before it leave) and entry `i` itself. -/
theorem cummax_last (x : IVec T8 32) (i : Fin 8) (hx : ∀ j : Fin 8, (x (ix1 j)).toNat ≤ j.val) :
    ∃ w, Low i.val w ∧ fold8 IntOp.maxsi 2147483648#32 x i = IntOp.maxsi w (x (ix1 i)) := by
  have step : ∀ (l : List (Fin 8)) (r : BitVec 32), Low i.val r → Low i.val (l.foldl (fun r n => IntOp.maxsi r
      (if h : 7 ≤ i.val + n.val then x (ix1 ⟨i.val + n.val - 7, by omega⟩) else 2147483648#32)) r) := by
    intro l
    induction l with
    | nil => exact fun r hr => hr
    | cons n l ih =>
      intro r hr
      refine ih _ (maxsi_low hr ?_)
      split
      · rename_i h
        exact .inr ((hx _).trans (by have := n.isLt; show i.val + n.val - 7 ≤ i.val; omega))
      · exact .inl rfl
  refine ⟨_, step [0, 1, 2, 3, 4, 5, 6] 2147483648#32 (.inl rfl), ?_⟩
  unfold fold8
  rw [show List.finRange 8 = [0, 1, 2, 3, 4, 5, 6] ++ [7] from by decide, List.foldl_append, List.foldl_cons, List.foldl_nil]
  refine congrArg (IntOp.maxsi _) ?_
  rw [dif_pos (show 7 ≤ i.val + (7 : Fin 8).val from by show 7 ≤ i.val + 7; omega)]
  exact congrArg x (congrArg ix1 (Fin.ext (by show i.val + 7 - 7 = i.val; omega)))

/-- The table of experts before the running maximum: the expert's own number where it has rows, zero where it has none. -/
def own (g : IVec T8 32) : IVec T8 32 := select (cmpi .sgt g (fun _ => 0#32)) (iotaInDim T8 32 0) (fun _ => 0#32)

theorem own_le (g : IVec T8 32) (j : Fin 8) : (own g (ix1 j)).toNat ≤ j.val := by
  unfold own select
  dsimp only
  unfold Scalar.select
  split
  · show (BitVec.ofNat 32 j.val).toNat ≤ j.val
    rw [BitVec.toNat_ofNat]; omega
  · exact Nat.zero_le _

theorem own_pos (g : IVec T8 32) (j : Fin 8) (h0 : 0 < (g (ix1 j)).toNat) (h1 : (g (ix1 j)).toNat ≤ 1536) : (own g (ix1 j)).toNat = j.val := by
  have hc : cmpi .sgt g (fun _ => 0#32) (ix1 j) = 1#1 :=
    (StableHlo.Predicate.sgt_iff_toNat (by omega) (by show (0#32 : BitVec 32).toNat < 2 ^ 31; decide)).2 (by simpa using h0)
  unfold own select
  dsimp only
  unfold Scalar.select
  rw [if_pos (show _ = (1 : BitVec 1) from hc)]
  show (BitVec.ofNat 32 j.val).toNat = j.val
  rw [BitVec.toNat_ofNat]; omega

/-- The table of experts names an expert everywhere, -/
theorem eidx_lt (g : IVec T8 32) (i : Fin 8) : (fold8 IntOp.maxsi 2147483648#32 (own g) i).toNat ≤ i.val := by
  obtain ⟨w, hw, h⟩ := cummax_last (own g) i (own_le g)
  rw [h]; exact maxsi_le i.isLt hw (own_le g i)

/-- and at an expert that has rows, that expert. -/
theorem eidx_eq (g : IVec T8 32) (i : Fin 8) (h0 : 0 < (g (ix1 i)).toNat) (h1 : (g (ix1 i)).toNat ≤ 1536) :
    (fold8 IntOp.maxsi 2147483648#32 (own g) i).toNat = i.val := by
  obtain ⟨w, hw, h⟩ := cummax_last (own g) i (own_le g)
  rw [h, maxsi_eq i.isLt hw (own_pos g i h0 h1)]
  exact own_pos g i h0 h1

/-- The offsets table: a zero, then the running sums. -/
theorem concat_zero (a : IVec T1 32) (b : IVec T8 32) (h : Shape.Concatenates [T1, T8] T9 0) :
    concatenate T9 0 [⟨T1, a⟩, ⟨T8, b⟩] h (ix1 (0 : Fin 9)) = a (ix1 0) := by
  unfold concatenate
  exact congrArg a (funext fun b => by obtain rfl : b = (0 : Fin 1) := Subsingleton.elim (α := Fin 1) b 0; exact Fin.ext (by rfl))

theorem concat_succ (a : IVec T1 32) (b : IVec T8 32) (h : Shape.Concatenates [T1, T8] T9 0) (k : Fin 8) :
    concatenate T9 0 [⟨T1, a⟩, ⟨T8, b⟩] h (ix1 k.succ) = b (ix1 k) := by
  fin_cases k <;> (
    unfold concatenate
    exact congrArg b (funext fun c => by obtain rfl : c = (0 : Fin 1) := Subsingleton.elim (α := Fin 1) c 0; exact Fin.ext (by rfl)))

/-- The precondition's words, read: the sizes are good. -/
theorem good_of (g : IVec T8 32) (h : T8.ReducesTo [0] T0) (hu : 0 < T0.numel) (i1 : IVec T0 1) (i0 : IVec T0 32)
    (ha : ∀ j, Host.reduce IntOp.andi (andi (cmpi .sge g (fun _ => 0#32)) (cmpi .sle g (fun _ => 1536#32))) i1 h hu j = 1#1)
    (hi0 : i0 (Shape.Idx.first hu) = 0#32)
    (hs : ∀ j, Host.reduce IntOp.addi g i0 h hu j = 1536#32) : Good g := by
  have : Subsingleton T0.Idx := ⟨fun a b => funext fun i => i.elim0⟩
  have hb : ∀ e : Fin 8, (g (ix1 e)).toNat ≤ 1536 := by
    intro e
    have h1 := Host.reduce_andi_all _ _ h hu (fun a => a.elim0) (ha _) (ix1 e)
    obtain ⟨hge, hle⟩ := IntOp.andi_eq_one.1 h1
    have hge : BitVec.ofBool ((0#32).sle (g (ix1 e))) = 1#1 := hge
    have hle : BitVec.ofBool ((g (ix1 e)).sle 1536#32) = 1#1 := hle
    rw [StableHlo.Predicate.ofBool_eq_one_iff] at hge hle
    simp only [BitVec.sle, decide_eq_true_eq] at hge hle
    have h1536 : (1536#32 : BitVec 32).toInt = 1536 := by decide
    have h00 : (0#32 : BitVec 32).toInt = 0 := by decide
    rw [h00] at hge
    rw [h1536] at hle
    have ht := BitVec.toInt_eq_toNat_cond (g (ix1 e))
    have hlt := (g (ix1 e)).isLt
    split at ht <;> omega
  refine ⟨hb, ?_⟩
  have h2 := hs (fun a => a.elim0)
  rw [Host.reduce_eq_fold, hi0] at h2
  have hsum : ∑ i : T8.Idx, (g i).toNat = ∑ e : Fin 8, (g (ix1 e)).toNat := sum_idx1 _
  have hle : ∑ e : Fin 8, (g (ix1 e)).toNat ≤ 8 * 1536 := by
    have h0 := hb 0; have h1 := hb 1; have h2 := hb 2; have h3 := hb 3
    have h4 := hb 4; have h5 := hb 5; have h6 := hb 6; have h7 := hb 7
    rw [Fin.sum_univ_eight]; omega
  have hf : (Finset.univ.filter fun i : T8.Idx => h.drop i = (fun a => a.elim0)) = Finset.univ :=
    Finset.filter_true_of_mem fun i _ => Subsingleton.elim _ _
  have h3 := congrArg BitVec.toNat h2
  rw [hf, StableHlo.Predicate.toNat_fold_addi _ _ (by rw [hsum]; omega), hsum] at h3
  exact h3

end Cert.Groups

end
-- ==== Proof.Cover.lean ====
module

public import proofs.«01_k».proof.Pre_sizes_cover
public import proofs.«01_k».proof.Pre_sizes_cover_finite
public import proofs.«01_k».proof.Proof.Groups

/-! What the two preconditions say of the group sizes. -/

@[expose] public section

noncomputable section

namespace Cert.Groups

open Idealize.ShloMosaic

variable {F : FTy → Type} [FloatOps F]

theorem ones {a b : IVec T0 1} (h : ∀ j, andi a b j = 1#1) : (∀ j, a j = 1#1) ∧ ∀ j, b j = 1#1 :=
  ⟨fun j => (IntOp.andi_eq_one.1 (h j)).1, fun j => (IntOp.andi_eq_one.1 (h j)).2⟩

theorem good_cover [Cert.Pre_sizes_cover.Facts] {x0 x1 x2 x3} (h : Cert.Pre_sizes_cover.fn (F := F) x0 x1 x2 x3 = fun _ => 1#1) : Good x1 := by
  obtain ⟨h5, h7⟩ := ones (congrFun h)
  exact good_of x1 _ _ _ _ h5 rfl fun j => StableHlo.Predicate.cmpi_eq_iff.1 (h7 j)

theorem good_finite [Cert.Pre_sizes_cover_finite.Facts] {x0 x1 x2 x3} (h : Cert.Pre_sizes_cover_finite.fn (F := F) x0 x1 x2 x3 = fun _ => 1#1) : Good x1 := by
  obtain ⟨h5, h7⟩ := ones (ones (congrFun h)).1
  exact good_of x1 _ _ _ _ h5 rfl fun j => StableHlo.Predicate.cmpi_eq_iff.1 (h7 j)

/-- Every entry of the activations is bounded by the greatest finite bf16. -/
theorem finite_of [Cert.Pre_sizes_cover_finite.Facts] {x0 x1 x2 x3} (h : Cert.Pre_sizes_cover_finite.fn (F := F) x0 x1 x2 x3 = fun _ => 1#1)
    (i : Cert.Pre_sizes_cover_finite.S1536x2816.Idx) : cmpf .ole (Host.absf (extf .f32 x0 Cert.Pre_sizes_cover_finite.Facts.bitsLt_bf16_f32)) (constant Cert.Pre_sizes_cover_finite.S1536x2816 .f32 0x7F7F0000#32) i = 1#1 := by
  have h2 := (ones (congrFun h)).2
  have : Subsingleton T0.Idx := ⟨fun a b => funext fun i => i.elim0⟩
  exact Host.reduce_andi_all _ _ _ _ (fun a => a.elim0) (h2 _) i

end Cert.Groups

end
-- ==== Proof.KI.Words1.lean ====
module
public import proofs.«01_k».proof.Proof.Gen.KernelIdeal.Skeleton
public import proofs.«01_k».proof.Proof.Gen.KernelIdeal.Loops

/-! The loop bounds and row offsets of the grouped product, as natural numbers. An expert whose rows are `a ≤ r < b ≤ 1536` is
    computed in chunks of 256 rows from the multiple of 16 at or below `a`, the last ones moved up so that they end inside the
    array; the second loop (the rest of a division by one) never runs. -/
@[expose] public section
set_option maxRecDepth 16384

namespace Cert.KernelIdeal.Hand
open Idealize.ShloMosaic
open Cert.KernelIdeal

/-- The first row computed: the multiple of 16 at or below `v1`, as the kernel computes it. -/
def first (v1 : BitVec 32) : BitVec 32 :=
  let c0_i32_152 : BitVec 32 := 0#32
  let v372 : BitVec 1 := Scalar.cmpi .sgt v1 c0_i32_152
  let v373 : BitVec 32 := Scalar.extui v372
  let c0_i32_153 : BitVec 32 := 0#32
  let v374 : BitVec 1 := Scalar.cmpi .slt v1 c0_i32_153
  let v375 : BitVec 32 := Scalar.extui v374
  let v376 : BitVec 32 := Scalar.subi v373 v375
  let c16_i32 : BitVec 32 := 16#32
  let c0_i32_154 : BitVec 32 := 0#32
  let v377 : BitVec 1 := Scalar.cmpi .sgt c16_i32 c0_i32_154
  let v378 : BitVec 32 := Scalar.extui v377
  let c0_i32_155 : BitVec 32 := 0#32
  let v379 : BitVec 1 := Scalar.cmpi .slt c16_i32 c0_i32_155
  let v380 : BitVec 32 := Scalar.extui v379
  let v381 : BitVec 32 := Scalar.subi v378 v380
  let v382 : BitVec 1 := Scalar.cmpi .ne v376 v381
  let v383 : BitVec 32 := Scalar.remsi v1 c16_i32
  let c0_i32_156 : BitVec 32 := 0#32
  let v384 : BitVec 1 := Scalar.cmpi .ne v383 c0_i32_156
  let v385 : BitVec 1 := Scalar.andi v382 v384
  let v371 : BitVec 32 := Scalar.divsi v1 c16_i32
  let c1_i32_157 : BitVec 32 := 1#32
  let v386 : BitVec 32 := Scalar.subi v371 c1_i32_157
  let v387 : BitVec 32 := Scalar.select v385 v386 v371
  let c16_i32_158 : BitVec 32 := 16#32
  Scalar.muli v387 c16_i32_158

/-- The number of chunks, as the kernel computes it from the rows to cover. -/
def chunks (v389 : BitVec 32) : BitVec 32 :=
  let c256_i32 : BitVec 32 := 256#32
  let v390 : BitVec 32 := Scalar.addi v389 c256_i32
  let c1_i32_159 : BitVec 32 := 1#32
  let v391 : BitVec 32 := Scalar.subi v390 c1_i32_159
  let c0_i32_161 : BitVec 32 := 0#32
  let v393 : BitVec 1 := Scalar.cmpi .sgt v391 c0_i32_161
  let v394 : BitVec 32 := Scalar.extui v393
  let c0_i32_162 : BitVec 32 := 0#32
  let v395 : BitVec 1 := Scalar.cmpi .slt v391 c0_i32_162
  let v396 : BitVec 32 := Scalar.extui v395
  let v397 : BitVec 32 := Scalar.subi v394 v396
  let c256_i32_160 : BitVec 32 := 256#32
  let c0_i32_163 : BitVec 32 := 0#32
  let v398 : BitVec 1 := Scalar.cmpi .sgt c256_i32_160 c0_i32_163
  let v399 : BitVec 32 := Scalar.extui v398
  let c0_i32_164 : BitVec 32 := 0#32
  let v400 : BitVec 1 := Scalar.cmpi .slt c256_i32_160 c0_i32_164
  let v401 : BitVec 32 := Scalar.extui v400
  let v402 : BitVec 32 := Scalar.subi v399 v401
  let v403 : BitVec 1 := Scalar.cmpi .ne v397 v402
  let v404 : BitVec 32 := Scalar.remsi v391 c256_i32_160
  let c0_i32_165 : BitVec 32 := 0#32
  let v405 : BitVec 1 := Scalar.cmpi .ne v404 c0_i32_165
  let v406 : BitVec 1 := Scalar.andi v403 v405
  let v392 : BitVec 32 := Scalar.divsi v391 c256_i32_160
  let c1_i32_166 : BitVec 32 := 1#32
  let v407 : BitVec 32 := Scalar.subi v392 c1_i32_166
  let v408 : BitVec 32 := Scalar.select v406 v407 v392
  let v409 : BitVec 32 := Scalar.subi v408 (0#32 : BitVec 32)
  let c1_i32_169 : BitVec 32 := 1#32
  let v411 : BitVec 32 := Scalar.divsi v409 c1_i32_169
  let v412 : BitVec 32 := Scalar.muli v411 c1_i32_169
  let v413 : BitVec 32 := Scalar.addi (0#32 : BitVec 32) v412
  v413

/-- The end of the loop that never runs. -/
def chunksEnd (v389 : BitVec 32) : BitVec 32 :=
  let c256_i32 : BitVec 32 := 256#32
  let v390 : BitVec 32 := Scalar.addi v389 c256_i32
  let c1_i32_159 : BitVec 32 := 1#32
  let v391 : BitVec 32 := Scalar.subi v390 c1_i32_159
  let c0_i32_161 : BitVec 32 := 0#32
  let v393 : BitVec 1 := Scalar.cmpi .sgt v391 c0_i32_161
  let v394 : BitVec 32 := Scalar.extui v393
  let c0_i32_162 : BitVec 32 := 0#32
  let v395 : BitVec 1 := Scalar.cmpi .slt v391 c0_i32_162
  let v396 : BitVec 32 := Scalar.extui v395
  let v397 : BitVec 32 := Scalar.subi v394 v396
  let c256_i32_160 : BitVec 32 := 256#32
  let c0_i32_163 : BitVec 32 := 0#32
  let v398 : BitVec 1 := Scalar.cmpi .sgt c256_i32_160 c0_i32_163
  let v399 : BitVec 32 := Scalar.extui v398
  let c0_i32_164 : BitVec 32 := 0#32
  let v400 : BitVec 1 := Scalar.cmpi .slt c256_i32_160 c0_i32_164
  let v401 : BitVec 32 := Scalar.extui v400
  let v402 : BitVec 32 := Scalar.subi v399 v401
  let v403 : BitVec 1 := Scalar.cmpi .ne v397 v402
  let v404 : BitVec 32 := Scalar.remsi v391 c256_i32_160
  let c0_i32_165 : BitVec 32 := 0#32
  let v405 : BitVec 1 := Scalar.cmpi .ne v404 c0_i32_165
  let v406 : BitVec 1 := Scalar.andi v403 v405
  let v392 : BitVec 32 := Scalar.divsi v391 c256_i32_160
  let c1_i32_166 : BitVec 32 := 1#32
  let v407 : BitVec 32 := Scalar.subi v392 c1_i32_166
  let v408 : BitVec 32 := Scalar.select v406 v407 v392
  let v409 : BitVec 32 := Scalar.subi v408 (0#32 : BitVec 32)
  Scalar.addi (0#32) v409

/-- The first row of chunk `k`, moved up to end inside the array. -/
def rowAt (f : BitVec 32) (k : ℕ) : BitVec 32 :=
  Scalar.minsi (Scalar.addi f (Scalar.muli (Scf.iv 0#32 1#32 k) 256#32)) 1280#32

theorem first_eq : ∀ a : Fin 1537, first (BitVec.ofNat 32 a) = BitVec.ofNat 32 (16 * (a / 16)) := by decide +kernel
theorem chunks_eq : ∀ d : Fin 1537, chunks (BitVec.ofNat 32 d) = BitVec.ofNat 32 ((d + 255) / 256) := by decide +kernel
theorem chunksEnd_eq : ∀ d : Fin 1537, chunksEnd (BitVec.ofNat 32 d) = BitVec.ofNat 32 ((d + 255) / 256) := by decide +kernel
theorem rowAt_eq : ∀ (q : Fin 97) (k : Fin 7), rowAt (BitVec.ofNat 32 (16 * q)) k = BitVec.ofNat 32 (min (16 * q + 256 * k) 1280) := by
  decide +kernel
theorem trips_eq : ∀ n : Fin 8, Scf.trips (0#32) (BitVec.ofNat 32 n) (1#32) = n.val := by decide +kernel
theorem trips_self : ∀ n : Fin 8, Scf.trips (BitVec.ofNat 32 n) (BitVec.ofNat 32 n) (1#32) = 0 := by decide +kernel

theorem loop1_eq (v1 v4 : BitVec 32) : k1_t1_loop v1 v4 = ⟨0#32, chunks (Scalar.subi v4 (first v1)), 1#32⟩ := rfl
theorem loop2_eq (v1 v4 : BitVec 32) :
    k1_t2_loop v1 v4 = ⟨chunks (Scalar.subi v4 (first v1)), chunksEnd (Scalar.subi v4 (first v1)), 1#32⟩ := rfl
theorem mult1_eq (v1 v4 : BitVec 32) (k) : k1_mult1 v1 v4 k = rowAt (first v1) k.val := rfl
theorem off4_eq (v1 v4 : BitVec 32) (k) : k1_off4 v1 v4 k = ![(rowAt (first v1) k.val).toNat, 0] := rfl
theorem off5_eq (v1 v4 : BitVec 32) (k) : k1_off5 v1 v4 k = ![(rowAt (first v1) k.val).toNat, 0] := rfl
theorem off6_eq (v1 v4 : BitVec 32) (k) : k1_off6 v1 v4 k = ![(rowAt (first v1) k.val).toNat, 0] := rfl

/-- The body's test: the expert has rows. -/
theorem cond1_iff (a b : ℕ) (ha : a ≤ 1536) (hb : b ≤ 1536) :
    k1_cond1 (BitVec.ofNat 32 a) (BitVec.ofNat 32 b) = 1#1 ↔ a < b := by
  have hs : (BitVec.ofNat 32 a).slt (BitVec.ofNat 32 b) = decide (a < b) := by
    rw [BitVec.slt_eq_decide]
    have e : ∀ n : ℕ, n ≤ 1536 → (BitVec.ofNat 32 n).toInt = (n : ℤ) := fun n hn => by
      rw [BitVec.toInt_eq_toNat_of_lt (by rw [BitVec.toNat_ofNat]; omega), BitVec.toNat_ofNat]; omega
    rw [e a ha, e b hb]; simp
  unfold k1_cond1
  dsimp only
  have h5 : Scalar.cmpi .sgt (BitVec.ofNat 32 b) (BitVec.ofNat 32 a) = BitVec.ofBool (decide (a < b)) := by
    rw [← hs]; rfl
  rw [h5]
  by_cases h : a < b <;> simp only [h, decide_true, decide_false] <;> decide

/-- The chunks of an expert. -/
theorem trips1 (a b : ℕ) (hab : a ≤ b) (hb : b ≤ 1536) :
    (k1_t1_loop (BitVec.ofNat 32 a) (BitVec.ofNat 32 b)).trips = (b - 16 * (a / 16) + 255) / 256 := by
  have hd : Scalar.subi (BitVec.ofNat 32 b) (BitVec.ofNat 32 (16 * (a / 16))) = BitVec.ofNat 32 (b - 16 * (a / 16)) := by
    apply BitVec.eq_of_toNat_eq; show (BitVec.ofNat 32 b - BitVec.ofNat 32 (16 * (a / 16))).toNat = _
    simp only [BitVec.toNat_sub, BitVec.toNat_ofNat]; omega
  rw [loop1_eq, first_eq ⟨a, by omega⟩]
  show Scf.trips 0#32 _ 1#32 = _
  dsimp only
  rw [hd, chunks_eq ⟨b - 16 * (a / 16), by omega⟩]
  exact trips_eq ⟨(b - 16 * (a / 16) + 255) / 256, by omega⟩

theorem trips2 (a b : ℕ) (hab : a ≤ b) (hb : b ≤ 1536) :
    (k1_t2_loop (BitVec.ofNat 32 a) (BitVec.ofNat 32 b)).trips = 0 := by
  have hd : Scalar.subi (BitVec.ofNat 32 b) (BitVec.ofNat 32 (16 * (a / 16))) = BitVec.ofNat 32 (b - 16 * (a / 16)) := by
    apply BitVec.eq_of_toNat_eq; show (BitVec.ofNat 32 b - BitVec.ofNat 32 (16 * (a / 16))).toNat = _
    simp only [BitVec.toNat_sub, BitVec.toNat_ofNat]; omega
  rw [loop2_eq, first_eq ⟨a, by omega⟩]
  show Scf.trips _ _ 1#32 = _
  dsimp only
  rw [hd, chunks_eq ⟨b - 16 * (a / 16), by omega⟩, chunksEnd_eq ⟨b - 16 * (a / 16), by omega⟩]
  exact trips_self ⟨(b - 16 * (a / 16) + 255) / 256, by omega⟩

/-- The row of a chunk of an expert. -/
theorem rowAt_first (a k : ℕ) (ha : a ≤ 1536) (hk : k < 7) :
    (rowAt (first (BitVec.ofNat 32 a)) k).toNat = min (16 * (a / 16) + 256 * k) 1280 := by
  rw [first_eq ⟨a, by omega⟩]
  dsimp only
  rw [rowAt_eq ⟨a / 16, by omega⟩ ⟨k, hk⟩, BitVec.toNat_ofNat]
  dsimp only; omega

theorem rowAt_row (a k : ℕ) (ha : a ≤ 1536) (hk : k < 7) :
    (rowAt (first (BitVec.ofNat 32 a)) k).toNat + 256 ≤ 1536 ∧ 16 ∣ (rowAt (first (BitVec.ofNat 32 a)) k).toNat := by
  rw [rowAt_first a k ha hk]; omega

theorem loop1_ok : ∀ n : Fin 8, (⟨0#32, BitVec.ofNat 32 n, 1#32⟩ : Scf.Loop 32).OK := by decide +kernel
theorem loop2_ok : ∀ n : Fin 8, (⟨BitVec.ofNat 32 n, BitVec.ofNat 32 n, 1#32⟩ : Scf.Loop 32).OK := by decide +kernel

/-- Every side condition the body assumes, for an expert whose rows lie inside the array. -/
theorem chk1_of (a b : ℕ) (hab : a ≤ b) (hb : b ≤ 1536) : k1_chk1 (BitVec.ofNat 32 a) (BitVec.ofNat 32 b) := by
  have hd : Scalar.subi (BitVec.ofNat 32 b) (first (BitVec.ofNat 32 a)) = BitVec.ofNat 32 (b - 16 * (a / 16)) := by
    rw [first_eq ⟨a, by omega⟩]
    apply BitVec.eq_of_toNat_eq; show (BitVec.ofNat 32 b - BitVec.ofNat 32 (16 * (a / 16))).toNat = _
    simp only [BitVec.toNat_sub, BitVec.toNat_ofNat]; omega
  have hk : ∀ k : Fin (k1_t1_loop (BitVec.ofNat 32 a) (BitVec.ofNat 32 b)).trips, k.val < 7 := fun k => by
    have := k.isLt; have e := trips1 a b hab hb; omega
  have no : ∀ k : Fin (k1_t2_loop (BitVec.ofNat 32 a) (BitVec.ofNat 32 b)).trips, False := fun k => by
    have := k.isLt; have e := trips2 a b hab hb; omega
  have row := fun k => rowAt_row a (Fin.val k) (by omega) (hk k)
  refine ⟨fun _ => ?_, fun k _ => ?_, fun k _ => ?_, fun k _ => ?_, fun k _ => ?_, fun k _ hinb => ?_, fun _ => ?_,
    fun k => (no k).elim, fun k => (no k).elim, fun k => (no k).elim, fun k => (no k).elim, fun k => (no k).elim⟩
  · rw [loop1_eq, hd, chunks_eq ⟨b - 16 * (a / 16), by omega⟩]
    exact loop1_ok ⟨(b - 16 * (a / 16) + 255) / 256, by omega⟩
  · rw [mult1_eq]; exact (row k).2
  · rw [off4_eq]; exact Fin.forall_fin_two.mpr ⟨(row k).1, Nat.le_refl _⟩
  · rw [off5_eq]; exact Fin.forall_fin_two.mpr ⟨(row k).1, by show 0 + 1 ≤ 128; omega⟩
  · rw [off6_eq]; exact Fin.forall_fin_two.mpr ⟨(row k).1, Nat.le_refl _⟩
  · refine Or.inr ⟨by decide, by rfl, Or.inl ⟨?_, ?_⟩⟩
    · show _ ∣ k1_off6 _ _ k 0
      rw [off6_eq]; exact Nat.dvd_trans (by decide) (row k).2
    · show _ ∣ 256; decide
  · rw [loop2_eq, hd, chunks_eq ⟨b - 16 * (a / 16), by omega⟩, chunksEnd_eq ⟨b - 16 * (a / 16), by omega⟩]
    exact loop2_ok ⟨(b - 16 * (a / 16) + 255) / 256, by omega⟩

end Cert.KernelIdeal.Hand
-- ==== Proof.RelSeg.lean ====
module

public import Idealize.ShloMosaic.Lib.Pipeline.RegionArraysT
public import Idealize.ShloMosaic.Lib.Pipeline.DatRel
public import Idealize.ShloMosaic.Lib.Pipeline.RegionArraysF

/-! One kernel region of a program as a segment of its launch: the region is entered from every unscoped buffer at named contents, and
    left at those contents with the arrays of its windows changed to contents that its relational proof data allow. A pipeline may
    read prefetched tables, which it finds and leaves as they are. -/

@[expose] public section

noncomputable section

namespace Cert.Lib

open Idealize.ShloMosaic Idealize.ShloMosaic.TcCoe
open Idealize.SL
open Idealize.SL.BI (sProp bigSep bigSep_congr)
open scoped Idealize.SL.BI
open Idealize.SL.BI.BIBase Idealize.SL.BI.Laws Idealize.SL.Sem Idealize.SL.ProofMode
open Idealize.SL.RA
open Idealize.ShloMosaic.Rounds
open Idealize.ShloMosaic.Pipeline
open PCS

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P]

/-- The arrays after a region, as relational proof data leave them: at some contents, each allowed. -/
theorem arraysAt_rel [∀ e, Nonempty (Val e)] {cfg : Cfg sig Λ₀} {c : Dev nD} (dat : Dat τ Val Ix Name U Lvl cfg c) (fgt : Fin cfg.W → Bool)
    (Rl : (w : Fin cfg.W) → Fin cfg.N → ((cfg.win w).block.Idx → Val (cfg.win w).elt) → Prop) (n : Nat) :
    ((dat.toRRel fgt Rl).arraysAt n : sProp 𝕄) ⊢ iprop(∃ A : (w : Fin cfg.W) → Buf Val ((cfg.win w).arr.view.loc (c.tc : Thread nD τ)),
      ⌜∀ w, (dat.toRRel fgt Rl).ArrAt w n (A w)⌝ ∗ dat.arrays A) := by
  unfold RDat.arraysAt Dat.arrays
  refine (BI.bigSep_exists_pi Finset.univ _).trans ?_
  iintro ⟨%A, H⟩
  ihave H' := (BI.bigSep_pure_sep Finset.univ (fun w => (dat.toRRel fgt Rl).ArrAt w n (A w)) _) $$ H
  icases H' with ⟨%hA, H⟩
  iexists A
  isplitr
  · ipureintro; exact fun w => hA w (Finset.mem_univ w)
  iexact H

variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)
  (p : P)
  (fg : (q : P) → Fin (pin pcs a q).W → Bool)
  (Rl : (q : P) → (c : Dev nD) → (w : Fin (pin pcs a q).W) → Fin (pin pcs a q).N → (((pin pcs a q).win w).block.Idx → Val ((pin pcs a q).win w).elt) → Prop)

/-- The family read relationally. -/
abbrev rels : (q : P) → (c : Dev nD) → RDat τ Val Ix Name U Lvl (pin pcs a q) c := fun q c => (pdats q c).toRRel (fg q) (Rl q c)

/-- What rides beside the unscoped buffers: the generator register, and the core owing nothing. -/
abbrev rest (c : Dev nD) : sProp 𝕄 := iprop((∃ r, prngReg c r) ∗ ∃ Wd, owes (c : Thread nD τ) (0 : CellTallies nD τ sig Ix) Wd)

/-- A region as a segment, from the unscoped buffers at `W c` to the unscoped buffers at `mk c A` for some allowed `A`. -/
def relSeg [∀ e, Nonempty (Val e)] (kit : PLaunchFacts (nD := nD) (τ := τ) pcs p)
    (hbody : ∀ c, (rels pcs a pdats fg Rl p c).BodyObligation defs₀ 𝒱₀ ι Set.univ)
    (howed : ∀ c t, (pdats p c).owed t = 0) (hrec : ∀ c, (pdats p c).recorded 0 = Set.univ)
    (hshare : ∀ c w, (pdats p c).share w = fullShare)
    (W : Dev nD → Valuation τ sig Val)
    (hW : ∀ c w, (pdats p c).A w = W c (Proc.devRef .tc (arrRef (pin pcs a p).spec w)))
    (hT : ∀ c k, (a p).1 k = W c (Proc.devRef .tc ((pcs p).pre.ref k)))
    (hin : ∀ c : Dev nD, iprop((∃ r, prngReg c r) ∗ prefHeld (pcs p).pre c (fun _ => fullShare) (a p).1 ∗ scopedRest (pin pcs a p).spec c) ⊢ (pdats p c).Φ 0)
    (hout : ∀ c : Dev nD, (pdats p c).Φ (Fin.last (pin pcs a p).N) ⊢ iprop((∃ r, prngReg c r) ∗ prefHeld (pcs p).pre c (fun _ => fullShare) (a p).1 ∗ scopedRest (pin pcs a p).spec c))
    (mk : (c : Dev nD) → ((w : Fin (pin pcs a p).W) → Buf Val (((pin pcs a p).win w).arr.view.loc (c.tc : Thread nD τ))) → Valuation τ sig Val)
    (hmkA : ∀ c A, (∀ w, (rels pcs a pdats fg Rl p c).ArrAt w (pin pcs a p).N (A w)) → ∀ w, A w = mk c A (Proc.devRef .tc (arrRef (pin pcs a p).spec w)))
    (hmkO : ∀ c A, ∀ d ∈ ucRefs τ sig \ arrRefs (pcs p).spec, mk c A d = W c d) :
    RDat.RegionSeg pcs a (rels pcs a pdats fg Rl) ι defs₀ 𝒱₀ L lv p where
  win := kit.to₀.win
  block_pos := kit.block_pos
  stage_whole := kit.stage_whole
  K := PEmpty
  osem := fun k => k.elim
  ho := OwnSemFacts.none _
  hbody := hbody
  hwaits c := RDat.hwaits_of_owed_zero pcs a (rels pcs a pdats fg Rl) ι L lv p howed c
  pre c := iprop(StableHlo.held (c.tc : Thread nD τ) (ucRefs τ sig) (W c) ∗ rest c)
  post c := iprop(∃ A, ⌜∀ w, (rels pcs a pdats fg Rl p c).ArrAt w (pin pcs a p).N (A w)⌝
    ∗ StableHlo.held (c.tc : Thread nD τ) (ucRefs τ sig) (mk c A) ∗ rest c)
  X c := iprop(∃ r, prngReg c r)
  Y c := iprop((∃ r, prngReg c r) ∗ prefHeld (pcs p).pre c (fun _ => fullShare) (a p).1)
  Z c := StableHlo.held (c.tc : Thread nD τ) ((ucRefs τ sig \ arrRefs (pcs p).spec) \ tblRefs (pcs p).pre) (W c)
  hentry c := by
    show _ ⊢ |={Set.univ}=> iprop((pdats p c).arrays (pdats p c).A ∗ prefHeld (pcs p).pre c (fun _ => fullShare) (a p).1
        ∗ (pdats p c).owesAt ι 0 ∗ _ ∗ _)
    rw [ownSems0_none, arrays_held pcs a pdats p kit c (hshare c) (pdats p c).A (W c) (hW c),
      prefHeld_held (pcs p).pre kit.pre.inj c (a p).1 (W c) (hT c),
      StableHlo.held_sub_split (c.tc : Thread nD τ) (arrRefs_sub_ucRefs (pcs p).spec kit.win.arr_unscoped) (W c),
      StableHlo.held_sub_split (c.tc : Thread nD τ) (tblRefs_sub_ucRefs_sdiff (pcs p).spec (pcs p).pre kit.pre.unscoped kit.pre.disj) (W c)]
    iintro ⟨⟨⟨Ha, Ht, Hr⟩, Hp, HO⟩, -, -⟩
    imodintro
    isplitl [Ha]; · iexact Ha
    isplitl [Ht]; · iexact Ht
    isplitl [HO]
    · unfold Dat.owesAt owesWithin Dat.bound
      rw [howed c 0, hrec c]
      icases HO with ⟨%Wd, HO⟩; iexists Wd; isplitr; · ipureintro; exact fun _ _ => Or.inl trivial
      iexact HO
    isplitl [Hp]; · iexact Hp
    iexact Hr
  hin c := hin c
  hout c := (hout c).trans (by
    rw [ownSems0_none]
    iintro ⟨Hp, Ht, Hr⟩
    isplitl [Hp Ht]; · isplitl [Hp] <;> iassumption
    isplitr; · iempintro
    iexact Hr)
  hexit c := by
    show iprop(((pdats p c).toRRel (fg p) (Rl p c)).arraysAt (pin pcs a p).N ∗ (pdats p c).owesAt ι (Fin.last (pin pcs a p).N) ∗ _ ∗ _) ⊢ _
    iintro ⟨Ha, HO, ⟨Hp, Ht⟩, Hr⟩
    ihave Ha := (arraysAt_rel (pdats p c) (fg p) (Rl p c) (pin pcs a p).N) $$ Ha
    icases Ha with ⟨%A, %hA, Ha⟩
    imodintro
    iexists A
    isplitr; · ipureintro; exact hA
    have hsub := tblRefs_sub_ucRefs_sdiff (τ := τ) (pcs p).spec (pcs p).pre kit.pre.unscoped kit.pre.disj
    rw [StableHlo.held_sub_split (c.tc : Thread nD τ) (arrRefs_sub_ucRefs (pcs p).spec kit.win.arr_unscoped) (mk c A),
      StableHlo.held_congr (c.tc : Thread nD τ) (S := ucRefs τ sig \ arrRefs (pcs p).spec) (hmkO c A),
      StableHlo.held_sub_split (c.tc : Thread nD τ) hsub (W c),
      ← arrays_held pcs a pdats p kit c (hshare c) A (mk c A) (hmkA c A hA),
      ← prefHeld_held (pcs p).pre kit.pre.inj c (a p).1 (W c) (hT c)]
    isplitl [Ha Ht Hr]
    · isplitl [Ha]; · iexact Ha
      isplitl [Ht]; · iexact Ht
      iexact Hr
    isplitl [Hp]; · iexact Hp
    unfold Dat.owesAt owesWithin
    rw [howed c (Fin.last _)]
    icases HO with ⟨%Wd, -, HO⟩; iexists Wd; iexact HO

end Cert.Lib

end
-- ==== Proof.KI.Body0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The quantiser's call: its body's triple, its proof data and its body obligation. The body reads one block of activations and
    stores the codes and the scales of that block; it leaves nothing else behind. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it (`V0`). -/
def iblk0 (c : Dev nD) (w : Fin cfg0.W) (t : Fin cfg0.N) : ((cfg0.win w).xblock (cfg0.grid.coords t)).Idx → Elt F (cfg0.win w).elt :=
  ((cfg0.win w).blk t).view.read (Elt F) (V0 m c (Pipeline.arrRef spec0 w))

/-- Input window 0's current staging buffer holds its block at every point, fetched there or not, for ANY proof
    data whose array is `V0`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V0 m c (Pipeline.arrRef spec0 0))
    (hafter : ∀ t, dat.after 0 t = iblk0 m c 0 t) (t : Fin cfg0.N) (d) : dat.before 0 t d = iblk0 m c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rq0 : Rect S256x2816 := Rect.unit (s := S256x2816) ![0, 0] S256x2816.size inb_S256x2816_S256x2816_0_0
abbrev rq1 : Rect S256x128 := Rect.unit (s := S256x128) ![0, 0] S256x128.size inb_S256x128_S256x128_0_0

/-! ## What the body leaves in each output window's buffer -/

/-! ### Values of the body that the stores' payloads, spelt out, would write more than once

    Each is a vector the body binds (often a part call's result), stated over the input windows' blocks and
    numbered on from the skeleton's payload functions (`k0_pay9` …, after `k0_pay8`), so that
    `out0_W` and the values after it name it instead of spelling it out (`unfold_out out0_W` opens a canon
    with them, `unfold_payloads` opens them with the payloads); the comment after each is the printed function's
    name for the value (a count appended where that name is bound again). -/

def k0_pay9 (x0 : Vec F S256x2816 .bf16) : IVec S256x1 32 :=
  k0_pay8 (k0_pay4 (View.ld x0 rq0)) (k0_pay5 (View.ld x0 rq0)) (k0_pay6 (View.ld x0 rq0)) k0_pay7 -- `v85`

/-- Window 1's staging buffer after the body, from the input windows' blocks: its 1 store as pieces, LAST FIRST. -/
def out0_1 (x0 : Vec F S256x2816 .bf16) : Vec F S256x2816 .bf16 :=
  View.canon [⟨rq0, k0_pay1 (k0_pay3 (View.ld x0 rq0)) (k0_pay9 x0)⟩]

/-- Its stores tile the buffer (checked by evaluation), so they cover it. -/
theorem coverq1 (p0 : Vec F S256x2816 .bf16) (y : S256x2816.Idx) :
    ∃ pc ∈ ([⟨rq0, p0⟩] : List (View.Piece (Elt F) S256x2816 .bf16)), y ∈ pc.1.set :=
  View.cover_of_tiled [⟨rq0, p0⟩] S256x2816.size (by rfl) y

/-- Window 2's staging buffer after the body, from the input windows' blocks: its 1 store as pieces, LAST FIRST. -/
def out0_2 (x0 : Vec F S256x2816 .bf16) : Vec F S256x128 .f32 :=
  View.canon [⟨rq1, k0_pay2 (F := F) (k0_pay9 x0) 127#32⟩]

/-- Its stores tile the buffer (checked by evaluation), so they cover it. -/
theorem cover0_2 (p0 : Vec F S256x128 .f32) (y : S256x128.Idx) :
    ∃ pc ∈ ([⟨rq1, p0⟩] : List (View.Piece (Elt F) S256x128 .f32)), y ∈ pc.1.set :=
  View.cover_of_tiled [⟨rq1, p0⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x2816 .bf16) (harg1 : arg1.IsWhole) (arg2 : Memref sig .tc .vmem S256x2816 .bf16) (harg2 : arg2.IsWhole) (arg3 : Memref sig .tc .vmem S256x128 .f32) (harg3 : arg3.IsWhole)
    (x0 : Vec F S256x2816 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quantise i arg1 harg1 arg2 harg2 arg3 harg3) K := by
  simp only [cc0_quantise_eq_skeleton]; unfold cc0_quantise_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (coverq1 _)).trans ?_
    rfl
  iexists _; isplitr
  swap; · iexact H2
  ipureintro
  refine (View.read_writes_eq_canon _ _ _ (cover0_2 _)).trans ?_
  rfl

/-! ## The pipeline's proof data -/

/-- The proof data of the one pipeline on core `c`: the arrays as the region finds them (`V0`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V0 m c (Pipeline.arrRef spec0 w)
  after w t := match w with
    | ⟨0, _⟩ => iblk0 m c 0 t
    | ⟨1, _⟩ => out0_1 (iblk0 m c 0 t)
    | ⟨2, _⟩ => out0_2 (iblk0 m c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A0_eq (c : Dev nD) (w : Fin cfg0.W) : (dat0 m c).A w = V0 m c (Pipeline.arrRef spec0 w) := by
  dsimp only [dat0]

/-- What the body leaves, window by window (the proof data's `match` reduced by `dsimp`, never `rfl`: Lib/Pipeline.lean `Dat`). -/
theorem afterq0 (c : Dev nD) (t : Fin cfg0.N) : (dat0 m c).after 0 t = iblk0 m c 0 t := by dsimp only [dat0]
theorem afterq1 (c : Dev nD) (t : Fin cfg0.N) : (dat0 m c).after 1 t = out0_1 (iblk0 m c 0 t) := by dsimp only [dat0]
theorem after0_2 (c : Dev nD) (t : Fin cfg0.N) : (dat0 m c).after 2 t = out0_2 (iblk0 m c 0 t) := by dsimp only [dat0]

/-- Each input's current staging buffer holds its block at every point, fetched there or not (`beforeK_W_of`). -/
theorem before0_0 (c : Dev nD) (t : Fin cfg0.N) (d) : (dat0 m c).before 0 t d = iblk0 m c 0 t :=
  before0_0_of m (dat0 m c) (A0_eq m c 0) (afterq0 m c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d)))

/-- and what it returns. -/
def bodyPost0 (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t))

/-- The body at any point: the inputs' memrefs hold their blocks (`before0_W`), so `sound_kernel0` applies; the invariant and
    the core's `owes` pass through unread. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0]
  rw [show (dat0 m c).Φ t.succ = (dat0 m c).Φ t.castSucc from rfl,
    show (dat0 m c).owesAt () t.succ = (dat0 m c).owesAt () t.castSucc from rfl,
    afterq0, afterq1, after0_2]
  iintro ⟨HΦ, Ho, ⟨%d0, H0⟩, ⟨%d1, H1⟩, ⟨%d2, H2⟩⟩
  iapply (sound_kernel0 c Set.univ (grid0.coords t) _ _ _ _ _ _ (iblk0 m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) m c) (defs₀ (F := F)) Variants.none () Set.univ := fun t => by
  rw [bigSep_W0, bigSep_W0, defs₀_row0]
  exact triple_restated (sound_body0 m c t) rfl .rfl fun _ => .rfl

end Cert.KernelIdeal.Hand

end
-- ==== Proof.KI.Body1.lean ====
/- The body of the grouped matrix product (the second call), run once at a symbolic grid point: what it leaves in the
   output block, given the blocks of its inputs and the two words of the offset table it reads. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.VecWindow
public import Idealize.ShloMosaic.Lib.Pipeline.ValueKit.Tiles

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body computes, on vectors -/

/-- The two words the body reads of the offset table: where the expert's rows start, -/
def rowStart (xt : Vec F S9 .i32) (i : grid1.Coords) : BitVec 32 :=
  View.ld xt (Rect.unit (s := S9) (k1_off2 i) S1.size (k1_off2_inb i)) (fun a => ⟨0, by fin_cases a; exact Nat.one_pos⟩)

/-- and where they end. -/
def rowEnd (xt : Vec F S9 .i32) (i : grid1.Coords) : BitVec 32 :=
  View.ld xt (Rect.unit (s := S9) (k1_off3 i) S1.size (k1_off3_inb i)) (fun a => ⟨0, by fin_cases a; exact Nat.one_pos⟩)

theorem wrow_inb (p : Fin 22) : ∀ a, (![0, 128 * (p.val / 2), 0] : Fin 3 → ℕ) a + S1x128x512.size a ≤ S1x1408x512.size a := by
  have := p.isLt
  intro a; fin_cases a
  · show 0 + 1 ≤ 1; omega
  · show 128 * (p.val / 2) + 128 ≤ 1408; omega
  · show 0 + 512 ≤ 512; omega

theorem srow_inb (p : Fin 22) : ∀ a, (![0, 11 * (p.val % 2) + p.val / 2, 0] : Fin 3 → ℕ) a + S1x1x512.size a ≤ S1x22x512.size a := by
  have := p.isLt
  intro a; fin_cases a
  · show 0 + 1 ≤ 1; omega
  · show 11 * (p.val % 2) + p.val / 2 + 1 ≤ 22; omega
  · show 0 + 512 ≤ 512; omega

theorem drow_inb (p : Fin 22) : ∀ a, (![128 * p.val, 0] : Fin 2 → ℕ) a + S128x512.size a ≤ S2816x512.size a := by
  have := p.isLt
  intro a; fin_cases a
  · show 128 * p.val + 128 ≤ 2816; omega
  · show 0 + 512 ≤ 512; omega

/-- One group of 128 rows of the dequantised weights: an even block is the low half of its bytes, an odd one the high half. -/
def deqRows (x6 : Vec F S1x1408x512 .i8) (x7 : Vec F S1x22x512 .f32) (p : Fin 22) : FVec F S128x512 .bf16 :=
  if p.val % 2 = 0 then
    k1_pay2 (View.ld x6 (Rect.unit (s := S1x1408x512) ![0, 128 * (p.val / 2), 0] S1x128x512.size (wrow_inb p)))
      (View.ld x7 (Rect.unit (s := S1x22x512) ![0, 11 * (p.val % 2) + p.val / 2, 0] S1x1x512.size (srow_inb p)))
  else
    k1_pay3 (View.ld x6 (Rect.unit (s := S1x1408x512) ![0, 128 * (p.val / 2), 0] S1x128x512.size (wrow_inb p)))
      (View.ld x7 (Rect.unit (s := S1x22x512) ![0, 11 * (p.val % 2) + p.val / 2, 0] S1x1x512.size (srow_inb p)))

/-- The dequantised weights of one block of columns of one expert: 22 groups of rows, the last written first. -/
def deqV (x6 : Vec F S1x1408x512 .i8) (x7 : Vec F S1x22x512 .f32) : Vec F S2816x512 .bf16 :=
  View.canon (List.ofFn fun k : Fin 22 =>
    (⟨Rect.unit (s := S2816x512) ![128 * k.rev.val, 0] S128x512.size (drow_inb k.rev), deqRows x6 x7 k.rev⟩ : View.Piece (Elt F) S2816x512 .bf16))

/-- The division of the first row by sixteen, and whether the signs of the two differ, as the body computes them. -/
def wq (v1 : BitVec 32) : BitVec 32 := Scalar.divsi v1 16#32
def ws (v1 : BitVec 32) : BitVec 1 :=
  Scalar.cmpi .ne (Scalar.subi (Scalar.extui (Scalar.cmpi .sgt v1 0#32)) (Scalar.extui (Scalar.cmpi .slt v1 0#32)) : BitVec 32)
    (Scalar.subi (Scalar.extui (Scalar.cmpi .sgt 16#32 0#32)) (Scalar.extui (Scalar.cmpi .slt 16#32 0#32)))

/-- The output block after `k` chunks of rows, from `y`: each chunk's product is put over the rows of the expert in its window. -/
def accV (x4 : Vec F S1536x2816 .bf16) (x5 : Vec F S1536x128 .f32) (x9 : Vec F S2816x512 .bf16) (v1 v4 : BitVec 32)
    (hw : k1_chk1 v1 v4) (h1 : k1_cond1 v1 v4 = 1#1) (y : Vec F S1536x512 .bf16) : ℕ → Vec F S1536x512 .bf16
  | 0 => y
  | k + 1 => if h : k < (k1_t1_loop v1 v4).trips then
      VecWindow.put (accV x4 x5 x9 v1 v4 hw h1 y k) (k1_off6 v1 v4 ⟨k, h⟩) S256x512.size
        (k1_pay43 v1 v4 16#32 (wq v1) (ws v1) ⟨k, h⟩
          (View.ld x4 (Rect.unit (s := S1536x2816) (k1_off4 v1 v4 ⟨k, h⟩) S256x2816.size (k1_off4_inb v1 v4 hw ⟨k, h⟩ h1))) x9
          (View.ld x5 (Rect.unit (s := S1536x128) (k1_off5 v1 v4 ⟨k, h⟩) S256x1.size (k1_off5_inb v1 v4 hw ⟨k, h⟩ h1)))
          (View.ld (accV x4 x5 x9 v1 v4 hw h1 y k) (Rect.unit (s := S1536x512) (k1_off6 v1 v4 ⟨k, h⟩) S256x512.size (k1_off6_inb v1 v4 hw ⟨k, h⟩ h1))))
    else accV x4 x5 x9 v1 v4 hw h1 y k

/-- The output block after the body, from what it held before (`y`): nothing changes for an expert without rows. -/
def out1 (x4 : Vec F S1536x2816 .bf16) (x5 : Vec F S1536x128 .f32) (x6 : Vec F S1x1408x512 .i8) (x7 : Vec F S1x22x512 .f32) (v1 v4 : BitVec 32)
    (hw : k1_chk1 v1 v4) (y : Vec F S1536x512 .bf16) : Vec F S1536x512 .bf16 :=
  if h1 : k1_cond1 v1 v4 = 1#1 then accV x4 x5 (deqV x6 x7) v1 v4 hw h1 y (k1_t1_loop v1 v4).trips else y

/-! ## The loop's state is that recursion -/

section Loop

variable (𝒱 : Variants) (c : Dev nD) (bd : Option 𝒱.V) (i : grid1.Coords) (arg2 : Memref sig .tc .smem S9 .i32) (harg2 : arg2.IsWhole) (arg3 : Memref sig .tc .smem S8 .i32) (harg3 : arg3.IsWhole) (arg4 : Memref sig .tc .vmem S1536x2816 .bf16) (harg4 : arg4.IsWhole) (arg5 : Memref sig .tc .vmem S1536x128 .f32) (harg5 : arg5.IsWhole) (arg6 : Memref sig .tc .vmem S1x1408x512 .i8) (harg6 : arg6.IsWhole) (arg7 : Memref sig .tc .vmem S1x22x512 .f32) (harg7 : arg7.IsWhole) (arg8 : Memref sig .tc .vmem S1536x512 .bf16) (harg8 : arg8.IsWhole) (arg9 : Memref sig .tc .vmem S2816x512 .bf16) (harg9 : arg9.IsWhole)
  (v1 v4 : BitVec 32) (hw : k1_chk1 v1 v4) (h1 : k1_cond1 v1 v4 = 1#1)
  (X4 : BufTy.Contents (Elt F) arg4.view.ty) (X5 : BufTy.Contents (Elt F) arg5.view.ty) (X9 : BufTy.Contents (Elt F) arg9.view.ty)

theorem tripL_eq (c16 v371 : BitVec 32) (v382 : BitVec 1) (k : Fin (k1_t1_loop v1 v4).trips) (acc : BitVec 32) (G : BufTy.Contents (Elt F) arg8.view.ty) :
    tripL_k1_t1 (F := F) 𝒱 c bd i arg2 harg2 arg3 harg3 arg4 harg4 arg5 harg5 arg6 harg6 arg7 harg7 arg8 harg8 arg9 harg9 v1 v4 hw h1 c16 v371 v382 X4 X5 X9 k acc G
      = [⟨Rect.unit (s := S1536x512) (k1_off6 v1 v4 k) S256x512.size (k1_off6_inb v1 v4 hw k h1),
          k1_pay43 v1 v4 c16 v371 v382 k
            (View.ld (arg4.view.read (Elt F) X4) (Rect.unit (s := S1536x2816) (k1_off4 v1 v4 k) S256x2816.size (k1_off4_inb v1 v4 hw k h1)))
            (arg9.view.read (Elt F) X9)
            (View.ld (arg5.view.read (Elt F) X5) (Rect.unit (s := S1536x128) (k1_off5 v1 v4 k) S256x1.size (k1_off5_inb v1 v4 hw k h1)))
            (View.ld (arg8.view.read (Elt F) G) (Rect.unit (s := S1536x512) (k1_off6 v1 v4 k) S256x512.size (k1_off6_inb v1 v4 hw k h1)))⟩] := by
  unfold tripL_k1_t1 trip_k1_t1
  have e9 : arg9.view.readAt (Elt F) (Rect.unit (s := S2816x512) ![0, 0] S2816x512.size inb_S2816x512_S2816x512_0_0).toLoadRect X9 = arg9.view.read (Elt F) X9 :=
    View.readAt_full _ _ _
  rw [← e9]
  rfl

theorem st_eq (G : BufTy.Contents (Elt F) arg8.view.ty) (init : BitVec 32) : ∀ k : ℕ, k ≤ (k1_t1_loop v1 v4).trips →
    arg8.view.read (Elt F) (arg8.view.writes (Elt F) G
        (st_k1_t1 (F := F) 𝒱 c bd i arg2 harg2 arg3 harg3 arg4 harg4 arg5 harg5 arg6 harg6 arg7 harg7 arg8 harg8 arg9 harg9 v1 v4 hw h1 16#32 (wq v1) (ws v1) X4 X5 X9 G init k).2)
      = accV (arg4.view.read (Elt F) X4) (arg5.view.read (Elt F) X5) (arg9.view.read (Elt F) X9) v1 v4 hw h1 (arg8.view.read (Elt F) G) k
  | 0, _ => rfl
  | k + 1, hk => by
    have ih := st_eq G init k (Nat.le_of_succ_le hk)
    rw [st_k1_t1_succ (F := F) 𝒱 c bd i arg2 harg2 arg3 harg3 arg4 harg4 arg5 harg5 arg6 harg6 arg7 harg7 arg8 harg8 arg9 harg9 v1 v4 hw h1 16#32 (wq v1) (ws v1) X4 X5 X9 G init ⟨k, hk⟩, accV, dif_pos (show k < (k1_t1_loop v1 v4).trips from hk)]
    dsimp only
    rw [tripL_eq]
    rw [List.singleton_append, View.read_writes_cons_put _ _ _ _ _ rfl, ih]

end Loop

theorem out1_of_cond (x4 : Vec F S1536x2816 .bf16) (x5 : Vec F S1536x128 .f32) (x6 : Vec F S1x1408x512 .i8) (x7 : Vec F S1x22x512 .f32) (v1 v4 : BitVec 32)
    (hw : k1_chk1 v1 v4) (y : Vec F S1536x512 .bf16) (h1 : k1_cond1 v1 v4 = 1#1) :
    out1 x4 x5 x6 x7 v1 v4 hw y = accV x4 x5 (deqV x6 x7) v1 v4 hw h1 y (k1_t1_loop v1 v4).trips := dif_pos h1

theorem out1_of_not (x4 : Vec F S1536x2816 .bf16) (x5 : Vec F S1536x128 .f32) (x6 : Vec F S1x1408x512 .i8) (x7 : Vec F S1x22x512 .f32) (v1 v4 : BitVec 32)
    (hw : k1_chk1 v1 v4) (y : Vec F S1536x512 .bf16) (h1 : ¬ k1_cond1 v1 v4 = 1#1) : out1 x4 x5 x6 x7 v1 v4 hw y = y := dif_neg h1

/-! ## The body's triple -/

/-- The 22 groups of rows cover the dequantised block. -/
theorem cover9 (P : Fin 22 → Vec F S128x512 .bf16) (y : S2816x512.Idx) :
    ∃ pc ∈ (List.ofFn fun k : Fin 22 => (⟨Rect.unit (s := S2816x512) ![128 * k.rev.val, 0] S128x512.size (drow_inb k.rev), P k⟩ : View.Piece (Elt F) S2816x512 .bf16)), y ∈ pc.1.set := by
  have h0 : (y 0).val < 2816 := (y 0).isLt
  have h1 : (y 1).val < 512 := (y 1).isLt
  let p : Fin 22 := ⟨(y 0).val / 128, by omega⟩
  refine ⟨_, (List.mem_ofFn).mpr ⟨p.rev, rfl⟩, ?_⟩
  show y ∈ (Rect.unit (s := S2816x512) ![128 * p.rev.rev.val, 0] S128x512.size (drow_inb p.rev.rev)).set
  refine Rect.mem_set_unit.mpr ?_
  rw [Fin.rev_rev]
  intro a; fin_cases a
  · show 128 * ((y 0).val / 128) ≤ (y 0).val ∧ (y 0).val < 128 * ((y 0).val / 128) + 128; omega
  · show 0 ≤ (y 1).val ∧ (y 1).val < 0 + 512; omega

set_option maxHeartbeats 4000000 in
/-- The body on whole memrefs, its inputs at read contents and the output block at `y8`, runs to the continuation holding the
    inputs as they were and the output block at `out1` of them; the scratch block is left at anything. -/
theorem sound_kernel1 (c : Dev nD) (E : Set ℕ) (i : grid1.Coords) (arg2 : Memref sig .tc .smem S9 .i32) (harg2 : arg2.IsWhole) (arg3 : Memref sig .tc .smem S8 .i32) (harg3 : arg3.IsWhole) (arg4 : Memref sig .tc .vmem S1536x2816 .bf16) (harg4 : arg4.IsWhole) (arg5 : Memref sig .tc .vmem S1536x128 .f32) (harg5 : arg5.IsWhole) (arg6 : Memref sig .tc .vmem S1x1408x512 .i8) (harg6 : arg6.IsWhole) (arg7 : Memref sig .tc .vmem S1x22x512 .f32) (harg7 : arg7.IsWhole) (arg8 : Memref sig .tc .vmem S1536x512 .bf16) (harg8 : arg8.IsWhole) (arg9 : Memref sig .tc .vmem S2816x512 .bf16) (harg9 : arg9.IsWhole)
    (xt : Vec F S9 .i32) (x4 : Vec F S1536x2816 .bf16) (x5 : Vec F S1536x128 .f32) (x6 : Vec F S1x1408x512 .i8) (x7 : Vec F S1x22x512 .f32) (y8 : Vec F S1536x512 .bf16)
    (hw : k1_chk1 (rowStart xt i) (rowEnd xt i))
    (ht2 : (k1_t2_loop (rowStart xt i) (rowEnd xt i)).trips = 0)
    (K : PUnit → sProp 𝕄) :
    iprop(owns (c : Thread nD τ) arg2 fullShare xt ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare y8
        ∗ (∃ d, owns (c : Thread nD τ) arg9 fullShare d)
        ∗ (iprop(owns (c : Thread nD τ) arg2 fullShare xt ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare (out1 x4 x5 x6 x7 (rowStart xt i) (rowEnd xt i) hw y8)
        ∗ (∃ d, owns (c : Thread nD τ) arg9 fullShare d)) -∗ K ⟨⟩))
      ⊢ wp frame (wpE (defs₀ (F := F)) Variants.none c none) E (cc1_grouped_matmul i arg2 harg2 arg3 harg3 arg4 harg4 arg5 harg5 arg6 harg6 arg7 harg7 arg8 harg8 arg9 harg9) K := by
  simp only [cc1_grouped_matmul_eq_skeleton]; unfold cc1_grouped_matmul_skel
  simp only [k1_part11_eq_skeleton]; unfold k1_part11_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%ft, %hft, Ht⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  sl_exec
  have e1 : sound_kernel1.sl.r c i arg2 ft = rowStart xt i := by rw [← hft]; rfl
  have e4 : sound_kernel1.sl.r_1 c i arg2 ft = rowEnd xt i := by rw [← hft]; rfl
  rw [e1, e4]
  revert hw ht2
  generalize rowStart xt i = v1
  generalize rowEnd xt i = v4
  intro hw ht2
  iapply (wp_assume _ _ _ _ hw)
  subst hft hf4 hf5 hf6 hf7 hf8
  by_cases h1 : k1_cond1 v1 v4 = 1#1
  · sl_exec
    rw [bind_assoc]
    sl_exec
    rw [bind_assoc]
    sl_exec
    sl_step
    iapply Hk
    isplitl [Ht]
    · iexists ft; isplitr; · ipureintro; rfl
      iexact Ht
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      have ht2' : Scf.trips (k1_t2_loop v1 v4).lb (k1_t2_loop v1 v4).ub (k1_t2_loop v1 v4).st = 0 := ht2
      rw [ht2', out1_of_cond _ _ _ _ _ _ _ _ h1]
      refine (st_eq Variants.none c none i arg2 harg2 arg3 harg3 arg4 harg4 arg5 harg5 arg6 harg6 arg7 harg7 arg8 harg8 arg9 harg9 v1 v4 hw h1 _ _ _ _ _ _ le_rfl).trans ?_
      congr 1
      refine (View.read_writes_eq_canon _ _ _ ?_).trans ?_
      · exact cover9 (fun k => deqRows (View.read (Elt F) arg6.view f6) (View.read (Elt F) arg7.view f7) k.rev)
      · rfl
    iexists _; iexists _; isplitr
    swap; · iexact H9
    ipureintro; rfl
  · sl_exec
    sl_step
    iapply Hk
    isplitl [Ht]
    · iexists ft; isplitr; · ipureintro; rfl
      iexact Ht
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr
      · ipureintro; exact (out1_of_not _ _ _ _ _ _ _ _ h1).symm
      iexact H8
    iexists _; iexists f9; isplitr
    · ipureintro; rfl
    iexact H9

end Cert.KernelIdeal.Hand

end
-- ==== Proof.KI.Obl1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.KI.Body1
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.DatRel

/-! The grouped product's call: its proof data and its body obligation. The four inputs are held to their blocks; of the output block
    the obligation states a relation `R4` of the caller's choosing, since the body reads that block before it writes it. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

variable (outs : Outs (F := F)) (a : (pcfg1 (F := F)).Adm)

/-- Window `w`'s block at point `t`, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V6 m outs c (Pipeline.arrRef spec1 w))

/-- The proof data: inputs left at their blocks (the output's entry is not read: that window is held to a relation); the invariant
    the scratch and the generator register, and the tables whole. -/
def dat1 (c : Dev nD) : Dat τ (Elt F) Unit ℕ (UR sig nD τ) ℕ (cfg1 a) c where
  A w := V6 m outs c (Pipeline.arrRef spec1 w)
  after w t := match w with
    | ⟨0, _⟩ => iblk1 m outs a c 0 t
    | ⟨1, _⟩ => iblk1 m outs a c 1 t
    | ⟨2, _⟩ => iblk1 m outs a c 2 t
    | ⟨3, _⟩ => iblk1 m outs a c 3 t
    | ⟨4, _⟩ => iblk1 m outs a c 4 t
  Φ _ := iprop(Pipeline.ΦA spec1 c ∗ Pipeline.prefHeld pre1 c (fun _ => fullShare) a.1)
  q _ := fullShare
  owed _ := 0

theorem A1_eq (c : Dev nD) (w : Fin (cfg1 a).W) : (dat1 m outs a c).A w = V6 m outs c (Pipeline.arrRef spec1 w) := by
  dsimp only [dat1]
theorem after1_0 (c : Dev nD) (t : Fin (cfg1 a).N) : (dat1 m outs a c).after 0 t = iblk1 m outs a c 0 t := rfl
theorem after1_1 (c : Dev nD) (t : Fin (cfg1 a).N) : (dat1 m outs a c).after 1 t = iblk1 m outs a c 1 t := rfl
theorem after1_2 (c : Dev nD) (t : Fin (cfg1 a).N) : (dat1 m outs a c).after 2 t = iblk1 m outs a c 2 t := rfl
theorem after1_3 (c : Dev nD) (t : Fin (cfg1 a).N) : (dat1 m outs a c).after 3 t = iblk1 m outs a c 3 t := rfl
theorem before1_0 (c : Dev nD) (t : Fin (cfg1 a).N) (d) : (dat1 m outs a c).before 0 t d = iblk1 m outs a c 0 t :=
  ((dat1 m outs a c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (c : Dev nD) (t : Fin (cfg1 a).N) (d) : (dat1 m outs a c).before 1 t d = iblk1 m outs a c 1 t :=
  ((dat1 m outs a c).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)
theorem before1_2 (c : Dev nD) (t : Fin (cfg1 a).N) (d) : (dat1 m outs a c).before 2 t d = iblk1 m outs a c 2 t :=
  ((dat1 m outs a c).before_in_eq_fetched 2 rfl (fun _ => rfl) (fun _ _ _ => rfl)
    (fun t => by rw [after1_2]; unfold Dat.blockOf iblk1; rw [A1_eq]; try rfl) t d).trans
    (by unfold Dat.fetched Dat.blockOf iblk1; rw [A1_eq]; try rfl)
theorem before1_3 (c : Dev nD) (t : Fin (cfg1 a).N) (d) : (dat1 m outs a c).before 3 t d = iblk1 m outs a c 3 t :=
  ((dat1 m outs a c).before_in_eq_fetched 3 rfl (fun _ => rfl) (fun _ _ _ => rfl)
    (fun t => by rw [after1_3]; unfold Dat.blockOf iblk1; rw [A1_eq]; try rfl) t d).trans
    (by unfold Dat.fetched Dat.blockOf iblk1; rw [A1_eq]; try rfl)

/-- The one window held to a relation: the output. -/
def fgt1 : Fin (cfg1 a).W → Bool := fun | ⟨4, _⟩ => true | _ => false

/-- The relation, by window. -/
def Rl1 (R4 : Fin (cfg1 a).N → Vec F S1536x512 .bf16 → Prop) :
    (w : Fin (cfg1 a).W) → Fin (cfg1 a).N → (((cfg1 a).win w).block.Idx → Elt F ((cfg1 a).win w).elt) → Prop :=
  fun w t X => match w, X with
    | ⟨4, _⟩, X => R4 t X
    | _, _ => True

/-- The relational proof data. -/
abbrev rdat1 (R4 : Dev nD → Fin (cfg1 a).N → Vec F S1536x512 .bf16 → Prop) (c : Dev nD) : RDat τ (Elt F) Unit ℕ (UR sig nD τ) ℕ (cfg1 a) c :=
  (dat1 m outs a c).toRRel (fgt1 a) (Rl1 a (R4 c))

/-- The words of the offset table at a point, and the side conditions of the body there. -/
abbrev okWords (a : (pcfg1 (F := F)).Adm) : Prop := ∀ i : grid1.Coords, k1_chk1 (rowStart (F := F) (a.1 0) i) (rowEnd (F := F) (a.1 0) i)
  ∧ (k1_t2_loop (rowStart (F := F) (a.1 0) i) (rowEnd (F := F) (a.1 0) i)).trips = 0

variable (hok : okWords a) (R4 : Dev nD → Fin (cfg1 a).N → Vec F S1536x512 .bf16 → Prop)

/-- What the body makes of the output block `Y` at point `t`. -/
def step1 (c : Dev nD) (t : Fin (cfg1 a).N) (Y : Vec F S1536x512 .bf16) : Vec F S1536x512 .bf16 :=
  out1 (F := F) (iblk1 m outs a c 0 t) (iblk1 m outs a c 1 t) (iblk1 m outs a c 2 t) (iblk1 m outs a c 3 t)
    (rowStart (F := F) (a.1 0) (grid1.coords t)) (rowEnd (F := F) (a.1 0) (grid1.coords t)) (hok (grid1.coords t)).1 Y

/-- The kernel body at point `t`, on what the pipeline calls it with. -/
abbrev bodyAt1 (t : Fin (cfg1 a).N) : Prog (TpuEff nD τ sig (Elt F) Λ₀ .tc) PUnit :=
  cc1_grouped_matmul (grid1.coords t) (Memref.whole main_v6) (Memref.isWhole_whole _) (Memref.whole main_v11) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (Memref.whole cc1_scratch0) (Memref.isWhole_whole _)

theorem defs₀_row1 (t : Fin (cfg1 a).N) :
    defs₀ (F := F) .tc (cfg1 a).body ((cfg1 a).bodyArgs t ((cfg1 a).slots t)) = bodyAt1 a t := by
  unfold defs₀; rw [Defs.onTc_tc]

theorem pref1_eq (c : Dev nD) : (Pipeline.prefHeld pre1 c (fun _ => fullShare) a.1 : sProp 𝕄)
    = iprop(owns (c : Thread nD τ) (Memref.whole main_v6) fullShare (a.1 0 : Vec F S9 .i32)
        ∗ owns (c : Thread nD τ) (Memref.whole main_v11) fullShare (a.1 1 : Vec F S8 .i32)) := by
  have e0 : (owns (c : Thread nD τ) (Memref.whole main_v6) fullShare (a.1 0 : Vec F S9 .i32) : sProp 𝕄)
      = ((c.tc : Thread nD τ).loc (pre1.ref 0)) ↦{fullShare} a.1 0 := owns_whole _ _ _ _
  have e1 : (owns (c : Thread nD τ) (Memref.whole main_v11) fullShare (a.1 1 : Vec F S8 .i32) : sProp 𝕄)
      = ((c.tc : Thread nD τ).loc (pre1.ref 1)) ↦{fullShare} a.1 1 := owns_whole _ _ _ _
  refine Eq.trans ?_ (congrArg₂ (fun p q : sProp 𝕄 => iprop(p ∗ q)) e0 e1).symm
  exact bigSep_univ_eq_bigSepL [(0 : Fin 2), (1 : Fin 2)] (by decide) (by decide) _

/-- The scratch's points-to as ownership of the whole memref. -/
theorem scratch_owns (c : Dev nD) (f : Vec F S2816x512 .bf16) :
    (owns (c : Thread nD τ) (Memref.whole cc1_scratch0) fullShare f : sProp 𝕄) = (((c : Thread nD τ).loc cc1_scratch0) ↦{fullShare} f) :=
  owns_whole _ _ _ _

/-- What the body is called with at point `t`, -/
def bodyPre1 (c : Dev nD) (t : Fin (cfg1 a).N) : sProp 𝕄 :=
  iprop((dat1 m outs a c).Φ t.castSucc ∗ (dat1 m outs a c).owesAt () t.castSucc
    ∗ (∃ d, owns (c : Thread nD τ) (((cfg1 a).win 0).stage ((cfg1 a).slots t 0)) fullShare ((dat1 m outs a c).before 0 t d))
    ∗ (∃ d, owns (c : Thread nD τ) (((cfg1 a).win 1).stage ((cfg1 a).slots t 1)) fullShare ((dat1 m outs a c).before 1 t d))
    ∗ (∃ d, owns (c : Thread nD τ) (((cfg1 a).win 2).stage ((cfg1 a).slots t 2)) fullShare ((dat1 m outs a c).before 2 t d))
    ∗ (∃ d, owns (c : Thread nD τ) (((cfg1 a).win 3).stage ((cfg1 a).slots t 3)) fullShare ((dat1 m outs a c).before 3 t d))
    ∗ (∃ Y, ⌜(rdat1 m outs a R4 c).Finds 4 t Y⌝ ∗ owns (c : Thread nD τ) (((cfg1 a).win 4).stage ((cfg1 a).slots t 4)) fullShare Y))

/-- and what it returns. -/
def bodyPost1 (c : Dev nD) (t : Fin (cfg1 a).N) : sProp 𝕄 :=
  iprop((dat1 m outs a c).Φ t.succ ∗ (dat1 m outs a c).owesAt () t.succ
    ∗ owns (c : Thread nD τ) (((cfg1 a).win 0).stage ((cfg1 a).slots t 0)) fullShare ((dat1 m outs a c).after 0 t)
    ∗ owns (c : Thread nD τ) (((cfg1 a).win 1).stage ((cfg1 a).slots t 1)) fullShare ((dat1 m outs a c).after 1 t)
    ∗ owns (c : Thread nD τ) (((cfg1 a).win 2).stage ((cfg1 a).slots t 2)) fullShare ((dat1 m outs a c).after 2 t)
    ∗ owns (c : Thread nD τ) (((cfg1 a).win 3).stage ((cfg1 a).slots t 3)) fullShare ((dat1 m outs a c).after 3 t)
    ∗ (∃ X, ⌜R4 c t X⌝ ∗ owns (c : Thread nD τ) (((cfg1 a).win 4).stage ((cfg1 a).slots t 4)) fullShare X))

/-- The step the caller owes: what the body makes of a block it may find is in the relation. -/
def Step1 : Prop := ∀ (c : Dev nD) (t : Fin (cfg1 a).N) (Y : Vec F S1536x512 .bf16),
  (rdat1 m outs a R4 c).Finds 4 t Y → R4 c t (step1 m outs a hok c t Y)

set_option maxHeartbeats 1000000 in
theorem sound_body1 (hstep : Step1 m outs a hok R4) (c : Dev nD) (t : Fin (cfg1 a).N) :
    bodyPre1 m outs a R4 c t ⊢ wp frame (wpE (defs₀ (F := F)) Variants.none c none) Set.univ (bodyAt1 a t) (fun _ => bodyPost1 m outs a R4 c t) := by
  unfold bodyPre1 bodyPost1 bodyAt1
  simp only [before1_0, before1_1, before1_2, before1_3]
  rw [show (dat1 m outs a c).Φ t.succ = (dat1 m outs a c).Φ t.castSucc from rfl,
    show (dat1 m outs a c).owesAt () t.succ = (dat1 m outs a c).owesAt () t.castSucc from rfl,
    after1_0, after1_1, after1_2, after1_3,
    show (dat1 m outs a c).Φ t.castSucc = iprop(Pipeline.ΦA spec1 c ∗ Pipeline.prefHeld pre1 c (fun _ => fullShare) a.1) from rfl,
    pref1_eq]
  unfold Pipeline.ΦA
  rw [scopedRest1_eq]
  iintro ⟨⟨⟨⟨S0, S1, S2, S3, S4, S5, Hs⟩, Hp⟩, ⟨HT, HT1⟩⟩, Ho, ⟨%d0, H0⟩, ⟨%d1, H1⟩, ⟨%d2, H2⟩, ⟨%d3, H3⟩, ⟨%Y, %hY, H4⟩⟩
  iapply (sound_kernel1 c Set.univ (grid1.coords t) _ _ _ _ _ _ _ _ _ _ _ _ _ _ _ _ (a.1 0) (iblk1 m outs a c 0 t) (iblk1 m outs a c 1 t)
    (iblk1 m outs a c 2 t) (iblk1 m outs a c 3 t) Y (hok (grid1.coords t)).1 (hok (grid1.coords t)).2 _)
  isplitl [HT]; · iexact HT
  isplitl [H0]; · iexact H0
  isplitl [H1]; · iexact H1
  isplitl [H2]; · iexact H2
  isplitl [H3]; · iexact H3
  isplitl [H4]; · iexact H4
  isplitl [Hs]
  · icases Hs with ⟨%f, Hs⟩
    iexists f
    iapply (BI.BIBase.Entails.of_eq (scratch_owns c f).symm)
    iexact Hs
  iintro ⟨HT, H0, H1, H2, H3, H4, ⟨%f, Hs⟩⟩
  isplitl [S0 S1 S2 S3 S4 S5 Hs Hp HT HT1]
  · isplitl [S0 S1 S2 S3 S4 S5 Hs Hp]
    · isplitl [S0 S1 S2 S3 S4 S5 Hs]
      · isplitl [S0]; · iexact S0
        isplitl [S1]; · iexact S1
        isplitl [S2]; · iexact S2
        isplitl [S3]; · iexact S3
        isplitl [S4]; · iexact S4
        isplitl [S5]; · iexact S5
        iexists f
        iapply (BI.BIBase.Entails.of_eq (scratch_owns c f))
        iexact Hs
      iexact Hp
    isplitl [HT]; · iexact HT
    iexact HT1
  isplitl [Ho]; · iexact Ho
  isplitl [H0]; · iexact H0
  isplitl [H1]; · iexact H1
  isplitl [H2]; · iexact H2
  isplitl [H3]; · iexact H3
  iexists _
  isplitr
  swap; · iexact H4
  ipureintro
  exact hstep c t Y hY

theorem body_obligation1 (hstep : Step1 m outs a hok R4) (c : Dev nD) :
    Pipeline.BodyObligationRel (dat1 m outs a c) (defs₀ (F := F)) Variants.none () Set.univ (fgt1 a) (Rl1 a (R4 c)) := fun t => by
  rw [defs₀_row1]
  rw [show (Finset.univ : Finset (Fin (cfg1 a).W)) = (Finset.univ : Finset (Fin 5)) from rfl, bigSep_W1, bigSep_W1]
  exact triple_restated (sound_body1 m outs a hok R4 hstep c t) rfl .rfl fun _ => .rfl

/-- The obligation as the launch takes it. -/
theorem robligation1 (hstep : Step1 m outs a hok R4) (c : Dev nD) :
    (rdat1 m outs a R4 c).BodyObligation (defs₀ (F := F)) Variants.none () Set.univ :=
  (body_obligation1 m outs a hok R4 hstep c).toRRel

end Cert.KernelIdeal.Hand

end
-- ==== Proof.KI.Launch1.lean ====
module

public import proofs.«01_k».proof.Proof.RelSeg
public import proofs.«01_k».proof.Proof.KI.Body0
public import proofs.«01_k».proof.Proof.KI.Obl1
public import Idealize.ShloMosaic.Lib.Pipeline.ArrRel
public import Idealize.ShloMosaic.Lib.Pipeline.RegionArraysS
public import Idealize.ShloMosaic.Lib.Pipeline.FrameTail

/-! The launch of the whole program: the quantiser's region, the host's stretches, and the grouped product's region, whose output block
    is held to a relation. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf HostSeg)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the quantiser's region leaves in each buffer. -/
def outs0 : Outs (F := F) := fun _ r c => Pipeline.afterRegion (dat0 m c) (V0 m c) (Proc.devRef .tc r)

theorem V1_outs0 (c : Dev nD) (r : Ref sig .tc) : V1 m (outs0 m) c (Proc.devRef .tc r) = Pipeline.afterRegion (dat0 m c) (V0 m c) (Proc.devRef .tc r) := by
  by_cases h0 : r = main_v0_0
  · subst h0
    unfold V1
    rw [Function.update_of_ne (StableHlo.devRef_ne_of_ne (by decide)), Function.update_self]
    rfl
  by_cases h1 : r = main_v0_1
  · subst h1
    unfold V1
    rw [Function.update_self]
    rfl
  rw [V1_of m (outs0 m) c r (by simp [h0, h1])]
  symm
  refine Pipeline.afterRegion_keeps (dat0 m c) (V0 m c) (launch0 (F := F)).win.arr_inj (A0_eq m c) r fun w hw => ?_
  match w with
  | ⟨0, _⟩ => rfl
  | ⟨1, _⟩ => exact absurd hw.symm h0
  | ⟨2, _⟩ => exact absurd hw.symm h1

/-- The tables' contents, for both pipelines (the first has none). -/
def adms (a : (pcfg1 (F := F)).Adm) : (p : Fin 2) → (pcfgs (F := F) p).Adm := fun
  | ⟨0, _⟩ => cfg0.toPCfg_adm
  | ⟨1, _⟩ => a

variable (a : (pcfg1 (F := F)).Adm)

/-- The two regions' proof data. -/
def pds : (p : Fin 2) → (c : Dev nD) → Dat τ (Elt F) Unit ℕ (UR sig nD τ) ℕ (Pipeline.pin (pcfgs (F := F)) (adms a) p) c := fun
  | ⟨0, _⟩ => fun c => dat0 m c
  | ⟨1, _⟩ => fun c => dat1 m (outs0 m) a c

/-- Which windows are held to a relation: the grouped product's output. -/
def fgs : (p : Fin 2) → Fin (Pipeline.pin (pcfgs (F := F)) (adms a) p).W → Bool := fun
  | ⟨0, _⟩ => fun _ => false
  | ⟨1, _⟩ => fgt1 a

variable (R4 : Dev nD → Fin (cfg1 a).N → Vec F S1536x512 .bf16 → Prop)

/-- The relations. -/
def rls : (p : Fin 2) → (c : Dev nD) → (w : Fin (Pipeline.pin (pcfgs (F := F)) (adms a) p).W) → Fin (Pipeline.pin (pcfgs (F := F)) (adms a) p).N →
    (((Pipeline.pin (pcfgs (F := F)) (adms a) p).win w).block.Idx → Elt F ((Pipeline.pin (pcfgs (F := F)) (adms a) p).win w).elt) → Prop := fun
  | ⟨0, _⟩ => fun _ _ _ _ => True
  | ⟨1, _⟩ => fun c => Rl1 a (R4 c)

abbrev L0 : GSem nD τ sig → Finset Unit := fun _ => ∅
abbrev lv0 : GSem nD τ sig → Unit → ℕ := fun _ _ => 0

/-- The quantiser's region as a segment. -/
def R0 : RDat.RegionSeg (pcfgs (F := F)) (adms a) (Lib.rels (pcfgs (F := F)) (adms a) (pds m a) (fgs a) (rls a R4)) () defs₀ Variants.none L0 lv0 0 :=
  Lib.relSeg (pcfgs (F := F)) (adms a) (pds m a) () defs₀ Variants.none L0 lv0 0 (fgs a) (rls a R4) launch0
    (hbody := fun c => (body_obligation0 m c).toR)
    (howed := fun _ _ => rfl) (hrec := fun _ => rfl) (hshare := fun c w => by
      match w with
      | ⟨0, _⟩ => rfl
      | ⟨1, _⟩ => rfl
      | ⟨2, _⟩ => rfl)
    (W := V0 m) (hW := fun c w => A0_eq m c w) (hT := fun c k => k.elim0)
    (hin := fun c => (show _ ⊢ Pipeline.ΦA spec0 c from by
      unfold Pipeline.ΦA; iintro ⟨Hp, -, Hr⟩
      isplitl [Hr] <;> iassumption))
    (hout := fun c => (show Pipeline.ΦA spec0 c ⊢ _ from by
      rw [Pipeline.prefHeld_of_none _ rfl]
      unfold Pipeline.ΦA; iintro ⟨Hr, Hp⟩
      isplitl [Hp]; · iexact Hp
      isplitr; · iempintro
      iexact Hr))
    (mk := fun c _ => V1 m (outs0 m) c)
    (hmkA := fun c A hA w => ((dat0 m c).toR_arrAt w _ _ (hA w)).trans
      ((Pipeline.afterRegion_arr (dat0 m c) (V0 m c) (launch0 (F := F)).win.arr_inj w).symm.trans (V1_outs0 m c _).symm))
    (hmkO := fun c A d hd => by
      have h0 : d ≠ Proc.devRef .tc main_v0_0 := fun e => (Finset.mem_sdiff.mp hd).2 (e ▸ Finset.mem_map.mpr ⟨_, Finset.mem_image.mpr ⟨1, Finset.mem_univ _, rfl⟩, rfl⟩)
      have h1 : d ≠ Proc.devRef .tc main_v0_1 := fun e => (Finset.mem_sdiff.mp hd).2 (e ▸ Finset.mem_map.mpr ⟨_, Finset.mem_image.mpr ⟨2, Finset.mem_univ _, rfl⟩, rfl⟩)
      show Function.update (Function.update (V0 m c) _ _) _ _ d = _
      rw [Function.update_of_ne h1, Function.update_of_ne h0])

/-- The tables the second region reads are `a`'s contents. -/
abbrev TablesAt : Prop := ∀ (c : Dev nD) (k : Fin 2), a.1 k = V6 m (outs0 m) c (Proc.devRef .tc (pre1.ref k))

theorem arrAt1_in (c : Dev nD) (w : Fin (cfg1 a).W) (hw : ((cfg1 a).win w).isOut = false)
    (A : Buf (Elt F) (((cfg1 a).win w).arr.view.loc (c.tc : Thread nD τ)))
    (hA : (rdat1 m (outs0 m) a R4 c).ArrAt w (cfg1 a).N A) : A = V6 m (outs0 m) c (Proc.devRef .tc (Pipeline.arrRef spec1 w)) := by
  obtain ⟨X, -, h⟩ := hA.exists_exact
  rw [h (fun w' t => if e : w = w' then e ▸ X t else (dat1 m (outs0 m) a c).after w' t) fun u _ _ => by simp, Dat.arrAt_in _ w hw]
  exact A1_eq m (outs0 m) a c w

/-- The buffers after the second region, its output at `Y`. -/
def mk1 (c : Dev nD) (Y : Buf (Elt F) ((c.tc : Thread nD τ).loc main_v12)) : Valuation τ sig (Elt F) :=
  Function.update (V6 m (outs0 m) c) (Proc.devRef .tc main_v12) Y

theorem mk1_self (c : Dev nD) (Y : Buf (Elt F) ((c.tc : Thread nD τ).loc main_v12)) : mk1 m c Y (Proc.devRef .tc main_v12) = Y :=
  Function.update_self _ _ _

theorem mk1_of (c : Dev nD) (Y : Buf (Elt F) ((c.tc : Thread nD τ).loc main_v12)) (r : Ref sig .tc) (h : r ≠ main_v12) :
    mk1 m c Y (Proc.devRef .tc r) = V6 m (outs0 m) c (Proc.devRef .tc r) :=
  Function.update_of_ne (StableHlo.devRef_ne_of_ne h) _ _

theorem in_ne : ∀ w : Fin 5, w ≠ 4 → Pipeline.arrRef spec1 w ≠ main_v12 := by decide

theorem isOut1 (w : Fin 5) (h : w ≠ 4) : ((cfg1 a).win w).isOut = false := by
  match w, h with
  | ⟨0, _⟩, _ => rfl
  | ⟨1, _⟩, _ => rfl
  | ⟨2, _⟩, _ => rfl
  | ⟨3, _⟩, _ => rfl
  | ⟨4, _⟩, h => exact absurd rfl h

theorem mkA1 (c : Dev nD) (A : (w : Fin (cfg1 a).W) → Buf (Elt F) (((cfg1 a).win w).arr.view.loc (c.tc : Thread nD τ)))
    (hA : ∀ w, (rdat1 m (outs0 m) a R4 c).ArrAt w (cfg1 a).N (A w)) (w : Fin (cfg1 a).W) :
    A w = mk1 m c (A (4 : Fin 5)) (Proc.devRef .tc (Pipeline.arrRef spec1 w)) := by
  by_cases h : w = (4 : Fin 5)
  · rw [h]
    exact (mk1_self m c (A (4 : Fin 5))).symm
  · exact (arrAt1_in m a R4 c w (isOut1 a w h) _ (hA w)).trans (mk1_of m c _ _ (in_ne w h)).symm

/-- The grouped product's region as a segment. -/
def R1 (hT : TablesAt m a) (hok : okWords a) (hstep : Step1 m (outs0 m) a hok R4) :
    RDat.RegionSeg (pcfgs (F := F)) (adms a) (Lib.rels (pcfgs (F := F)) (adms a) (pds m a) (fgs a) (rls a R4)) () defs₀ Variants.none L0 lv0 1 :=
  Lib.relSeg (pcfgs (F := F)) (adms a) (pds m a) () defs₀ Variants.none L0 lv0 1 (fgs a) (rls a R4) launch1
    (hbody := fun c => robligation1 m (outs0 m) a hok R4 hstep c)
    (howed := fun _ _ => rfl) (hrec := fun _ => rfl) (hshare := fun c w => by
      match w with
      | ⟨0, _⟩ => rfl
      | ⟨1, _⟩ => rfl
      | ⟨2, _⟩ => rfl
      | ⟨3, _⟩ => rfl
      | ⟨4, _⟩ => rfl)
    (W := V6 m (outs0 m)) (hW := fun c w => A1_eq m (outs0 m) a c w) (hT := fun c k => hT c k)
    (hin := fun c => (show _ ⊢ iprop(Pipeline.ΦA spec1 c ∗ Pipeline.prefHeld pre1 c (fun _ => fullShare) a.1) from by
      unfold Pipeline.ΦA; iintro ⟨Hp, Ht, Hr⟩
      isplitl [Hr Hp]
      · isplitl [Hr] <;> iassumption
      iexact Ht))
    (hout := fun c => (show iprop(Pipeline.ΦA spec1 c ∗ Pipeline.prefHeld pre1 c (fun _ => fullShare) a.1) ⊢ _ from by
      unfold Pipeline.ΦA; iintro ⟨⟨Hr, Hp⟩, Ht⟩
      isplitl [Hp]; · iexact Hp
      isplitl [Ht]; · iexact Ht
      iexact Hr))
    (mk := fun c A => mk1 m c (A (4 : Fin 5)))
    (hmkA := fun c A hA w => mkA1 m a R4 c A hA w)
    (hmkO := fun c A d hd => by
      have h0 : d ≠ Proc.devRef .tc main_v12 := fun e => (Finset.mem_sdiff.mp hd).2 (e ▸ Finset.mem_map.mpr ⟨_, Finset.mem_image.mpr ⟨4, Finset.mem_univ _, rfl⟩, rfl⟩)
      exact Function.update_of_ne h0 _ _)

/-- What rides beside the buffers. -/
abbrev Erest : Fin 3 → Dev nD → sProp 𝕄 := fun _ c => Lib.rest c

/-- An argument's buffer, at the end. -/
theorem mk1_arg (c : Dev nD) (Y : Buf (Elt F) ((c.tc : Thread nD τ).loc main_v12)) (r : Ref sig .tc) (h : r ≠ main_v12)
    (hr : V7 m (outs0 m) c (Proc.devRef .tc r) = m ((c : Thread nD τ).loc r)) : mk1 m c Y (Proc.devRef .tc r) = m ((c : Thread nD τ).loc r) :=
  (mk1_of m c Y r h).trans ((V7_of m (outs0 m) c r (by simpa using h)).symm.trans hr)

set_option backward.isDefEq.respectTransparency.types false in
set_option maxHeartbeats 1000000 in
/-- The program runs from every memory at which the second region's tables are admissible: the arguments end as they were, the result is
    one that the grouped product's relation allows, and every semaphore is at zero. -/
theorem run_all (ρ : Dev nD → PrngReg) (hT : TablesAt m a) (hok : okWords a) (hstep : Step1 m (outs0 m) a hok R4) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ (rdat1 m (outs0 m) a R4 c).ArrAt (4 : Fin 5) (cfg1 a).N (r.2.mem ((c.tc : Thread nD τ).loc main_v12)))
      ∧ r.2.sem = fun _ => 0) := by
  refine RDat.θ_run_regions_kit_dev_sems (pcfgs (F := F)) (adms a) (Lib.rels (pcfgs (F := F)) (adms a) (pds m a) (fgs a) (rls a R4)) ()
    (cellOf_inj (adms a)) emb₁ defs₀ Variants.none L0 lv0 m ρ main
    (fun c => [.region (R0 m a R4), .host (seg1 m (outs0 m) Variants.none L0 lv0 Erest), .host (seg2 m (outs0 m) Variants.none L0 lv0 Erest),
      .host (seg3 m (outs0 m) Variants.none L0 lv0 Erest), .host (seg4 m (outs0 m) Variants.none L0 lv0 Erest),
      .host (seg5 m (outs0 m) Variants.none L0 lv0 Erest), .region (R1 m a R4 hT hok hstep)])
    (fun c Q => by
      rewrite [main_chain c, RDat.Seg.run_eq_chain,
        show (List.map RDat.Seg.prog [.region (R0 m a R4), .host (seg1 m (outs0 m) Variants.none L0 lv0 Erest), .host (seg2 m (outs0 m) Variants.none L0 lv0 Erest),
      .host (seg3 m (outs0 m) Variants.none L0 lv0 Erest), .host (seg4 m (outs0 m) Variants.none L0 lv0 Erest),
      .host (seg5 m (outs0 m) Variants.none L0 lv0 Erest), .region (R1 m a R4 hT hok hstep)]) = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      dsimp (config := { failIfUnchanged := false }) only
      exact .rfl)
    (fun c => by simp only [RDat.Seg.pipes_host, RDat.Seg.pipes_region, RDat.Seg.pipes_nil]; decide)
    (O₀ := 0) (hL := fun _ _ => rfl)
    (G := fun _ => iprop(emp)) (u₀ := initOf (Pipeline.cells (Pipeline.pin (pcfgs (F := F)) (adms a)) (cellOf_inj (adms a))) (Pipeline.launchToks (Pipeline.pin (pcfgs (F := F)) (adms a)) (cellOf_inj (adms a))))
    (hu₀ := by
      iintro Hu; imodintro
      isplitl [Hu]
      · iapply (show (ownU _ : sProp 𝕄) ⊢ BI.own (emb₁ (initOf (Pipeline.cells (Pipeline.pin (pcfgs (F := F)) (adms a)) (cellOf_inj (adms a))) (Pipeline.launchToks (Pipeline.pin (pcfgs (F := F)) (adms a)) (cellOf_inj (adms a))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V0 m c) ∗ Lib.rest c))
    (Tₙ := fun c => iprop(∃ Y : Buf (Elt F) ((c.tc : Thread nD τ).loc main_v12), ⌜(rdat1 m (outs0 m) a R4 c).ArrAt (4 : Fin 5) (cfg1 a).N Y⌝
      ∗ StableHlo.held (c.tc : Thread nD τ) (Pipeline.ucRefs τ sig) (mk1 m c Y)))
    (hch := fun c => ⟨.rfl, ?_, .rfl, .rfl, .rfl, .rfl, .rfl, ?_⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
      ∧ (rdat1 m (outs0 m) a R4 c).ArrAt (4 : Fin 5) (cfg1 a).N (s.mem ((c.tc : Thread nD τ).loc main_v12)))
    (hfin := fun c s' => ?_) (hQ := fun _ h hz => ⟨h, funext fun g => hz g (.inr (regions_no_unscoped g.2))⟩)
  · show iprop(∃ A, ⌜_⌝ ∗ StableHlo.held (c.tc : Thread nD τ) (Pipeline.ucRefs τ sig) (V1 m (outs0 m) c) ∗ Lib.rest c) ⊢
      iprop(StableHlo.held (c.tc : Thread nD τ) (Pipeline.ucRefs τ sig) (V1 m (outs0 m) c) ∗ Lib.rest c)
    iintro ⟨%A, -, H⟩
    iexact H
  · show iprop(∃ A : (w : Fin (cfg1 a).W) → Buf (Elt F) (((cfg1 a).win w).arr.view.loc (c.tc : Thread nD τ)), ⌜∀ w, (rdat1 m (outs0 m) a R4 c).ArrAt w (cfg1 a).N (A w)⌝
        ∗ StableHlo.held (c.tc : Thread nD τ) (Pipeline.ucRefs τ sig) (mk1 m c (A (4 : Fin 5))) ∗ Lib.rest c) ⊢ _
    iintro ⟨%A, %hA, Hh, -, HO⟩
    isplitl [Hh]
    · iexists (A (4 : Fin 5))
      isplitr; · ipureintro; exact hA (4 : Fin 5)
      iexact Hh
    iexact HO
  · refine Pipeline.initEach L0 lv0 fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨⟨%Y, %hY, Hh⟩, HSI⟩
    ihave Hr := (pointsTo_read_all (Pipeline.ucRefs τ sig) (fun b => ((c : Thread nD τ).1, b)) (mk1 m c Y) s') $$ [Hh HSI]
    · isplitl [Hh] <;> iassumption
    icases Hr with ⟨%h, HSI⟩
    imodintro
    isplitr
    · ipureintro
      have h12 : s'.mem.mem ((c.tc : Thread nD τ).loc main_v12) = Y :=
        (h (Proc.devRef .tc main_v12) (Finset.mem_filter.mpr ⟨StableHlo.devRef_mem_tcRefs main_v12, by decide⟩)).trans (mk1_self m c Y)
      exact ⟨⟨(h (Proc.devRef .tc main_arg0) (Finset.mem_filter.mpr ⟨StableHlo.devRef_mem_tcRefs main_arg0, by decide⟩)).trans (mk1_arg m c Y main_arg0 (by decide) (V7_main_arg0 m (outs0 m) c)),
        (h (Proc.devRef .tc main_arg1) (Finset.mem_filter.mpr ⟨StableHlo.devRef_mem_tcRefs main_arg1, by decide⟩)).trans (mk1_arg m c Y main_arg1 (by decide) (V7_main_arg1 m (outs0 m) c)),
        (h (Proc.devRef .tc main_arg2) (Finset.mem_filter.mpr ⟨StableHlo.devRef_mem_tcRefs main_arg2, by decide⟩)).trans (mk1_arg m c Y main_arg2 (by decide) (V7_main_arg2 m (outs0 m) c)),
        (h (Proc.devRef .tc main_arg3) (Finset.mem_filter.mpr ⟨StableHlo.devRef_mem_tcRefs main_arg3, by decide⟩)).trans (mk1_arg m c Y main_arg3 (by decide) (V7_main_arg3 m (outs0 m) c))⟩,
        h12 ▸ hY⟩
    · iexact HSI

end Cert.KernelIdeal.Hand

end
-- ==== Proof.KI.Tables.lean ====
module

public import proofs.«01_k».proof.Proof.Groups
public import proofs.«01_k».proof.Proof.KI.Words1
public import proofs.«01_k».proof.Proof.KI.Launch1

/-! The two tables the grouped product's region reads: what the host's stretches leave in them, and that they are admissible. -/

@[expose] public section

set_option maxRecDepth 16384

noncomputable section

namespace Cert.KernelIdeal.Hand

open Idealize.ShloMosaic Idealize.ShloMosaic.TcCoe Idealize.ShloMosaic.Tactic
open Idealize.SL Idealize.SL.Sem
open Cert.KernelIdeal.Gen
open Cert.Groups

variable {F : FTy → Type} [FloatOps F]
variable (m : (ℓ : Loc nD τ sig) → Buf (Elt F) ℓ) (outs : Outs (F := F))

/-- The group sizes as launched. -/
abbrev gs (c : Dev nD) : IVec S8 32 := m ((c : Thread nD τ).loc main_arg1)

theorem V2_arg1 (c : Dev nD) : V2 m outs c main_arg1 = gs m c :=
  (V2_of m outs c main_arg1 (by decide)).trans ((V1_of m outs c main_arg1 (by decide)).trans rfl)

theorem V3_arg1 (c : Dev nD) : V3 m outs c main_arg1 = gs m c :=
  (V3_of m outs c main_arg1 (by decide)).trans (V2_arg1 m outs c)

section
variable (V : Valuation τ sig (Elt F))
theorem s1_v5 : (StableHlo.after hostOps1_1 V main_v5 : IVec S8 32) = Host.reduceWindow IntOp.addi ![8] ![1] ![7] ![0] (V main_arg1 : IVec S8 32) (broadcastInDim S_ ![] bcast_S_S_ (constantI S_ 32 0#32)) reduceWindows_S8_S8_w8s1p7_0 h_S_ := by
  after_results_simp
  simp only [StableHlo.TRef.ofBuf_toBuf]
  exact eq_of_heq (cast_heq _ _)
theorem s2_v6 : (StableHlo.after hostOps1_2 V main_v6 : IVec S9 32) = concatenate S9 0 [⟨S1, V main_v4⟩, ⟨S8, V main_v5⟩] concatenates_S1_S8_S9_d0 := by
  after_results_simp
theorem s2_v7 : (StableHlo.after hostOps1_2 V main_v7 : IVec S8 32) = iotaInDim S8 32 0 := by
  after_results_simp
theorem s0_v4 : (StableHlo.after hostOps1 V main_v4 : IVec S1 32) = broadcastInDim S1 ![] bcast_S_S1 (constantI S_ 32 0#32) := by
  after_results_simp
theorem s2_v9 : (StableHlo.after hostOps1_2 V main_v9 : IVec S8 1) = cmpi .sgt (V main_arg1 : IVec S8 32) (broadcastInDim S8 ![] bcast_S_S8 (constantI S_ 32 0#32)) := by
  after_results_simp
theorem s2_c1 : (StableHlo.after hostOps1_2 V main_c_1 : IVec S_ 32) = fun _ => 0#32 := by
  after_results_simp
  rfl
theorem s3_v10 : (StableHlo.after hostOps1_3 V main_v10 : IVec S8 32) = select (V main_v9 : IVec S8 1) (V main_v7 : IVec S8 32) (broadcastInDim S8 ![] bcast_S_S8 (V main_c_1 : IVec S_ 32)) := by
  after_results_simp
  rfl
theorem s4_v11 : (StableHlo.after hostOps1_4 V main_v11 : IVec S8 32) = Host.reduceWindow IntOp.maxsi ![8] ![1] ![7] ![0] (V main_v10 : IVec S8 32) (broadcastInDim S_ ![] bcast_S_S_ (constantI S_ 32 2147483648#32)) reduceWindows_S8_S8_w8s1p7_0 h_S_ := by
  after_results_simp
  simp only [StableHlo.TRef.ofBuf_toBuf]
  exact eq_of_heq (cast_heq _ _)
end

theorem V3_v5 (c : Dev nD) (i : Fin 8) : (V3 m outs c main_v5 : IVec S8 32) (Idealize.ShloMosaic.ix1 i) = fold8 IntOp.addi 0#32 (gs m c) i :=
  (congrFun (s1_v5 (V2 m outs c)) _).trans ((reduceWindow_eq _ _ _ _ _ i).trans (congrArg (fun x => fold8 IntOp.addi 0#32 x i) (V2_arg1 m outs c)))

theorem V6_v6 (c : Dev nD) : (V6 m outs c main_v6 : IVec S9 32) = concatenate S9 0 [⟨S1, V3 m outs c main_v4⟩, ⟨S8, V3 m outs c main_v5⟩] concatenates_S1_S8_S9_d0 :=
  (V6_of m outs c main_v6 (by decide)).trans ((V5_of m outs c main_v6 (by decide)).trans (s2_v6 (V3 m outs c)))

theorem V5_v10 (c : Dev nD) : (V5 m outs c main_v10 : IVec S8 32) = own (gs m c) := by
  refine (s3_v10 (V4 m outs c)).trans ?_
  have h9 : (V4 m outs c main_v9 : IVec S8 1) = _ := s2_v9 (V3 m outs c)
  have h7 : (V4 m outs c main_v7 : IVec S8 32) = _ := s2_v7 (V3 m outs c)
  have h1 : (V4 m outs c main_c_1 : IVec S_ 32) = _ := s2_c1 (V3 m outs c)
  have ha : (V3 m outs c main_arg1 : IVec S8 32) = gs m c := V3_arg1 m outs c
  rw [h9, h7, h1, ha]
  rfl

theorem V6_v11 (c : Dev nD) (i : Fin 8) : (V6 m outs c main_v11 : IVec S8 32) (Idealize.ShloMosaic.ix1 i) = fold8 IntOp.maxsi 2147483648#32 (own (gs m c)) i :=
  (congrFun (s4_v11 (V5 m outs c)) _).trans ((reduceWindow_eq _ _ _ _ _ i).trans (congrArg (fun x => fold8 IntOp.maxsi 2147483648#32 x i) (V5_v10 m outs c)))

/-- The offsets table's entries: the running sums of the sizes. -/
theorem V6_starts (c : Dev nD) (hg : Good (gs m c)) (k : Fin 9) : (V6 m outs c main_v6 : IVec S9 32) (Idealize.ShloMosaic.ix1 k) = BitVec.ofNat 32 (pre (gs m c) k.val) := by
  rw [V6_v6]
  refine Fin.cases ?_ (fun e => ?_) k
  · refine (concat_zero _ _ _).trans ?_
    have h4 : (V3 m outs c main_v4 : IVec S1 32) = _ := (V3_of m outs c main_v4 (by decide)).trans (s0_v4 (V1 m outs c))
    rw [h4]; rfl
  · refine (concat_succ _ _ _ e).trans ((V3_v5 m outs c e).trans ?_)
    exact cumsum_eq _ hg e

/-! ## The tables as the region is handed them -/

/-- The device the program runs on. -/
abbrev d0 : Dev nD := ⟨0, by decide⟩

theorem dev_eq (c : Dev nD) : c = d0 := Subsingleton.elim (α := Fin 1) c d0

/-- The two tables' contents. -/
def pf0 : pre1.Contents (Elt F) := fun k => V6 m outs d0 (Proc.devRef .tc (pre1.ref k))

theorem pf0_zero (k : Fin 9) (hg : Good (gs m d0)) : (pf0 m outs 0 : IVec S9 32) (Idealize.ShloMosaic.ix1 k) = BitVec.ofNat 32 (pre (gs m d0) k.val) :=
  V6_starts m outs d0 hg k

theorem pf0_one (i : Fin 8) : (pf0 m outs 1 : IVec S8 32) (Idealize.ShloMosaic.ix1 i) = fold8 IntOp.maxsi 2147483648#32 (own (gs m d0)) i :=
  V6_v11 m outs d0 i

/-- The grid's expert coordinate. -/
abbrev ex (i : grid1.Coords) : Fin 8 := i 1

/-- A table read at a one-element rectangle: the element at its offset. -/
theorem pfAt_one (pf : pre1.Contents (Elt F)) (i : grid1.Coords)
    (h : ∀ a, (k1_off1 i) a + S1.size a ≤ S8.size a) (hn : S1.numel = 1) :
    pf.at 1 (Rect.unit (s := S8) (k1_off1 i) S1.size h) hn = (pf 1 : IVec S8 32) (Idealize.ShloMosaic.ix1 (ex i)) := by
  refine congrArg (pf 1 : IVec S8 32) (funext fun a => ?_)
  obtain rfl : a = (0 : Fin 1) := Subsingleton.elim (α := Fin 1) a 0
  refine Fin.ext ?_
  have hi : (i 1).val < 8 := (i 1).isLt
  show (BitVec.ofNat 32 (i 1).val).toNat + 0 * 1 = (i 1).val
  rw [BitVec.toNat_ofNat]; omega

theorem rowStart_eq (xt : IVec S9 32) (i : grid1.Coords) : rowStart (F := F) xt i = xt (Idealize.ShloMosaic.ix1 (ex i).castSucc) := by
  refine congrArg xt (funext fun a => ?_)
  obtain rfl : a = (0 : Fin 1) := Subsingleton.elim (α := Fin 1) a 0
  refine Fin.ext ?_
  have hi : (i 1).val < 8 := (i 1).isLt
  show (BitVec.ofNat 32 (i 1).val).toNat + 0 * 1 = (i 1).val
  rw [BitVec.toNat_ofNat]; omega

theorem rowEnd_eq (xt : IVec S9 32) (i : grid1.Coords) : rowEnd (F := F) xt i = xt (Idealize.ShloMosaic.ix1 (ex i).succ) := by
  refine congrArg xt (funext fun a => ?_)
  obtain rfl : a = (0 : Fin 1) := Subsingleton.elim (α := Fin 1) a 0
  refine Fin.ext ?_
  have hi : (i 1).val < 8 := (i 1).isLt
  show (BitVec.ofNat 32 (i 1).val + 1#32).toNat + 0 * 1 = (i 1).val + 1
  rw [BitVec.toNat_add, BitVec.toNat_ofNat]; simp; omega

theorem eidx_toNat (i : Fin 8) : ((pf0 m outs 1 : IVec S8 32) (Idealize.ShloMosaic.ix1 i)).toNat ≤ i.val := by
  rw [pf0_one]; exact eidx_lt _ i

theorem wBlock_inb (n b : ℕ) (hn : n < 8) (hb : b < 28) : ∀ a : Fin 3, ((![n, 0, b] : Fin 3 → ℕ) a + 1) * S1x1408x512.size a ≤ S8x1408x14336.size a := by
  intro a; fin_cases a
  · show (n + 1) * 1 ≤ 8; omega
  · show (0 + 1) * 1408 ≤ 1408; omega
  · show (b + 1) * 512 ≤ 14336; omega

theorem sBlock_inb (n b : ℕ) (hn : n < 8) (hb : b < 28) : ∀ a : Fin 3, ((![n, 0, b] : Fin 3 → ℕ) a + 1) * S1x22x512.size a ≤ S8x22x14336.size a := by
  intro a; fin_cases a
  · show (n + 1) * 1 ≤ 8; omega
  · show (0 + 1) * 22 ≤ 22; omega
  · show (b + 1) * 512 ≤ 14336; omega

theorem ok_of (pf : pre1.Contents (Elt F)) (h : ∀ i : Fin 8, ((pf 1 : IVec S8 32) (Idealize.ShloMosaic.ix1 i)).toNat < 8) : ok1 pf := by
  have hb : ∀ i : grid1.Coords, (BitVec.ofNat 32 (i 0).val).toNat < 28 := fun i => by
    have h0 : (i 0).val < 28 := (i 0).isLt
    rw [BitVec.toNat_ofNat]; omega
  have hk : ∀ i : grid1.Coords, (BitVec.toNat (w := 32) (pf.at 1 (Rect.unit (s := S8) (k1_off1 i) S1.size (k1_off1_inb i)) numel1_S1)) < 8 := fun i => by
    rw [pfAt_one]; exact h (ex i)
  exact ⟨fun i => ⟨wBlock_inb _ _ (hk i) (hb i), .inr (Affine.block_words_dvd (of_decide_eq_true rfl) (by decide))⟩,
    fun i => ⟨sBlock_inb _ _ (hk i) (hb i), .inl rfl⟩⟩

theorem ok_pf0 : ok1 (pf0 m outs) := ok_of _ fun i => (eidx_toNat m outs i).trans_lt i.isLt

/-- The tables the region runs at. -/
def adm0 : (pcfg1 (F := F)).Adm := ⟨pf0 m (outs0 m), ok_pf0 m (outs0 m)⟩

theorem tablesAt0 : TablesAt m (adm0 m) := fun c k => by rw [dev_eq c]; rfl

theorem rowStart0 (hg : Good (gs m d0)) (i : grid1.Coords) : rowStart (F := F) ((adm0 m).1 0) i = BitVec.ofNat 32 (pre (gs m d0) (ex i).val) :=
  (rowStart_eq _ i).trans (pf0_zero m (outs0 m) (ex i).castSucc hg)

theorem rowEnd0 (hg : Good (gs m d0)) (i : grid1.Coords) : rowEnd (F := F) ((adm0 m).1 0) i = BitVec.ofNat 32 (pre (gs m d0) ((ex i).val + 1)) :=
  (rowEnd_eq _ i).trans (pf0_zero m (outs0 m) (ex i).succ hg)

theorem okWords0 (hg : Good (gs m d0)) : okWords (adm0 m) := fun i => by
  have h1 := pre_mono (gs m d0) (Nat.le_succ (ex i).val)
  have h2 := pre_le (gs m d0) hg (ex i).isLt
  rw [rowStart0 m hg, rowEnd0 m hg]
  exact ⟨chk1_of _ _ h1 h2, trips2 _ _ h1 h2⟩

/-- Every run ends with the arguments as they were and every semaphore at zero. -/
theorem frame_run (ρ : Dev nD → PrngReg) (hg : Good (gs m d0)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := run_all m (adm0 m) (fun _ _ _ => True) ρ (tablesAt0 m) (okWords0 m hg) (fun _ _ _ _ => trivial)
  exact θ_run_mono h fun r hr => ⟨fun c => (hr.1 c).1, hr.2⟩

end Cert.KernelIdeal.Hand

end
-- ==== Proof.KB.Words1.lean ====
module
public import proofs.«01_k».proof.Proof.Gen.Kernel.Skeleton
public import proofs.«01_k».proof.Proof.Gen.Kernel.Loops

/-! The loop bounds and row offsets of the grouped product, as natural numbers. An expert whose rows are `a ≤ r < b ≤ 1536` is
    computed in chunks of 256 rows from the multiple of 16 at or below `a`, the last ones moved up so that they end inside the
    array; the second loop (the rest of a division by one) never runs. -/
@[expose] public section
set_option maxRecDepth 16384

namespace Cert.Kernel.Hand
open Idealize.ShloMosaic
open Cert.Kernel

/-- The first row computed: the multiple of 16 at or below `v1`, as the kernel computes it. -/
def first (v1 : BitVec 32) : BitVec 32 :=
  let c0_i32_152 : BitVec 32 := 0#32
  let v372 : BitVec 1 := Scalar.cmpi .sgt v1 c0_i32_152
  let v373 : BitVec 32 := Scalar.extui v372
  let c0_i32_153 : BitVec 32 := 0#32
  let v374 : BitVec 1 := Scalar.cmpi .slt v1 c0_i32_153
  let v375 : BitVec 32 := Scalar.extui v374
  let v376 : BitVec 32 := Scalar.subi v373 v375
  let c16_i32 : BitVec 32 := 16#32
  let c0_i32_154 : BitVec 32 := 0#32
  let v377 : BitVec 1 := Scalar.cmpi .sgt c16_i32 c0_i32_154
  let v378 : BitVec 32 := Scalar.extui v377
  let c0_i32_155 : BitVec 32 := 0#32
  let v379 : BitVec 1 := Scalar.cmpi .slt c16_i32 c0_i32_155
  let v380 : BitVec 32 := Scalar.extui v379
  let v381 : BitVec 32 := Scalar.subi v378 v380
  let v382 : BitVec 1 := Scalar.cmpi .ne v376 v381
  let v383 : BitVec 32 := Scalar.remsi v1 c16_i32
  let c0_i32_156 : BitVec 32 := 0#32
  let v384 : BitVec 1 := Scalar.cmpi .ne v383 c0_i32_156
  let v385 : BitVec 1 := Scalar.andi v382 v384
  let v371 : BitVec 32 := Scalar.divsi v1 c16_i32
  let c1_i32_157 : BitVec 32 := 1#32
  let v386 : BitVec 32 := Scalar.subi v371 c1_i32_157
  let v387 : BitVec 32 := Scalar.select v385 v386 v371
  let c16_i32_158 : BitVec 32 := 16#32
  Scalar.muli v387 c16_i32_158

/-- The number of chunks, as the kernel computes it from the rows to cover. -/
def chunks (v389 : BitVec 32) : BitVec 32 :=
  let c256_i32 : BitVec 32 := 256#32
  let v390 : BitVec 32 := Scalar.addi v389 c256_i32
  let c1_i32_159 : BitVec 32 := 1#32
  let v391 : BitVec 32 := Scalar.subi v390 c1_i32_159
  let c0_i32_161 : BitVec 32 := 0#32
  let v393 : BitVec 1 := Scalar.cmpi .sgt v391 c0_i32_161
  let v394 : BitVec 32 := Scalar.extui v393
  let c0_i32_162 : BitVec 32 := 0#32
  let v395 : BitVec 1 := Scalar.cmpi .slt v391 c0_i32_162
  let v396 : BitVec 32 := Scalar.extui v395
  let v397 : BitVec 32 := Scalar.subi v394 v396
  let c256_i32_160 : BitVec 32 := 256#32
  let c0_i32_163 : BitVec 32 := 0#32
  let v398 : BitVec 1 := Scalar.cmpi .sgt c256_i32_160 c0_i32_163
  let v399 : BitVec 32 := Scalar.extui v398
  let c0_i32_164 : BitVec 32 := 0#32
  let v400 : BitVec 1 := Scalar.cmpi .slt c256_i32_160 c0_i32_164
  let v401 : BitVec 32 := Scalar.extui v400
  let v402 : BitVec 32 := Scalar.subi v399 v401
  let v403 : BitVec 1 := Scalar.cmpi .ne v397 v402
  let v404 : BitVec 32 := Scalar.remsi v391 c256_i32_160
  let c0_i32_165 : BitVec 32 := 0#32
  let v405 : BitVec 1 := Scalar.cmpi .ne v404 c0_i32_165
  let v406 : BitVec 1 := Scalar.andi v403 v405
  let v392 : BitVec 32 := Scalar.divsi v391 c256_i32_160
  let c1_i32_166 : BitVec 32 := 1#32
  let v407 : BitVec 32 := Scalar.subi v392 c1_i32_166
  let v408 : BitVec 32 := Scalar.select v406 v407 v392
  let v409 : BitVec 32 := Scalar.subi v408 (0#32 : BitVec 32)
  let c1_i32_169 : BitVec 32 := 1#32
  let v411 : BitVec 32 := Scalar.divsi v409 c1_i32_169
  let v412 : BitVec 32 := Scalar.muli v411 c1_i32_169
  let v413 : BitVec 32 := Scalar.addi (0#32 : BitVec 32) v412
  v413

/-- The end of the loop that never runs. -/
def chunksEnd (v389 : BitVec 32) : BitVec 32 :=
  let c256_i32 : BitVec 32 := 256#32
  let v390 : BitVec 32 := Scalar.addi v389 c256_i32
  let c1_i32_159 : BitVec 32 := 1#32
  let v391 : BitVec 32 := Scalar.subi v390 c1_i32_159
  let c0_i32_161 : BitVec 32 := 0#32
  let v393 : BitVec 1 := Scalar.cmpi .sgt v391 c0_i32_161
  let v394 : BitVec 32 := Scalar.extui v393
  let c0_i32_162 : BitVec 32 := 0#32
  let v395 : BitVec 1 := Scalar.cmpi .slt v391 c0_i32_162
  let v396 : BitVec 32 := Scalar.extui v395
  let v397 : BitVec 32 := Scalar.subi v394 v396
  let c256_i32_160 : BitVec 32 := 256#32
  let c0_i32_163 : BitVec 32 := 0#32
  let v398 : BitVec 1 := Scalar.cmpi .sgt c256_i32_160 c0_i32_163
  let v399 : BitVec 32 := Scalar.extui v398
  let c0_i32_164 : BitVec 32 := 0#32
  let v400 : BitVec 1 := Scalar.cmpi .slt c256_i32_160 c0_i32_164
  let v401 : BitVec 32 := Scalar.extui v400
  let v402 : BitVec 32 := Scalar.subi v399 v401
  let v403 : BitVec 1 := Scalar.cmpi .ne v397 v402
  let v404 : BitVec 32 := Scalar.remsi v391 c256_i32_160
  let c0_i32_165 : BitVec 32 := 0#32
  let v405 : BitVec 1 := Scalar.cmpi .ne v404 c0_i32_165
  let v406 : BitVec 1 := Scalar.andi v403 v405
  let v392 : BitVec 32 := Scalar.divsi v391 c256_i32_160
  let c1_i32_166 : BitVec 32 := 1#32
  let v407 : BitVec 32 := Scalar.subi v392 c1_i32_166
  let v408 : BitVec 32 := Scalar.select v406 v407 v392
  let v409 : BitVec 32 := Scalar.subi v408 (0#32 : BitVec 32)
  Scalar.addi (0#32) v409

/-- The first row of chunk `k`, moved up to end inside the array. -/
def rowAt (f : BitVec 32) (k : ℕ) : BitVec 32 :=
  Scalar.minsi (Scalar.addi f (Scalar.muli (Scf.iv 0#32 1#32 k) 256#32)) 1280#32

theorem first_eq : ∀ a : Fin 1537, first (BitVec.ofNat 32 a) = BitVec.ofNat 32 (16 * (a / 16)) := by decide +kernel
theorem chunks_eq : ∀ d : Fin 1537, chunks (BitVec.ofNat 32 d) = BitVec.ofNat 32 ((d + 255) / 256) := by decide +kernel
theorem chunksEnd_eq : ∀ d : Fin 1537, chunksEnd (BitVec.ofNat 32 d) = BitVec.ofNat 32 ((d + 255) / 256) := by decide +kernel
theorem rowAt_eq : ∀ (q : Fin 97) (k : Fin 7), rowAt (BitVec.ofNat 32 (16 * q)) k = BitVec.ofNat 32 (min (16 * q + 256 * k) 1280) := by
  decide +kernel
theorem trips_eq : ∀ n : Fin 8, Scf.trips (0#32) (BitVec.ofNat 32 n) (1#32) = n.val := by decide +kernel
theorem trips_self : ∀ n : Fin 8, Scf.trips (BitVec.ofNat 32 n) (BitVec.ofNat 32 n) (1#32) = 0 := by decide +kernel

theorem loop1_eq (v1 v4 : BitVec 32) : k1_t1_loop v1 v4 = ⟨0#32, chunks (Scalar.subi v4 (first v1)), 1#32⟩ := rfl
theorem loop2_eq (v1 v4 : BitVec 32) :
    k1_t2_loop v1 v4 = ⟨chunks (Scalar.subi v4 (first v1)), chunksEnd (Scalar.subi v4 (first v1)), 1#32⟩ := rfl
theorem mult1_eq (v1 v4 : BitVec 32) (k) : k1_mult1 v1 v4 k = rowAt (first v1) k.val := rfl
theorem off4_eq (v1 v4 : BitVec 32) (k) : k1_off4 v1 v4 k = ![(rowAt (first v1) k.val).toNat, 0] := rfl
theorem off5_eq (v1 v4 : BitVec 32) (k) : k1_off5 v1 v4 k = ![(rowAt (first v1) k.val).toNat, 0] := rfl
theorem off6_eq (v1 v4 : BitVec 32) (k) : k1_off6 v1 v4 k = ![(rowAt (first v1) k.val).toNat, 0] := rfl

/-- The body's test: the expert has rows. -/
theorem cond1_iff (a b : ℕ) (ha : a ≤ 1536) (hb : b ≤ 1536) :
    k1_cond1 (BitVec.ofNat 32 a) (BitVec.ofNat 32 b) = 1#1 ↔ a < b := by
  have hs : (BitVec.ofNat 32 a).slt (BitVec.ofNat 32 b) = decide (a < b) := by
    rw [BitVec.slt_eq_decide]
    have e : ∀ n : ℕ, n ≤ 1536 → (BitVec.ofNat 32 n).toInt = (n : ℤ) := fun n hn => by
      rw [BitVec.toInt_eq_toNat_of_lt (by rw [BitVec.toNat_ofNat]; omega), BitVec.toNat_ofNat]; omega
    rw [e a ha, e b hb]; simp
  unfold k1_cond1
  dsimp only
  have h5 : Scalar.cmpi .sgt (BitVec.ofNat 32 b) (BitVec.ofNat 32 a) = BitVec.ofBool (decide (a < b)) := by
    rw [← hs]; rfl
  rw [h5]
  by_cases h : a < b <;> simp only [h, decide_true, decide_false] <;> decide

/-- The chunks of an expert. -/
theorem trips1 (a b : ℕ) (hab : a ≤ b) (hb : b ≤ 1536) :
    (k1_t1_loop (BitVec.ofNat 32 a) (BitVec.ofNat 32 b)).trips = (b - 16 * (a / 16) + 255) / 256 := by
  have hd : Scalar.subi (BitVec.ofNat 32 b) (BitVec.ofNat 32 (16 * (a / 16))) = BitVec.ofNat 32 (b - 16 * (a / 16)) := by
    apply BitVec.eq_of_toNat_eq; show (BitVec.ofNat 32 b - BitVec.ofNat 32 (16 * (a / 16))).toNat = _
    simp only [BitVec.toNat_sub, BitVec.toNat_ofNat]; omega
  rw [loop1_eq, first_eq ⟨a, by omega⟩]
  show Scf.trips 0#32 _ 1#32 = _
  dsimp only
  rw [hd, chunks_eq ⟨b - 16 * (a / 16), by omega⟩]
  exact trips_eq ⟨(b - 16 * (a / 16) + 255) / 256, by omega⟩

theorem trips2 (a b : ℕ) (hab : a ≤ b) (hb : b ≤ 1536) :
    (k1_t2_loop (BitVec.ofNat 32 a) (BitVec.ofNat 32 b)).trips = 0 := by
  have hd : Scalar.subi (BitVec.ofNat 32 b) (BitVec.ofNat 32 (16 * (a / 16))) = BitVec.ofNat 32 (b - 16 * (a / 16)) := by
    apply BitVec.eq_of_toNat_eq; show (BitVec.ofNat 32 b - BitVec.ofNat 32 (16 * (a / 16))).toNat = _
    simp only [BitVec.toNat_sub, BitVec.toNat_ofNat]; omega
  rw [loop2_eq, first_eq ⟨a, by omega⟩]
  show Scf.trips _ _ 1#32 = _
  dsimp only
  rw [hd, chunks_eq ⟨b - 16 * (a / 16), by omega⟩, chunksEnd_eq ⟨b - 16 * (a / 16), by omega⟩]
  exact trips_self ⟨(b - 16 * (a / 16) + 255) / 256, by omega⟩

/-- The row of a chunk of an expert. -/
theorem rowAt_first (a k : ℕ) (ha : a ≤ 1536) (hk : k < 7) :
    (rowAt (first (BitVec.ofNat 32 a)) k).toNat = min (16 * (a / 16) + 256 * k) 1280 := by
  rw [first_eq ⟨a, by omega⟩]
  dsimp only
  rw [rowAt_eq ⟨a / 16, by omega⟩ ⟨k, hk⟩, BitVec.toNat_ofNat]
  dsimp only; omega

theorem rowAt_row (a k : ℕ) (ha : a ≤ 1536) (hk : k < 7) :
    (rowAt (first (BitVec.ofNat 32 a)) k).toNat + 256 ≤ 1536 ∧ 16 ∣ (rowAt (first (BitVec.ofNat 32 a)) k).toNat := by
  rw [rowAt_first a k ha hk]; omega

theorem loop1_ok : ∀ n : Fin 8, (⟨0#32, BitVec.ofNat 32 n, 1#32⟩ : Scf.Loop 32).OK := by decide +kernel
theorem loop2_ok : ∀ n : Fin 8, (⟨BitVec.ofNat 32 n, BitVec.ofNat 32 n, 1#32⟩ : Scf.Loop 32).OK := by decide +kernel

/-- Every side condition the body assumes, for an expert whose rows lie inside the array. -/
theorem chk1_of (a b : ℕ) (hab : a ≤ b) (hb : b ≤ 1536) : k1_chk1 (BitVec.ofNat 32 a) (BitVec.ofNat 32 b) := by
  have hd : Scalar.subi (BitVec.ofNat 32 b) (first (BitVec.ofNat 32 a)) = BitVec.ofNat 32 (b - 16 * (a / 16)) := by
    rw [first_eq ⟨a, by omega⟩]
    apply BitVec.eq_of_toNat_eq; show (BitVec.ofNat 32 b - BitVec.ofNat 32 (16 * (a / 16))).toNat = _
    simp only [BitVec.toNat_sub, BitVec.toNat_ofNat]; omega
  have hk : ∀ k : Fin (k1_t1_loop (BitVec.ofNat 32 a) (BitVec.ofNat 32 b)).trips, k.val < 7 := fun k => by
    have := k.isLt; have e := trips1 a b hab hb; omega
  have no : ∀ k : Fin (k1_t2_loop (BitVec.ofNat 32 a) (BitVec.ofNat 32 b)).trips, False := fun k => by
    have := k.isLt; have e := trips2 a b hab hb; omega
  have row := fun k => rowAt_row a (Fin.val k) (by omega) (hk k)
  refine ⟨fun _ => ?_, fun k _ => ?_, fun k _ => ?_, fun k _ => ?_, fun k _ => ?_, fun k _ hinb => ?_, fun _ => ?_,
    fun k => (no k).elim, fun k => (no k).elim, fun k => (no k).elim, fun k => (no k).elim, fun k => (no k).elim⟩
  · rw [loop1_eq, hd, chunks_eq ⟨b - 16 * (a / 16), by omega⟩]
    exact loop1_ok ⟨(b - 16 * (a / 16) + 255) / 256, by omega⟩
  · rw [mult1_eq]; exact (row k).2
  · rw [off4_eq]; exact Fin.forall_fin_two.mpr ⟨(row k).1, Nat.le_refl _⟩
  · rw [off5_eq]; exact Fin.forall_fin_two.mpr ⟨(row k).1, by show 0 + 1 ≤ 128; omega⟩
  · rw [off6_eq]; exact Fin.forall_fin_two.mpr ⟨(row k).1, Nat.le_refl _⟩
  · refine Or.inr ⟨by decide, by rfl, Or.inl ⟨?_, ?_⟩⟩
    · show _ ∣ k1_off6 _ _ k 0
      rw [off6_eq]; exact Nat.dvd_trans (by decide) (row k).2
    · show _ ∣ 256; decide
  · rw [loop2_eq, hd, chunks_eq ⟨b - 16 * (a / 16), by omega⟩, chunksEnd_eq ⟨b - 16 * (a / 16), by omega⟩]
    exact loop2_ok ⟨(b - 16 * (a / 16) + 255) / 256, by omega⟩

end Cert.Kernel.Hand
-- ==== Proof.KB.Body0.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Regions
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The quantiser's call: its body's triple, its proof data and its body obligation. The body reads one block of activations and
    stores the codes and the scales of that block; it leaves nothing else behind. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it (`V0`). -/
def iblk0 (c : Dev nD) (w : Fin cfg0.W) (t : Fin cfg0.N) : ((cfg0.win w).xblock (cfg0.grid.coords t)).Idx → Elt F (cfg0.win w).elt :=
  ((cfg0.win w).blk t).view.read (Elt F) (V0 m c (Pipeline.arrRef spec0 w))

/-- Input window 0's current staging buffer holds its block at every point, fetched there or not, for ANY proof
    data whose array is `V0`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V0 m c (Pipeline.arrRef spec0 0))
    (hafter : ∀ t, dat.after 0 t = iblk0 m c 0 t) (t : Fin cfg0.N) (d) : dat.before 0 t d = iblk0 m c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rq0 : Rect S256x2816 := Rect.unit (s := S256x2816) ![0, 0] S256x2816.size inb_S256x2816_S256x2816_0_0
abbrev rq1 : Rect S256x128 := Rect.unit (s := S256x128) ![0, 0] S256x128.size inb_S256x128_S256x128_0_0

/-! ## What the body leaves in each output window's buffer -/

/-! ### Values of the body that the stores' payloads, spelt out, would write more than once

    Each is a vector the body binds (often a part call's result), stated over the input windows' blocks and
    numbered on from the skeleton's payload functions (`k0_pay9` …, after `k0_pay8`), so that
    `out0_W` and the values after it name it instead of spelling it out (`unfold_out out0_W` opens a canon
    with them, `unfold_payloads` opens them with the payloads); the comment after each is the printed function's
    name for the value (a count appended where that name is bound again). -/

def k0_pay9 (x0 : Vec F S256x2816 .bf16) : IVec S256x1 32 :=
  k0_pay8 (k0_pay4 (View.ld x0 rq0)) (k0_pay5 (View.ld x0 rq0)) (k0_pay6 (View.ld x0 rq0)) k0_pay7 -- `v85`

/-- Window 1's staging buffer after the body, from the input windows' blocks: its 1 store as pieces, LAST FIRST. -/
def out0_1 (x0 : Vec F S256x2816 .bf16) : Vec F S256x2816 .bf16 :=
  View.canon [⟨rq0, k0_pay1 (k0_pay3 (View.ld x0 rq0)) (k0_pay9 x0)⟩]

/-- Its stores tile the buffer (checked by evaluation), so they cover it. -/
theorem coverq1 (p0 : Vec F S256x2816 .bf16) (y : S256x2816.Idx) :
    ∃ pc ∈ ([⟨rq0, p0⟩] : List (View.Piece (Elt F) S256x2816 .bf16)), y ∈ pc.1.set :=
  View.cover_of_tiled [⟨rq0, p0⟩] S256x2816.size (by rfl) y

/-- Window 2's staging buffer after the body, from the input windows' blocks: its 1 store as pieces, LAST FIRST. -/
def out0_2 (x0 : Vec F S256x2816 .bf16) : Vec F S256x128 .f32 :=
  View.canon [⟨rq1, k0_pay2 (F := F) (k0_pay9 x0) 127#32⟩]

/-- Its stores tile the buffer (checked by evaluation), so they cover it. -/
theorem cover0_2 (p0 : Vec F S256x128 .f32) (y : S256x128.Idx) :
    ∃ pc ∈ ([⟨rq1, p0⟩] : List (View.Piece (Elt F) S256x128 .f32)), y ∈ pc.1.set :=
  View.cover_of_tiled [⟨rq1, p0⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x2816 .bf16) (harg1 : arg1.IsWhole) (arg2 : Memref sig .tc .vmem S256x2816 .bf16) (harg2 : arg2.IsWhole) (arg3 : Memref sig .tc .vmem S256x128 .f32) (harg3 : arg3.IsWhole)
    (x0 : Vec F S256x2816 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quantise i arg1 harg1 arg2 harg2 arg3 harg3) K := by
  simp only [cc0_quantise_eq_skeleton]; unfold cc0_quantise_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (coverq1 _)).trans ?_
    rfl
  iexists _; isplitr
  swap; · iexact H2
  ipureintro
  refine (View.read_writes_eq_canon _ _ _ (cover0_2 _)).trans ?_
  rfl

/-! ## The pipeline's proof data -/

/-- The proof data of the one pipeline on core `c`: the arrays as the region finds them (`V0`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V0 m c (Pipeline.arrRef spec0 w)
  after w t := match w with
    | ⟨0, _⟩ => iblk0 m c 0 t
    | ⟨1, _⟩ => out0_1 (iblk0 m c 0 t)
    | ⟨2, _⟩ => out0_2 (iblk0 m c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A0_eq (c : Dev nD) (w : Fin cfg0.W) : (dat0 m c).A w = V0 m c (Pipeline.arrRef spec0 w) := by
  dsimp only [dat0]

/-- What the body leaves, window by window (the proof data's `match` reduced by `dsimp`, never `rfl`: Lib/Pipeline.lean `Dat`). -/
theorem afterq0 (c : Dev nD) (t : Fin cfg0.N) : (dat0 m c).after 0 t = iblk0 m c 0 t := by dsimp only [dat0]
theorem afterq1 (c : Dev nD) (t : Fin cfg0.N) : (dat0 m c).after 1 t = out0_1 (iblk0 m c 0 t) := by dsimp only [dat0]
theorem after0_2 (c : Dev nD) (t : Fin cfg0.N) : (dat0 m c).after 2 t = out0_2 (iblk0 m c 0 t) := by dsimp only [dat0]

/-- Each input's current staging buffer holds its block at every point, fetched there or not (`beforeK_W_of`). -/
theorem before0_0 (c : Dev nD) (t : Fin cfg0.N) (d) : (dat0 m c).before 0 t d = iblk0 m c 0 t :=
  before0_0_of m (dat0 m c) (A0_eq m c 0) (afterq0 m c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d)))

/-- and what it returns. -/
def bodyPost0 (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t))

/-- The body at any point: the inputs' memrefs hold their blocks (`before0_W`), so `sound_kernel0` applies; the invariant and
    the core's `owes` pass through unread. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0]
  rw [show (dat0 m c).Φ t.succ = (dat0 m c).Φ t.castSucc from rfl,
    show (dat0 m c).owesAt () t.succ = (dat0 m c).owesAt () t.castSucc from rfl,
    afterq0, afterq1, after0_2]
  iintro ⟨HΦ, Ho, ⟨%d0, H0⟩, ⟨%d1, H1⟩, ⟨%d2, H2⟩⟩
  iapply (sound_kernel0 c Set.univ (grid0.coords t) _ _ _ _ _ _ (iblk0 m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) m c) (defs₀ (F := F)) Variants.none () Set.univ := fun t => by
  rw [bigSep_W0, bigSep_W0, defs₀_row0]
  exact triple_restated (sound_body0 m c t) rfl .rfl fun _ => .rfl

end Cert.Kernel.Hand

end
-- ==== Proof.KB.Body1.lean ====
/- The body of the grouped matrix product (the second call), run once at a symbolic grid point: what it leaves in the
   output block, given the blocks of its inputs and the two words of the offset table it reads. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.VecWindow
public import Idealize.ShloMosaic.Lib.Pipeline.ValueKit.Tiles

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body computes, on vectors -/

/-- The two words the body reads of the offset table: where the expert's rows start, -/
def rowStart (xt : Vec F S9 .i32) (i : grid1.Coords) : BitVec 32 :=
  View.ld xt (Rect.unit (s := S9) (k1_off2 i) S1.size (k1_off2_inb i)) (fun a => ⟨0, by fin_cases a; exact Nat.one_pos⟩)

/-- and where they end. -/
def rowEnd (xt : Vec F S9 .i32) (i : grid1.Coords) : BitVec 32 :=
  View.ld xt (Rect.unit (s := S9) (k1_off3 i) S1.size (k1_off3_inb i)) (fun a => ⟨0, by fin_cases a; exact Nat.one_pos⟩)

theorem wrow_inb (p : Fin 22) : ∀ a, (![0, 128 * (p.val / 2), 0] : Fin 3 → ℕ) a + S1x128x512.size a ≤ S1x1408x512.size a := by
  have := p.isLt
  intro a; fin_cases a
  · show 0 + 1 ≤ 1; omega
  · show 128 * (p.val / 2) + 128 ≤ 1408; omega
  · show 0 + 512 ≤ 512; omega

theorem srow_inb (p : Fin 22) : ∀ a, (![0, 11 * (p.val % 2) + p.val / 2, 0] : Fin 3 → ℕ) a + S1x1x512.size a ≤ S1x22x512.size a := by
  have := p.isLt
  intro a; fin_cases a
  · show 0 + 1 ≤ 1; omega
  · show 11 * (p.val % 2) + p.val / 2 + 1 ≤ 22; omega
  · show 0 + 512 ≤ 512; omega

theorem drow_inb (p : Fin 22) : ∀ a, (![128 * p.val, 0] : Fin 2 → ℕ) a + S128x512.size a ≤ S2816x512.size a := by
  have := p.isLt
  intro a; fin_cases a
  · show 128 * p.val + 128 ≤ 2816; omega
  · show 0 + 512 ≤ 512; omega

/-- One group of 128 rows of the dequantised weights: an even block is the low half of its bytes, an odd one the high half. -/
def deqRows (x6 : Vec F S1x1408x512 .i8) (x7 : Vec F S1x22x512 .f32) (p : Fin 22) : FVec F S128x512 .bf16 :=
  if p.val % 2 = 0 then
    k1_pay2 (View.ld x6 (Rect.unit (s := S1x1408x512) ![0, 128 * (p.val / 2), 0] S1x128x512.size (wrow_inb p)))
      (View.ld x7 (Rect.unit (s := S1x22x512) ![0, 11 * (p.val % 2) + p.val / 2, 0] S1x1x512.size (srow_inb p)))
  else
    k1_pay3 (View.ld x6 (Rect.unit (s := S1x1408x512) ![0, 128 * (p.val / 2), 0] S1x128x512.size (wrow_inb p)))
      (View.ld x7 (Rect.unit (s := S1x22x512) ![0, 11 * (p.val % 2) + p.val / 2, 0] S1x1x512.size (srow_inb p)))

/-- The dequantised weights of one block of columns of one expert: 22 groups of rows, the last written first. -/
def deqV (x6 : Vec F S1x1408x512 .i8) (x7 : Vec F S1x22x512 .f32) : Vec F S2816x512 .bf16 :=
  View.canon (List.ofFn fun k : Fin 22 =>
    (⟨Rect.unit (s := S2816x512) ![128 * k.rev.val, 0] S128x512.size (drow_inb k.rev), deqRows x6 x7 k.rev⟩ : View.Piece (Elt F) S2816x512 .bf16))

/-- The division of the first row by sixteen, and whether the signs of the two differ, as the body computes them. -/
def wq (v1 : BitVec 32) : BitVec 32 := Scalar.divsi v1 16#32
def ws (v1 : BitVec 32) : BitVec 1 :=
  Scalar.cmpi .ne (Scalar.subi (Scalar.extui (Scalar.cmpi .sgt v1 0#32)) (Scalar.extui (Scalar.cmpi .slt v1 0#32)) : BitVec 32)
    (Scalar.subi (Scalar.extui (Scalar.cmpi .sgt 16#32 0#32)) (Scalar.extui (Scalar.cmpi .slt 16#32 0#32)))

/-- The output block after `k` chunks of rows, from `y`: each chunk's product is put over the rows of the expert in its window. -/
def accV (x4 : Vec F S1536x2816 .bf16) (x5 : Vec F S1536x128 .f32) (x9 : Vec F S2816x512 .bf16) (v1 v4 : BitVec 32)
    (hw : k1_chk1 v1 v4) (h1 : k1_cond1 v1 v4 = 1#1) (y : Vec F S1536x512 .bf16) : ℕ → Vec F S1536x512 .bf16
  | 0 => y
  | k + 1 => if h : k < (k1_t1_loop v1 v4).trips then
      VecWindow.put (accV x4 x5 x9 v1 v4 hw h1 y k) (k1_off6 v1 v4 ⟨k, h⟩) S256x512.size
        (k1_pay43 v1 v4 16#32 (wq v1) (ws v1) ⟨k, h⟩
          (View.ld x4 (Rect.unit (s := S1536x2816) (k1_off4 v1 v4 ⟨k, h⟩) S256x2816.size (k1_off4_inb v1 v4 hw ⟨k, h⟩ h1))) x9
          (View.ld x5 (Rect.unit (s := S1536x128) (k1_off5 v1 v4 ⟨k, h⟩) S256x1.size (k1_off5_inb v1 v4 hw ⟨k, h⟩ h1)))
          (View.ld (accV x4 x5 x9 v1 v4 hw h1 y k) (Rect.unit (s := S1536x512) (k1_off6 v1 v4 ⟨k, h⟩) S256x512.size (k1_off6_inb v1 v4 hw ⟨k, h⟩ h1))))
    else accV x4 x5 x9 v1 v4 hw h1 y k

/-- The output block after the body, from what it held before (`y`): nothing changes for an expert without rows. -/
def out1 (x4 : Vec F S1536x2816 .bf16) (x5 : Vec F S1536x128 .f32) (x6 : Vec F S1x1408x512 .i8) (x7 : Vec F S1x22x512 .f32) (v1 v4 : BitVec 32)
    (hw : k1_chk1 v1 v4) (y : Vec F S1536x512 .bf16) : Vec F S1536x512 .bf16 :=
  if h1 : k1_cond1 v1 v4 = 1#1 then accV x4 x5 (deqV x6 x7) v1 v4 hw h1 y (k1_t1_loop v1 v4).trips else y

/-! ## The loop's state is that recursion -/

section Loop

variable (𝒱 : Variants) (c : Dev nD) (bd : Option 𝒱.V) (i : grid1.Coords) (arg2 : Memref sig .tc .smem S9 .i32) (harg2 : arg2.IsWhole) (arg3 : Memref sig .tc .smem S8 .i32) (harg3 : arg3.IsWhole) (arg4 : Memref sig .tc .vmem S1536x2816 .bf16) (harg4 : arg4.IsWhole) (arg5 : Memref sig .tc .vmem S1536x128 .f32) (harg5 : arg5.IsWhole) (arg6 : Memref sig .tc .vmem S1x1408x512 .i8) (harg6 : arg6.IsWhole) (arg7 : Memref sig .tc .vmem S1x22x512 .f32) (harg7 : arg7.IsWhole) (arg8 : Memref sig .tc .vmem S1536x512 .bf16) (harg8 : arg8.IsWhole) (arg9 : Memref sig .tc .vmem S2816x512 .bf16) (harg9 : arg9.IsWhole)
  (v1 v4 : BitVec 32) (hw : k1_chk1 v1 v4) (h1 : k1_cond1 v1 v4 = 1#1)
  (X4 : BufTy.Contents (Elt F) arg4.view.ty) (X5 : BufTy.Contents (Elt F) arg5.view.ty) (X9 : BufTy.Contents (Elt F) arg9.view.ty)

theorem tripL_eq (c16 v371 : BitVec 32) (v382 : BitVec 1) (k : Fin (k1_t1_loop v1 v4).trips) (acc : BitVec 32) (G : BufTy.Contents (Elt F) arg8.view.ty) :
    tripL_k1_t1 (F := F) 𝒱 c bd i arg2 harg2 arg3 harg3 arg4 harg4 arg5 harg5 arg6 harg6 arg7 harg7 arg8 harg8 arg9 harg9 v1 v4 hw h1 c16 v371 v382 X4 X5 X9 k acc G
      = [⟨Rect.unit (s := S1536x512) (k1_off6 v1 v4 k) S256x512.size (k1_off6_inb v1 v4 hw k h1),
          k1_pay43 v1 v4 c16 v371 v382 k
            (View.ld (arg4.view.read (Elt F) X4) (Rect.unit (s := S1536x2816) (k1_off4 v1 v4 k) S256x2816.size (k1_off4_inb v1 v4 hw k h1)))
            (arg9.view.read (Elt F) X9)
            (View.ld (arg5.view.read (Elt F) X5) (Rect.unit (s := S1536x128) (k1_off5 v1 v4 k) S256x1.size (k1_off5_inb v1 v4 hw k h1)))
            (View.ld (arg8.view.read (Elt F) G) (Rect.unit (s := S1536x512) (k1_off6 v1 v4 k) S256x512.size (k1_off6_inb v1 v4 hw k h1)))⟩] := by
  unfold tripL_k1_t1 trip_k1_t1
  have e9 : arg9.view.readAt (Elt F) (Rect.unit (s := S2816x512) ![0, 0] S2816x512.size inb_S2816x512_S2816x512_0_0).toLoadRect X9 = arg9.view.read (Elt F) X9 :=
    View.readAt_full _ _ _
  rw [← e9]
  rfl

theorem st_eq (G : BufTy.Contents (Elt F) arg8.view.ty) (init : BitVec 32) : ∀ k : ℕ, k ≤ (k1_t1_loop v1 v4).trips →
    arg8.view.read (Elt F) (arg8.view.writes (Elt F) G
        (st_k1_t1 (F := F) 𝒱 c bd i arg2 harg2 arg3 harg3 arg4 harg4 arg5 harg5 arg6 harg6 arg7 harg7 arg8 harg8 arg9 harg9 v1 v4 hw h1 16#32 (wq v1) (ws v1) X4 X5 X9 G init k).2)
      = accV (arg4.view.read (Elt F) X4) (arg5.view.read (Elt F) X5) (arg9.view.read (Elt F) X9) v1 v4 hw h1 (arg8.view.read (Elt F) G) k
  | 0, _ => rfl
  | k + 1, hk => by
    have ih := st_eq G init k (Nat.le_of_succ_le hk)
    rw [st_k1_t1_succ (F := F) 𝒱 c bd i arg2 harg2 arg3 harg3 arg4 harg4 arg5 harg5 arg6 harg6 arg7 harg7 arg8 harg8 arg9 harg9 v1 v4 hw h1 16#32 (wq v1) (ws v1) X4 X5 X9 G init ⟨k, hk⟩, accV, dif_pos (show k < (k1_t1_loop v1 v4).trips from hk)]
    dsimp only
    rw [tripL_eq]
    rw [List.singleton_append, View.read_writes_cons_put _ _ _ _ _ rfl, ih]

end Loop

theorem out1_of_cond (x4 : Vec F S1536x2816 .bf16) (x5 : Vec F S1536x128 .f32) (x6 : Vec F S1x1408x512 .i8) (x7 : Vec F S1x22x512 .f32) (v1 v4 : BitVec 32)
    (hw : k1_chk1 v1 v4) (y : Vec F S1536x512 .bf16) (h1 : k1_cond1 v1 v4 = 1#1) :
    out1 x4 x5 x6 x7 v1 v4 hw y = accV x4 x5 (deqV x6 x7) v1 v4 hw h1 y (k1_t1_loop v1 v4).trips := dif_pos h1

theorem out1_of_not (x4 : Vec F S1536x2816 .bf16) (x5 : Vec F S1536x128 .f32) (x6 : Vec F S1x1408x512 .i8) (x7 : Vec F S1x22x512 .f32) (v1 v4 : BitVec 32)
    (hw : k1_chk1 v1 v4) (y : Vec F S1536x512 .bf16) (h1 : ¬ k1_cond1 v1 v4 = 1#1) : out1 x4 x5 x6 x7 v1 v4 hw y = y := dif_neg h1

/-! ## The body's triple -/

/-- The 22 groups of rows cover the dequantised block. -/
theorem cover9 (P : Fin 22 → Vec F S128x512 .bf16) (y : S2816x512.Idx) :
    ∃ pc ∈ (List.ofFn fun k : Fin 22 => (⟨Rect.unit (s := S2816x512) ![128 * k.rev.val, 0] S128x512.size (drow_inb k.rev), P k⟩ : View.Piece (Elt F) S2816x512 .bf16)), y ∈ pc.1.set := by
  have h0 : (y 0).val < 2816 := (y 0).isLt
  have h1 : (y 1).val < 512 := (y 1).isLt
  let p : Fin 22 := ⟨(y 0).val / 128, by omega⟩
  refine ⟨_, (List.mem_ofFn).mpr ⟨p.rev, rfl⟩, ?_⟩
  show y ∈ (Rect.unit (s := S2816x512) ![128 * p.rev.rev.val, 0] S128x512.size (drow_inb p.rev.rev)).set
  refine Rect.mem_set_unit.mpr ?_
  rw [Fin.rev_rev]
  intro a; fin_cases a
  · show 128 * ((y 0).val / 128) ≤ (y 0).val ∧ (y 0).val < 128 * ((y 0).val / 128) + 128; omega
  · show 0 ≤ (y 1).val ∧ (y 1).val < 0 + 512; omega

set_option maxHeartbeats 4000000 in
/-- The body on whole memrefs, its inputs at read contents and the output block at `y8`, runs to the continuation holding the
    inputs as they were and the output block at `out1` of them; the scratch block is left at anything. -/
theorem sound_kernel1 (c : Dev nD) (E : Set ℕ) (i : grid1.Coords) (arg2 : Memref sig .tc .smem S9 .i32) (harg2 : arg2.IsWhole) (arg3 : Memref sig .tc .smem S8 .i32) (harg3 : arg3.IsWhole) (arg4 : Memref sig .tc .vmem S1536x2816 .bf16) (harg4 : arg4.IsWhole) (arg5 : Memref sig .tc .vmem S1536x128 .f32) (harg5 : arg5.IsWhole) (arg6 : Memref sig .tc .vmem S1x1408x512 .i8) (harg6 : arg6.IsWhole) (arg7 : Memref sig .tc .vmem S1x22x512 .f32) (harg7 : arg7.IsWhole) (arg8 : Memref sig .tc .vmem S1536x512 .bf16) (harg8 : arg8.IsWhole) (arg9 : Memref sig .tc .vmem S2816x512 .bf16) (harg9 : arg9.IsWhole)
    (xt : Vec F S9 .i32) (x4 : Vec F S1536x2816 .bf16) (x5 : Vec F S1536x128 .f32) (x6 : Vec F S1x1408x512 .i8) (x7 : Vec F S1x22x512 .f32) (y8 : Vec F S1536x512 .bf16)
    (hw : k1_chk1 (rowStart xt i) (rowEnd xt i))
    (ht2 : (k1_t2_loop (rowStart xt i) (rowEnd xt i)).trips = 0)
    (K : PUnit → sProp 𝕄) :
    iprop(owns (c : Thread nD τ) arg2 fullShare xt ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare y8
        ∗ (∃ d, owns (c : Thread nD τ) arg9 fullShare d)
        ∗ (iprop(owns (c : Thread nD τ) arg2 fullShare xt ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare (out1 x4 x5 x6 x7 (rowStart xt i) (rowEnd xt i) hw y8)
        ∗ (∃ d, owns (c : Thread nD τ) arg9 fullShare d)) -∗ K ⟨⟩))
      ⊢ wp frame (wpE (defs₀ (F := F)) Variants.none c none) E (cc1_grouped_matmul i arg2 harg2 arg3 harg3 arg4 harg4 arg5 harg5 arg6 harg6 arg7 harg7 arg8 harg8 arg9 harg9) K := by
  simp only [cc1_grouped_matmul_eq_skeleton]; unfold cc1_grouped_matmul_skel
  simp only [k1_part11_eq_skeleton]; unfold k1_part11_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%ft, %hft, Ht⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  sl_exec
  have e1 : sound_kernel1.sl.r c i arg2 ft = rowStart xt i := by rw [← hft]; rfl
  have e4 : sound_kernel1.sl.r_1 c i arg2 ft = rowEnd xt i := by rw [← hft]; rfl
  rw [e1, e4]
  revert hw ht2
  generalize rowStart xt i = v1
  generalize rowEnd xt i = v4
  intro hw ht2
  iapply (wp_assume _ _ _ _ hw)
  subst hft hf4 hf5 hf6 hf7 hf8
  by_cases h1 : k1_cond1 v1 v4 = 1#1
  · sl_exec
    rw [bind_assoc]
    sl_exec
    rw [bind_assoc]
    sl_exec
    sl_step
    iapply Hk
    isplitl [Ht]
    · iexists ft; isplitr; · ipureintro; rfl
      iexact Ht
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      have ht2' : Scf.trips (k1_t2_loop v1 v4).lb (k1_t2_loop v1 v4).ub (k1_t2_loop v1 v4).st = 0 := ht2
      rw [ht2', out1_of_cond _ _ _ _ _ _ _ _ h1]
      refine (st_eq Variants.none c none i arg2 harg2 arg3 harg3 arg4 harg4 arg5 harg5 arg6 harg6 arg7 harg7 arg8 harg8 arg9 harg9 v1 v4 hw h1 _ _ _ _ _ _ le_rfl).trans ?_
      congr 1
      refine (View.read_writes_eq_canon _ _ _ ?_).trans ?_
      · exact cover9 (fun k => deqRows (View.read (Elt F) arg6.view f6) (View.read (Elt F) arg7.view f7) k.rev)
      · rfl
    iexists _; iexists _; isplitr
    swap; · iexact H9
    ipureintro; rfl
  · sl_exec
    sl_step
    iapply Hk
    isplitl [Ht]
    · iexists ft; isplitr; · ipureintro; rfl
      iexact Ht
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr
      · ipureintro; exact (out1_of_not _ _ _ _ _ _ _ _ h1).symm
      iexact H8
    iexists _; iexists f9; isplitr
    · ipureintro; rfl
    iexact H9

end Cert.Kernel.Hand

end
-- ==== Proof.KB.Obl1.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Regions
public import proofs.«01_k».proof.Proof.KB.Body1
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.DatRel

/-! The grouped product's call: its proof data and its body obligation. The four inputs are held to their blocks; of the output block
    the obligation states a relation `R4` of the caller's choosing, since the body reads that block before it writes it. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

variable (outs : Outs (F := F)) (a : (pcfg1 (F := F)).Adm)

/-- Window `w`'s block at point `t`, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V6 m outs c (Pipeline.arrRef spec1 w))

/-- The proof data: inputs left at their blocks (the output's entry is not read: that window is held to a relation); the invariant
    the scratch and the generator register, and the tables whole. -/
def dat1 (c : Dev nD) : Dat τ (Elt F) Unit ℕ (UR sig nD τ) ℕ (cfg1 a) c where
  A w := V6 m outs c (Pipeline.arrRef spec1 w)
  after w t := match w with
    | ⟨0, _⟩ => iblk1 m outs a c 0 t
    | ⟨1, _⟩ => iblk1 m outs a c 1 t
    | ⟨2, _⟩ => iblk1 m outs a c 2 t
    | ⟨3, _⟩ => iblk1 m outs a c 3 t
    | ⟨4, _⟩ => iblk1 m outs a c 4 t
  Φ _ := iprop(Pipeline.ΦA spec1 c ∗ Pipeline.prefHeld pre1 c (fun _ => fullShare) a.1)
  q _ := fullShare
  owed _ := 0

theorem A1_eq (c : Dev nD) (w : Fin (cfg1 a).W) : (dat1 m outs a c).A w = V6 m outs c (Pipeline.arrRef spec1 w) := by
  dsimp only [dat1]
theorem after1_0 (c : Dev nD) (t : Fin (cfg1 a).N) : (dat1 m outs a c).after 0 t = iblk1 m outs a c 0 t := rfl
theorem after1_1 (c : Dev nD) (t : Fin (cfg1 a).N) : (dat1 m outs a c).after 1 t = iblk1 m outs a c 1 t := rfl
theorem after1_2 (c : Dev nD) (t : Fin (cfg1 a).N) : (dat1 m outs a c).after 2 t = iblk1 m outs a c 2 t := rfl
theorem after1_3 (c : Dev nD) (t : Fin (cfg1 a).N) : (dat1 m outs a c).after 3 t = iblk1 m outs a c 3 t := rfl
theorem before1_0 (c : Dev nD) (t : Fin (cfg1 a).N) (d) : (dat1 m outs a c).before 0 t d = iblk1 m outs a c 0 t :=
  ((dat1 m outs a c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (c : Dev nD) (t : Fin (cfg1 a).N) (d) : (dat1 m outs a c).before 1 t d = iblk1 m outs a c 1 t :=
  ((dat1 m outs a c).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)
theorem before1_2 (c : Dev nD) (t : Fin (cfg1 a).N) (d) : (dat1 m outs a c).before 2 t d = iblk1 m outs a c 2 t :=
  ((dat1 m outs a c).before_in_eq_fetched 2 rfl (fun _ => rfl) (fun _ _ _ => rfl)
    (fun t => by rw [after1_2]; unfold Dat.blockOf iblk1; rw [A1_eq]; try rfl) t d).trans
    (by unfold Dat.fetched Dat.blockOf iblk1; rw [A1_eq]; try rfl)
theorem before1_3 (c : Dev nD) (t : Fin (cfg1 a).N) (d) : (dat1 m outs a c).before 3 t d = iblk1 m outs a c 3 t :=
  ((dat1 m outs a c).before_in_eq_fetched 3 rfl (fun _ => rfl) (fun _ _ _ => rfl)
    (fun t => by rw [after1_3]; unfold Dat.blockOf iblk1; rw [A1_eq]; try rfl) t d).trans
    (by unfold Dat.fetched Dat.blockOf iblk1; rw [A1_eq]; try rfl)

/-- The one window held to a relation: the output. -/
def fgt1 : Fin (cfg1 a).W → Bool := fun | ⟨4, _⟩ => true | _ => false

/-- The relation, by window. -/
def Rl1 (R4 : Fin (cfg1 a).N → Vec F S1536x512 .bf16 → Prop) :
    (w : Fin (cfg1 a).W) → Fin (cfg1 a).N → (((cfg1 a).win w).block.Idx → Elt F ((cfg1 a).win w).elt) → Prop :=
  fun w t X => match w, X with
    | ⟨4, _⟩, X => R4 t X
    | _, _ => True

/-- The relational proof data. -/
abbrev rdat1 (R4 : Dev nD → Fin (cfg1 a).N → Vec F S1536x512 .bf16 → Prop) (c : Dev nD) : RDat τ (Elt F) Unit ℕ (UR sig nD τ) ℕ (cfg1 a) c :=
  (dat1 m outs a c).toRRel (fgt1 a) (Rl1 a (R4 c))

/-- The words of the offset table at a point, and the side conditions of the body there. -/
abbrev okWords (a : (pcfg1 (F := F)).Adm) : Prop := ∀ i : grid1.Coords, k1_chk1 (rowStart (F := F) (a.1 0) i) (rowEnd (F := F) (a.1 0) i)
  ∧ (k1_t2_loop (rowStart (F := F) (a.1 0) i) (rowEnd (F := F) (a.1 0) i)).trips = 0

variable (hok : okWords a) (R4 : Dev nD → Fin (cfg1 a).N → Vec F S1536x512 .bf16 → Prop)

/-- What the body makes of the output block `Y` at point `t`. -/
def step1 (c : Dev nD) (t : Fin (cfg1 a).N) (Y : Vec F S1536x512 .bf16) : Vec F S1536x512 .bf16 :=
  out1 (F := F) (iblk1 m outs a c 0 t) (iblk1 m outs a c 1 t) (iblk1 m outs a c 2 t) (iblk1 m outs a c 3 t)
    (rowStart (F := F) (a.1 0) (grid1.coords t)) (rowEnd (F := F) (a.1 0) (grid1.coords t)) (hok (grid1.coords t)).1 Y

/-- The kernel body at point `t`, on what the pipeline calls it with. -/
abbrev bodyAt1 (t : Fin (cfg1 a).N) : Prog (TpuEff nD τ sig (Elt F) Λ₀ .tc) PUnit :=
  cc1_grouped_matmul (grid1.coords t) (Memref.whole main_v6) (Memref.isWhole_whole _) (Memref.whole main_v11) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (Memref.whole cc1_scratch0) (Memref.isWhole_whole _)

theorem defs₀_row1 (t : Fin (cfg1 a).N) :
    defs₀ (F := F) .tc (cfg1 a).body ((cfg1 a).bodyArgs t ((cfg1 a).slots t)) = bodyAt1 a t := by
  unfold defs₀; rw [Defs.onTc_tc]

theorem pref1_eq (c : Dev nD) : (Pipeline.prefHeld pre1 c (fun _ => fullShare) a.1 : sProp 𝕄)
    = iprop(owns (c : Thread nD τ) (Memref.whole main_v6) fullShare (a.1 0 : Vec F S9 .i32)
        ∗ owns (c : Thread nD τ) (Memref.whole main_v11) fullShare (a.1 1 : Vec F S8 .i32)) := by
  have e0 : (owns (c : Thread nD τ) (Memref.whole main_v6) fullShare (a.1 0 : Vec F S9 .i32) : sProp 𝕄)
      = ((c.tc : Thread nD τ).loc (pre1.ref 0)) ↦{fullShare} a.1 0 := owns_whole _ _ _ _
  have e1 : (owns (c : Thread nD τ) (Memref.whole main_v11) fullShare (a.1 1 : Vec F S8 .i32) : sProp 𝕄)
      = ((c.tc : Thread nD τ).loc (pre1.ref 1)) ↦{fullShare} a.1 1 := owns_whole _ _ _ _
  refine Eq.trans ?_ (congrArg₂ (fun p q : sProp 𝕄 => iprop(p ∗ q)) e0 e1).symm
  exact bigSep_univ_eq_bigSepL [(0 : Fin 2), (1 : Fin 2)] (by decide) (by decide) _

/-- The scratch's points-to as ownership of the whole memref. -/
theorem scratch_owns (c : Dev nD) (f : Vec F S2816x512 .bf16) :
    (owns (c : Thread nD τ) (Memref.whole cc1_scratch0) fullShare f : sProp 𝕄) = (((c : Thread nD τ).loc cc1_scratch0) ↦{fullShare} f) :=
  owns_whole _ _ _ _

/-- What the body is called with at point `t`, -/
def bodyPre1 (c : Dev nD) (t : Fin (cfg1 a).N) : sProp 𝕄 :=
  iprop((dat1 m outs a c).Φ t.castSucc ∗ (dat1 m outs a c).owesAt () t.castSucc
    ∗ (∃ d, owns (c : Thread nD τ) (((cfg1 a).win 0).stage ((cfg1 a).slots t 0)) fullShare ((dat1 m outs a c).before 0 t d))
    ∗ (∃ d, owns (c : Thread nD τ) (((cfg1 a).win 1).stage ((cfg1 a).slots t 1)) fullShare ((dat1 m outs a c).before 1 t d))
    ∗ (∃ d, owns (c : Thread nD τ) (((cfg1 a).win 2).stage ((cfg1 a).slots t 2)) fullShare ((dat1 m outs a c).before 2 t d))
    ∗ (∃ d, owns (c : Thread nD τ) (((cfg1 a).win 3).stage ((cfg1 a).slots t 3)) fullShare ((dat1 m outs a c).before 3 t d))
    ∗ (∃ Y, ⌜(rdat1 m outs a R4 c).Finds 4 t Y⌝ ∗ owns (c : Thread nD τ) (((cfg1 a).win 4).stage ((cfg1 a).slots t 4)) fullShare Y))

/-- and what it returns. -/
def bodyPost1 (c : Dev nD) (t : Fin (cfg1 a).N) : sProp 𝕄 :=
  iprop((dat1 m outs a c).Φ t.succ ∗ (dat1 m outs a c).owesAt () t.succ
    ∗ owns (c : Thread nD τ) (((cfg1 a).win 0).stage ((cfg1 a).slots t 0)) fullShare ((dat1 m outs a c).after 0 t)
    ∗ owns (c : Thread nD τ) (((cfg1 a).win 1).stage ((cfg1 a).slots t 1)) fullShare ((dat1 m outs a c).after 1 t)
    ∗ owns (c : Thread nD τ) (((cfg1 a).win 2).stage ((cfg1 a).slots t 2)) fullShare ((dat1 m outs a c).after 2 t)
    ∗ owns (c : Thread nD τ) (((cfg1 a).win 3).stage ((cfg1 a).slots t 3)) fullShare ((dat1 m outs a c).after 3 t)
    ∗ (∃ X, ⌜R4 c t X⌝ ∗ owns (c : Thread nD τ) (((cfg1 a).win 4).stage ((cfg1 a).slots t 4)) fullShare X))

/-- The step the caller owes: what the body makes of a block it may find is in the relation. -/
def Step1 : Prop := ∀ (c : Dev nD) (t : Fin (cfg1 a).N) (Y : Vec F S1536x512 .bf16),
  (rdat1 m outs a R4 c).Finds 4 t Y → R4 c t (step1 m outs a hok c t Y)

set_option maxHeartbeats 1000000 in
theorem sound_body1 (hstep : Step1 m outs a hok R4) (c : Dev nD) (t : Fin (cfg1 a).N) :
    bodyPre1 m outs a R4 c t ⊢ wp frame (wpE (defs₀ (F := F)) Variants.none c none) Set.univ (bodyAt1 a t) (fun _ => bodyPost1 m outs a R4 c t) := by
  unfold bodyPre1 bodyPost1 bodyAt1
  simp only [before1_0, before1_1, before1_2, before1_3]
  rw [show (dat1 m outs a c).Φ t.succ = (dat1 m outs a c).Φ t.castSucc from rfl,
    show (dat1 m outs a c).owesAt () t.succ = (dat1 m outs a c).owesAt () t.castSucc from rfl,
    after1_0, after1_1, after1_2, after1_3,
    show (dat1 m outs a c).Φ t.castSucc = iprop(Pipeline.ΦA spec1 c ∗ Pipeline.prefHeld pre1 c (fun _ => fullShare) a.1) from rfl,
    pref1_eq]
  unfold Pipeline.ΦA
  rw [scopedRest1_eq]
  iintro ⟨⟨⟨⟨S0, S1, S2, S3, S4, S5, Hs⟩, Hp⟩, ⟨HT, HT1⟩⟩, Ho, ⟨%d0, H0⟩, ⟨%d1, H1⟩, ⟨%d2, H2⟩, ⟨%d3, H3⟩, ⟨%Y, %hY, H4⟩⟩
  iapply (sound_kernel1 c Set.univ (grid1.coords t) _ _ _ _ _ _ _ _ _ _ _ _ _ _ _ _ (a.1 0) (iblk1 m outs a c 0 t) (iblk1 m outs a c 1 t)
    (iblk1 m outs a c 2 t) (iblk1 m outs a c 3 t) Y (hok (grid1.coords t)).1 (hok (grid1.coords t)).2 _)
  isplitl [HT]; · iexact HT
  isplitl [H0]; · iexact H0
  isplitl [H1]; · iexact H1
  isplitl [H2]; · iexact H2
  isplitl [H3]; · iexact H3
  isplitl [H4]; · iexact H4
  isplitl [Hs]
  · icases Hs with ⟨%f, Hs⟩
    iexists f
    iapply (BI.BIBase.Entails.of_eq (scratch_owns c f).symm)
    iexact Hs
  iintro ⟨HT, H0, H1, H2, H3, H4, ⟨%f, Hs⟩⟩
  isplitl [S0 S1 S2 S3 S4 S5 Hs Hp HT HT1]
  · isplitl [S0 S1 S2 S3 S4 S5 Hs Hp]
    · isplitl [S0 S1 S2 S3 S4 S5 Hs]
      · isplitl [S0]; · iexact S0
        isplitl [S1]; · iexact S1
        isplitl [S2]; · iexact S2
        isplitl [S3]; · iexact S3
        isplitl [S4]; · iexact S4
        isplitl [S5]; · iexact S5
        iexists f
        iapply (BI.BIBase.Entails.of_eq (scratch_owns c f))
        iexact Hs
      iexact Hp
    isplitl [HT]; · iexact HT
    iexact HT1
  isplitl [Ho]; · iexact Ho
  isplitl [H0]; · iexact H0
  isplitl [H1]; · iexact H1
  isplitl [H2]; · iexact H2
  isplitl [H3]; · iexact H3
  iexists _
  isplitr
  swap; · iexact H4
  ipureintro
  exact hstep c t Y hY

theorem body_obligation1 (hstep : Step1 m outs a hok R4) (c : Dev nD) :
    Pipeline.BodyObligationRel (dat1 m outs a c) (defs₀ (F := F)) Variants.none () Set.univ (fgt1 a) (Rl1 a (R4 c)) := fun t => by
  rw [defs₀_row1]
  rw [show (Finset.univ : Finset (Fin (cfg1 a).W)) = (Finset.univ : Finset (Fin 5)) from rfl, bigSep_W1, bigSep_W1]
  exact triple_restated (sound_body1 m outs a hok R4 hstep c t) rfl .rfl fun _ => .rfl

/-- The obligation as the launch takes it. -/
theorem robligation1 (hstep : Step1 m outs a hok R4) (c : Dev nD) :
    (rdat1 m outs a R4 c).BodyObligation (defs₀ (F := F)) Variants.none () Set.univ :=
  (body_obligation1 m outs a hok R4 hstep c).toRRel

end Cert.Kernel.Hand

end
-- ==== Proof.KB.Launch1.lean ====
module

public import proofs.«01_k».proof.Proof.RelSeg
public import proofs.«01_k».proof.Proof.KB.Body0
public import proofs.«01_k».proof.Proof.KB.Obl1
public import Idealize.ShloMosaic.Lib.Pipeline.ArrRel
public import Idealize.ShloMosaic.Lib.Pipeline.RegionArraysS
public import Idealize.ShloMosaic.Lib.Pipeline.FrameTail

/-! The launch of the whole program: the quantiser's region, the host's stretches, and the grouped product's region, whose output block
    is held to a relation. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf HostSeg)
open Cert.Kernel.Gen

variable {F : FTy → Type} [FloatOps F]

local notation "𝕄" => MT nD τ sig Unit (Elt F) ℕ (UR sig nD τ) ℕ

variable (m : (ℓ : Loc nD τ sig) → Buf (Elt F) ℓ)

/-- What the quantiser's region leaves in each buffer. -/
def outs0 : Outs (F := F) := fun _ r c => Pipeline.afterRegion (dat0 m c) (V0 m c) (Proc.devRef .tc r)

theorem V1_outs0 (c : Dev nD) (r : Ref sig .tc) : V1 m (outs0 m) c (Proc.devRef .tc r) = Pipeline.afterRegion (dat0 m c) (V0 m c) (Proc.devRef .tc r) := by
  by_cases h0 : r = main_v0_0
  · subst h0
    unfold V1
    rw [Function.update_of_ne (StableHlo.devRef_ne_of_ne (by decide)), Function.update_self]
    rfl
  by_cases h1 : r = main_v0_1
  · subst h1
    unfold V1
    rw [Function.update_self]
    rfl
  rw [V1_of m (outs0 m) c r (by simp [h0, h1])]
  symm
  refine Pipeline.afterRegion_keeps (dat0 m c) (V0 m c) (launch0 (F := F)).win.arr_inj (A0_eq m c) r fun w hw => ?_
  match w with
  | ⟨0, _⟩ => rfl
  | ⟨1, _⟩ => exact absurd hw.symm h0
  | ⟨2, _⟩ => exact absurd hw.symm h1

/-- The tables' contents, for both pipelines (the first has none). -/
def adms (a : (pcfg1 (F := F)).Adm) : (p : Fin 2) → (pcfgs (F := F) p).Adm := fun
  | ⟨0, _⟩ => cfg0.toPCfg_adm
  | ⟨1, _⟩ => a

variable (a : (pcfg1 (F := F)).Adm)

/-- The two regions' proof data. -/
def pds : (p : Fin 2) → (c : Dev nD) → Dat τ (Elt F) Unit ℕ (UR sig nD τ) ℕ (Pipeline.pin (pcfgs (F := F)) (adms a) p) c := fun
  | ⟨0, _⟩ => fun c => dat0 m c
  | ⟨1, _⟩ => fun c => dat1 m (outs0 m) a c

/-- Which windows are held to a relation: the grouped product's output. -/
def fgs : (p : Fin 2) → Fin (Pipeline.pin (pcfgs (F := F)) (adms a) p).W → Bool := fun
  | ⟨0, _⟩ => fun _ => false
  | ⟨1, _⟩ => fgt1 a

variable (R4 : Dev nD → Fin (cfg1 a).N → Vec F S1536x512 .bf16 → Prop)

/-- The relations. -/
def rls : (p : Fin 2) → (c : Dev nD) → (w : Fin (Pipeline.pin (pcfgs (F := F)) (adms a) p).W) → Fin (Pipeline.pin (pcfgs (F := F)) (adms a) p).N →
    (((Pipeline.pin (pcfgs (F := F)) (adms a) p).win w).block.Idx → Elt F ((Pipeline.pin (pcfgs (F := F)) (adms a) p).win w).elt) → Prop := fun
  | ⟨0, _⟩ => fun _ _ _ _ => True
  | ⟨1, _⟩ => fun c => Rl1 a (R4 c)

abbrev L0 : GSem nD τ sig → Finset Unit := fun _ => ∅
abbrev lv0 : GSem nD τ sig → Unit → ℕ := fun _ _ => 0

/-- The quantiser's region as a segment. -/
def R0 : RDat.RegionSeg (pcfgs (F := F)) (adms a) (Lib.rels (pcfgs (F := F)) (adms a) (pds m a) (fgs a) (rls a R4)) () defs₀ Variants.none L0 lv0 0 :=
  Lib.relSeg (pcfgs (F := F)) (adms a) (pds m a) () defs₀ Variants.none L0 lv0 0 (fgs a) (rls a R4) launch0
    (hbody := fun c => (body_obligation0 m c).toR)
    (howed := fun _ _ => rfl) (hrec := fun _ => rfl) (hshare := fun c w => by
      match w with
      | ⟨0, _⟩ => rfl
      | ⟨1, _⟩ => rfl
      | ⟨2, _⟩ => rfl)
    (W := V0 m) (hW := fun c w => A0_eq m c w) (hT := fun c k => k.elim0)
    (hin := fun c => (show _ ⊢ Pipeline.ΦA spec0 c from by
      unfold Pipeline.ΦA; iintro ⟨Hp, -, Hr⟩
      isplitl [Hr] <;> iassumption))
    (hout := fun c => (show Pipeline.ΦA spec0 c ⊢ _ from by
      rw [Pipeline.prefHeld_of_none _ rfl]
      unfold Pipeline.ΦA; iintro ⟨Hr, Hp⟩
      isplitl [Hp]; · iexact Hp
      isplitr; · iempintro
      iexact Hr))
    (mk := fun c _ => V1 m (outs0 m) c)
    (hmkA := fun c A hA w => ((dat0 m c).toR_arrAt w _ _ (hA w)).trans
      ((Pipeline.afterRegion_arr (dat0 m c) (V0 m c) (launch0 (F := F)).win.arr_inj w).symm.trans (V1_outs0 m c _).symm))
    (hmkO := fun c A d hd => by
      have h0 : d ≠ Proc.devRef .tc main_v0_0 := fun e => (Finset.mem_sdiff.mp hd).2 (e ▸ Finset.mem_map.mpr ⟨_, Finset.mem_image.mpr ⟨1, Finset.mem_univ _, rfl⟩, rfl⟩)
      have h1 : d ≠ Proc.devRef .tc main_v0_1 := fun e => (Finset.mem_sdiff.mp hd).2 (e ▸ Finset.mem_map.mpr ⟨_, Finset.mem_image.mpr ⟨2, Finset.mem_univ _, rfl⟩, rfl⟩)
      show Function.update (Function.update (V0 m c) _ _) _ _ d = _
      rw [Function.update_of_ne h1, Function.update_of_ne h0])

/-- The tables the second region reads are `a`'s contents. -/
abbrev TablesAt : Prop := ∀ (c : Dev nD) (k : Fin 2), a.1 k = V6 m (outs0 m) c (Proc.devRef .tc (pre1.ref k))

theorem arrAt1_in (c : Dev nD) (w : Fin (cfg1 a).W) (hw : ((cfg1 a).win w).isOut = false)
    (A : Buf (Elt F) (((cfg1 a).win w).arr.view.loc (c.tc : Thread nD τ)))
    (hA : (rdat1 m (outs0 m) a R4 c).ArrAt w (cfg1 a).N A) : A = V6 m (outs0 m) c (Proc.devRef .tc (Pipeline.arrRef spec1 w)) := by
  obtain ⟨X, -, h⟩ := hA.exists_exact
  rw [h (fun w' t => if e : w = w' then e ▸ X t else (dat1 m (outs0 m) a c).after w' t) fun u _ _ => by simp, Dat.arrAt_in _ w hw]
  exact A1_eq m (outs0 m) a c w

/-- The buffers after the second region, its output at `Y`. -/
def mk1 (c : Dev nD) (Y : Buf (Elt F) ((c.tc : Thread nD τ).loc main_v12)) : Valuation τ sig (Elt F) :=
  Function.update (V6 m (outs0 m) c) (Proc.devRef .tc main_v12) Y

theorem mk1_self (c : Dev nD) (Y : Buf (Elt F) ((c.tc : Thread nD τ).loc main_v12)) : mk1 m c Y (Proc.devRef .tc main_v12) = Y :=
  Function.update_self _ _ _

theorem mk1_of (c : Dev nD) (Y : Buf (Elt F) ((c.tc : Thread nD τ).loc main_v12)) (r : Ref sig .tc) (h : r ≠ main_v12) :
    mk1 m c Y (Proc.devRef .tc r) = V6 m (outs0 m) c (Proc.devRef .tc r) :=
  Function.update_of_ne (StableHlo.devRef_ne_of_ne h) _ _

theorem in_ne : ∀ w : Fin 5, w ≠ 4 → Pipeline.arrRef spec1 w ≠ main_v12 := by decide

theorem isOut1 (w : Fin 5) (h : w ≠ 4) : ((cfg1 a).win w).isOut = false := by
  match w, h with
  | ⟨0, _⟩, _ => rfl
  | ⟨1, _⟩, _ => rfl
  | ⟨2, _⟩, _ => rfl
  | ⟨3, _⟩, _ => rfl
  | ⟨4, _⟩, h => exact absurd rfl h

theorem mkA1 (c : Dev nD) (A : (w : Fin (cfg1 a).W) → Buf (Elt F) (((cfg1 a).win w).arr.view.loc (c.tc : Thread nD τ)))
    (hA : ∀ w, (rdat1 m (outs0 m) a R4 c).ArrAt w (cfg1 a).N (A w)) (w : Fin (cfg1 a).W) :
    A w = mk1 m c (A (4 : Fin 5)) (Proc.devRef .tc (Pipeline.arrRef spec1 w)) := by
  by_cases h : w = (4 : Fin 5)
  · rw [h]
    exact (mk1_self m c (A (4 : Fin 5))).symm
  · exact (arrAt1_in m a R4 c w (isOut1 a w h) _ (hA w)).trans (mk1_of m c _ _ (in_ne w h)).symm

/-- The grouped product's region as a segment. -/
def R1 (hT : TablesAt m a) (hok : okWords a) (hstep : Step1 m (outs0 m) a hok R4) :
    RDat.RegionSeg (pcfgs (F := F)) (adms a) (Lib.rels (pcfgs (F := F)) (adms a) (pds m a) (fgs a) (rls a R4)) () defs₀ Variants.none L0 lv0 1 :=
  Lib.relSeg (pcfgs (F := F)) (adms a) (pds m a) () defs₀ Variants.none L0 lv0 1 (fgs a) (rls a R4) launch1
    (hbody := fun c => robligation1 m (outs0 m) a hok R4 hstep c)
    (howed := fun _ _ => rfl) (hrec := fun _ => rfl) (hshare := fun c w => by
      match w with
      | ⟨0, _⟩ => rfl
      | ⟨1, _⟩ => rfl
      | ⟨2, _⟩ => rfl
      | ⟨3, _⟩ => rfl
      | ⟨4, _⟩ => rfl)
    (W := V6 m (outs0 m)) (hW := fun c w => A1_eq m (outs0 m) a c w) (hT := fun c k => hT c k)
    (hin := fun c => (show _ ⊢ iprop(Pipeline.ΦA spec1 c ∗ Pipeline.prefHeld pre1 c (fun _ => fullShare) a.1) from by
      unfold Pipeline.ΦA; iintro ⟨Hp, Ht, Hr⟩
      isplitl [Hr Hp]
      · isplitl [Hr] <;> iassumption
      iexact Ht))
    (hout := fun c => (show iprop(Pipeline.ΦA spec1 c ∗ Pipeline.prefHeld pre1 c (fun _ => fullShare) a.1) ⊢ _ from by
      unfold Pipeline.ΦA; iintro ⟨⟨Hr, Hp⟩, Ht⟩
      isplitl [Hp]; · iexact Hp
      isplitl [Ht]; · iexact Ht
      iexact Hr))
    (mk := fun c A => mk1 m c (A (4 : Fin 5)))
    (hmkA := fun c A hA w => mkA1 m a R4 c A hA w)
    (hmkO := fun c A d hd => by
      have h0 : d ≠ Proc.devRef .tc main_v12 := fun e => (Finset.mem_sdiff.mp hd).2 (e ▸ Finset.mem_map.mpr ⟨_, Finset.mem_image.mpr ⟨4, Finset.mem_univ _, rfl⟩, rfl⟩)
      exact Function.update_of_ne h0 _ _)

/-- What rides beside the buffers. -/
abbrev Erest : Fin 3 → Dev nD → sProp 𝕄 := fun _ c => Lib.rest c

/-- An argument's buffer, at the end. -/
theorem mk1_arg (c : Dev nD) (Y : Buf (Elt F) ((c.tc : Thread nD τ).loc main_v12)) (r : Ref sig .tc) (h : r ≠ main_v12)
    (hr : V7 m (outs0 m) c (Proc.devRef .tc r) = m ((c : Thread nD τ).loc r)) : mk1 m c Y (Proc.devRef .tc r) = m ((c : Thread nD τ).loc r) :=
  (mk1_of m c Y r h).trans ((V7_of m (outs0 m) c r (by simpa using h)).symm.trans hr)

set_option backward.isDefEq.respectTransparency.types false in
set_option maxHeartbeats 1000000 in
/-- The program runs from every memory at which the second region's tables are admissible: the arguments end as they were, the result is
    one that the grouped product's relation allows, and every semaphore is at zero. -/
theorem run_all (ρ : Dev nD → PrngReg) (hT : TablesAt m a) (hok : okWords a) (hstep : Step1 m (outs0 m) a hok R4) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ (rdat1 m (outs0 m) a R4 c).ArrAt (4 : Fin 5) (cfg1 a).N (r.2.mem ((c.tc : Thread nD τ).loc main_v12)))
      ∧ r.2.sem = fun _ => 0) := by
  refine RDat.θ_run_regions_kit_dev_sems (pcfgs (F := F)) (adms a) (Lib.rels (pcfgs (F := F)) (adms a) (pds m a) (fgs a) (rls a R4)) ()
    (cellOf_inj (adms a)) emb₁ defs₀ Variants.none L0 lv0 m ρ main
    (fun c => [.region (R0 m a R4), .host (seg1 m (outs0 m) Variants.none L0 lv0 Erest), .host (seg2 m (outs0 m) Variants.none L0 lv0 Erest),
      .host (seg3 m (outs0 m) Variants.none L0 lv0 Erest), .host (seg4 m (outs0 m) Variants.none L0 lv0 Erest),
      .host (seg5 m (outs0 m) Variants.none L0 lv0 Erest), .region (R1 m a R4 hT hok hstep)])
    (fun c Q => by
      rewrite [main_chain c, RDat.Seg.run_eq_chain,
        show (List.map RDat.Seg.prog [.region (R0 m a R4), .host (seg1 m (outs0 m) Variants.none L0 lv0 Erest), .host (seg2 m (outs0 m) Variants.none L0 lv0 Erest),
      .host (seg3 m (outs0 m) Variants.none L0 lv0 Erest), .host (seg4 m (outs0 m) Variants.none L0 lv0 Erest),
      .host (seg5 m (outs0 m) Variants.none L0 lv0 Erest), .region (R1 m a R4 hT hok hstep)]) = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      dsimp (config := { failIfUnchanged := false }) only
      exact .rfl)
    (fun c => by simp only [RDat.Seg.pipes_host, RDat.Seg.pipes_region, RDat.Seg.pipes_nil]; decide)
    (O₀ := 0) (hL := fun _ _ => rfl)
    (G := fun _ => iprop(emp)) (u₀ := initOf (Pipeline.cells (Pipeline.pin (pcfgs (F := F)) (adms a)) (cellOf_inj (adms a))) (Pipeline.launchToks (Pipeline.pin (pcfgs (F := F)) (adms a)) (cellOf_inj (adms a))))
    (hu₀ := by
      iintro Hu; imodintro
      isplitl [Hu]
      · iapply (show (ownU _ : sProp 𝕄) ⊢ BI.own (emb₁ (initOf (Pipeline.cells (Pipeline.pin (pcfgs (F := F)) (adms a)) (cellOf_inj (adms a))) (Pipeline.launchToks (Pipeline.pin (pcfgs (F := F)) (adms a)) (cellOf_inj (adms a))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V0 m c) ∗ Lib.rest c))
    (Tₙ := fun c => iprop(∃ Y : Buf (Elt F) ((c.tc : Thread nD τ).loc main_v12), ⌜(rdat1 m (outs0 m) a R4 c).ArrAt (4 : Fin 5) (cfg1 a).N Y⌝
      ∗ StableHlo.held (c.tc : Thread nD τ) (Pipeline.ucRefs τ sig) (mk1 m c Y)))
    (hch := fun c => ⟨.rfl, ?_, .rfl, .rfl, .rfl, .rfl, .rfl, ?_⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
      ∧ (rdat1 m (outs0 m) a R4 c).ArrAt (4 : Fin 5) (cfg1 a).N (s.mem ((c.tc : Thread nD τ).loc main_v12)))
    (hfin := fun c s' => ?_) (hQ := fun _ h hz => ⟨h, funext fun g => hz g (.inr (regions_no_unscoped g.2))⟩)
  · show iprop(∃ A, ⌜_⌝ ∗ StableHlo.held (c.tc : Thread nD τ) (Pipeline.ucRefs τ sig) (V1 m (outs0 m) c) ∗ Lib.rest c) ⊢
      iprop(StableHlo.held (c.tc : Thread nD τ) (Pipeline.ucRefs τ sig) (V1 m (outs0 m) c) ∗ Lib.rest c)
    iintro ⟨%A, -, H⟩
    iexact H
  · show iprop(∃ A : (w : Fin (cfg1 a).W) → Buf (Elt F) (((cfg1 a).win w).arr.view.loc (c.tc : Thread nD τ)), ⌜∀ w, (rdat1 m (outs0 m) a R4 c).ArrAt w (cfg1 a).N (A w)⌝
        ∗ StableHlo.held (c.tc : Thread nD τ) (Pipeline.ucRefs τ sig) (mk1 m c (A (4 : Fin 5))) ∗ Lib.rest c) ⊢ _
    iintro ⟨%A, %hA, Hh, -, HO⟩
    isplitl [Hh]
    · iexists (A (4 : Fin 5))
      isplitr; · ipureintro; exact hA (4 : Fin 5)
      iexact Hh
    iexact HO
  · refine Pipeline.initEach L0 lv0 fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨⟨%Y, %hY, Hh⟩, HSI⟩
    ihave Hr := (pointsTo_read_all (Pipeline.ucRefs τ sig) (fun b => ((c : Thread nD τ).1, b)) (mk1 m c Y) s') $$ [Hh HSI]
    · isplitl [Hh] <;> iassumption
    icases Hr with ⟨%h, HSI⟩
    imodintro
    isplitr
    · ipureintro
      have h12 : s'.mem.mem ((c.tc : Thread nD τ).loc main_v12) = Y :=
        (h (Proc.devRef .tc main_v12) (Finset.mem_filter.mpr ⟨StableHlo.devRef_mem_tcRefs main_v12, by decide⟩)).trans (mk1_self m c Y)
      exact ⟨⟨(h (Proc.devRef .tc main_arg0) (Finset.mem_filter.mpr ⟨StableHlo.devRef_mem_tcRefs main_arg0, by decide⟩)).trans (mk1_arg m c Y main_arg0 (by decide) (V7_main_arg0 m (outs0 m) c)),
        (h (Proc.devRef .tc main_arg1) (Finset.mem_filter.mpr ⟨StableHlo.devRef_mem_tcRefs main_arg1, by decide⟩)).trans (mk1_arg m c Y main_arg1 (by decide) (V7_main_arg1 m (outs0 m) c)),
        (h (Proc.devRef .tc main_arg2) (Finset.mem_filter.mpr ⟨StableHlo.devRef_mem_tcRefs main_arg2, by decide⟩)).trans (mk1_arg m c Y main_arg2 (by decide) (V7_main_arg2 m (outs0 m) c)),
        (h (Proc.devRef .tc main_arg3) (Finset.mem_filter.mpr ⟨StableHlo.devRef_mem_tcRefs main_arg3, by decide⟩)).trans (mk1_arg m c Y main_arg3 (by decide) (V7_main_arg3 m (outs0 m) c))⟩,
        h12 ▸ hY⟩
    · iexact HSI

end Cert.Kernel.Hand

end
-- ==== Proof.KB.Tables.lean ====
module

public import proofs.«01_k».proof.Proof.Groups
public import proofs.«01_k».proof.Proof.KB.Words1
public import proofs.«01_k».proof.Proof.KB.Launch1

/-! The two tables the grouped product's region reads: what the host's stretches leave in them, and that they are admissible. -/

@[expose] public section

set_option maxRecDepth 16384

noncomputable section

namespace Cert.Kernel.Hand

open Idealize.ShloMosaic Idealize.ShloMosaic.TcCoe Idealize.ShloMosaic.Tactic
open Idealize.SL Idealize.SL.Sem
open Cert.Kernel.Gen
open Cert.Groups

variable {F : FTy → Type} [FloatOps F]
variable (m : (ℓ : Loc nD τ sig) → Buf (Elt F) ℓ) (outs : Outs (F := F))

/-- The group sizes as launched. -/
abbrev gs (c : Dev nD) : IVec S8 32 := m ((c : Thread nD τ).loc main_arg1)

theorem V2_arg1 (c : Dev nD) : V2 m outs c main_arg1 = gs m c :=
  (V2_of m outs c main_arg1 (by decide)).trans ((V1_of m outs c main_arg1 (by decide)).trans rfl)

theorem V3_arg1 (c : Dev nD) : V3 m outs c main_arg1 = gs m c :=
  (V3_of m outs c main_arg1 (by decide)).trans (V2_arg1 m outs c)

section
variable (V : Valuation τ sig (Elt F))
theorem s1_v5 : (StableHlo.after hostOps1_1 V main_v5 : IVec S8 32) = Host.reduceWindow IntOp.addi ![8] ![1] ![7] ![0] (V main_arg1 : IVec S8 32) (broadcastInDim S_ ![] bcast_S_S_ (constantI S_ 32 0#32)) reduceWindows_S8_S8_w8s1p7_0 h_S_ := by
  after_results_simp
  simp only [StableHlo.TRef.ofBuf_toBuf]
  exact eq_of_heq (cast_heq _ _)
theorem s2_v6 : (StableHlo.after hostOps1_2 V main_v6 : IVec S9 32) = concatenate S9 0 [⟨S1, V main_v4⟩, ⟨S8, V main_v5⟩] concatenates_S1_S8_S9_d0 := by
  after_results_simp
theorem s2_v7 : (StableHlo.after hostOps1_2 V main_v7 : IVec S8 32) = iotaInDim S8 32 0 := by
  after_results_simp
theorem s0_v4 : (StableHlo.after hostOps1 V main_v4 : IVec S1 32) = broadcastInDim S1 ![] bcast_S_S1 (constantI S_ 32 0#32) := by
  after_results_simp
theorem s2_v9 : (StableHlo.after hostOps1_2 V main_v9 : IVec S8 1) = cmpi .sgt (V main_arg1 : IVec S8 32) (broadcastInDim S8 ![] bcast_S_S8 (constantI S_ 32 0#32)) := by
  after_results_simp
theorem s2_c1 : (StableHlo.after hostOps1_2 V main_c_1 : IVec S_ 32) = fun _ => 0#32 := by
  after_results_simp
  rfl
theorem s3_v10 : (StableHlo.after hostOps1_3 V main_v10 : IVec S8 32) = select (V main_v9 : IVec S8 1) (V main_v7 : IVec S8 32) (broadcastInDim S8 ![] bcast_S_S8 (V main_c_1 : IVec S_ 32)) := by
  after_results_simp
  rfl
theorem s4_v11 : (StableHlo.after hostOps1_4 V main_v11 : IVec S8 32) = Host.reduceWindow IntOp.maxsi ![8] ![1] ![7] ![0] (V main_v10 : IVec S8 32) (broadcastInDim S_ ![] bcast_S_S_ (constantI S_ 32 2147483648#32)) reduceWindows_S8_S8_w8s1p7_0 h_S_ := by
  after_results_simp
  simp only [StableHlo.TRef.ofBuf_toBuf]
  exact eq_of_heq (cast_heq _ _)
end

theorem V3_v5 (c : Dev nD) (i : Fin 8) : (V3 m outs c main_v5 : IVec S8 32) (Idealize.ShloMosaic.ix1 i) = fold8 IntOp.addi 0#32 (gs m c) i :=
  (congrFun (s1_v5 (V2 m outs c)) _).trans ((reduceWindow_eq _ _ _ _ _ i).trans (congrArg (fun x => fold8 IntOp.addi 0#32 x i) (V2_arg1 m outs c)))

theorem V6_v6 (c : Dev nD) : (V6 m outs c main_v6 : IVec S9 32) = concatenate S9 0 [⟨S1, V3 m outs c main_v4⟩, ⟨S8, V3 m outs c main_v5⟩] concatenates_S1_S8_S9_d0 :=
  (V6_of m outs c main_v6 (by decide)).trans ((V5_of m outs c main_v6 (by decide)).trans (s2_v6 (V3 m outs c)))

theorem V5_v10 (c : Dev nD) : (V5 m outs c main_v10 : IVec S8 32) = own (gs m c) := by
  refine (s3_v10 (V4 m outs c)).trans ?_
  have h9 : (V4 m outs c main_v9 : IVec S8 1) = _ := s2_v9 (V3 m outs c)
  have h7 : (V4 m outs c main_v7 : IVec S8 32) = _ := s2_v7 (V3 m outs c)
  have h1 : (V4 m outs c main_c_1 : IVec S_ 32) = _ := s2_c1 (V3 m outs c)
  have ha : (V3 m outs c main_arg1 : IVec S8 32) = gs m c := V3_arg1 m outs c
  rw [h9, h7, h1, ha]
  rfl

theorem V6_v11 (c : Dev nD) (i : Fin 8) : (V6 m outs c main_v11 : IVec S8 32) (Idealize.ShloMosaic.ix1 i) = fold8 IntOp.maxsi 2147483648#32 (own (gs m c)) i :=
  (congrFun (s4_v11 (V5 m outs c)) _).trans ((reduceWindow_eq _ _ _ _ _ i).trans (congrArg (fun x => fold8 IntOp.maxsi 2147483648#32 x i) (V5_v10 m outs c)))

/-- The offsets table's entries: the running sums of the sizes. -/
theorem V6_starts (c : Dev nD) (hg : Good (gs m c)) (k : Fin 9) : (V6 m outs c main_v6 : IVec S9 32) (Idealize.ShloMosaic.ix1 k) = BitVec.ofNat 32 (pre (gs m c) k.val) := by
  rw [V6_v6]
  refine Fin.cases ?_ (fun e => ?_) k
  · refine (concat_zero _ _ _).trans ?_
    have h4 : (V3 m outs c main_v4 : IVec S1 32) = _ := (V3_of m outs c main_v4 (by decide)).trans (s0_v4 (V1 m outs c))
    rw [h4]; rfl
  · refine (concat_succ _ _ _ e).trans ((V3_v5 m outs c e).trans ?_)
    exact cumsum_eq _ hg e

/-! ## The tables as the region is handed them -/

/-- The device the program runs on. -/
abbrev d0 : Dev nD := ⟨0, by decide⟩

theorem dev_eq (c : Dev nD) : c = d0 := Subsingleton.elim (α := Fin 1) c d0

/-- The two tables' contents. -/
def pf0 : pre1.Contents (Elt F) := fun k => V6 m outs d0 (Proc.devRef .tc (pre1.ref k))

theorem pf0_zero (k : Fin 9) (hg : Good (gs m d0)) : (pf0 m outs 0 : IVec S9 32) (Idealize.ShloMosaic.ix1 k) = BitVec.ofNat 32 (pre (gs m d0) k.val) :=
  V6_starts m outs d0 hg k

theorem pf0_one (i : Fin 8) : (pf0 m outs 1 : IVec S8 32) (Idealize.ShloMosaic.ix1 i) = fold8 IntOp.maxsi 2147483648#32 (own (gs m d0)) i :=
  V6_v11 m outs d0 i

/-- The grid's expert coordinate. -/
abbrev ex (i : grid1.Coords) : Fin 8 := i 1

/-- A table read at a one-element rectangle: the element at its offset. -/
theorem pfAt_one (pf : pre1.Contents (Elt F)) (i : grid1.Coords)
    (h : ∀ a, (k1_off1 i) a + S1.size a ≤ S8.size a) (hn : S1.numel = 1) :
    pf.at 1 (Rect.unit (s := S8) (k1_off1 i) S1.size h) hn = (pf 1 : IVec S8 32) (Idealize.ShloMosaic.ix1 (ex i)) := by
  refine congrArg (pf 1 : IVec S8 32) (funext fun a => ?_)
  obtain rfl : a = (0 : Fin 1) := Subsingleton.elim (α := Fin 1) a 0
  refine Fin.ext ?_
  have hi : (i 1).val < 8 := (i 1).isLt
  show (BitVec.ofNat 32 (i 1).val).toNat + 0 * 1 = (i 1).val
  rw [BitVec.toNat_ofNat]; omega

theorem rowStart_eq (xt : IVec S9 32) (i : grid1.Coords) : rowStart (F := F) xt i = xt (Idealize.ShloMosaic.ix1 (ex i).castSucc) := by
  refine congrArg xt (funext fun a => ?_)
  obtain rfl : a = (0 : Fin 1) := Subsingleton.elim (α := Fin 1) a 0
  refine Fin.ext ?_
  have hi : (i 1).val < 8 := (i 1).isLt
  show (BitVec.ofNat 32 (i 1).val).toNat + 0 * 1 = (i 1).val
  rw [BitVec.toNat_ofNat]; omega

theorem rowEnd_eq (xt : IVec S9 32) (i : grid1.Coords) : rowEnd (F := F) xt i = xt (Idealize.ShloMosaic.ix1 (ex i).succ) := by
  refine congrArg xt (funext fun a => ?_)
  obtain rfl : a = (0 : Fin 1) := Subsingleton.elim (α := Fin 1) a 0
  refine Fin.ext ?_
  have hi : (i 1).val < 8 := (i 1).isLt
  show (BitVec.ofNat 32 (i 1).val + 1#32).toNat + 0 * 1 = (i 1).val + 1
  rw [BitVec.toNat_add, BitVec.toNat_ofNat]; simp; omega

theorem eidx_toNat (i : Fin 8) : ((pf0 m outs 1 : IVec S8 32) (Idealize.ShloMosaic.ix1 i)).toNat ≤ i.val := by
  rw [pf0_one]; exact eidx_lt _ i

theorem wBlock_inb (n b : ℕ) (hn : n < 8) (hb : b < 28) : ∀ a : Fin 3, ((![n, 0, b] : Fin 3 → ℕ) a + 1) * S1x1408x512.size a ≤ S8x1408x14336.size a := by
  intro a; fin_cases a
  · show (n + 1) * 1 ≤ 8; omega
  · show (0 + 1) * 1408 ≤ 1408; omega
  · show (b + 1) * 512 ≤ 14336; omega

theorem sBlock_inb (n b : ℕ) (hn : n < 8) (hb : b < 28) : ∀ a : Fin 3, ((![n, 0, b] : Fin 3 → ℕ) a + 1) * S1x22x512.size a ≤ S8x22x14336.size a := by
  intro a; fin_cases a
  · show (n + 1) * 1 ≤ 8; omega
  · show (0 + 1) * 22 ≤ 22; omega
  · show (b + 1) * 512 ≤ 14336; omega

theorem ok_of (pf : pre1.Contents (Elt F)) (h : ∀ i : Fin 8, ((pf 1 : IVec S8 32) (Idealize.ShloMosaic.ix1 i)).toNat < 8) : ok1 pf := by
  have hb : ∀ i : grid1.Coords, (BitVec.ofNat 32 (i 0).val).toNat < 28 := fun i => by
    have h0 : (i 0).val < 28 := (i 0).isLt
    rw [BitVec.toNat_ofNat]; omega
  have hk : ∀ i : grid1.Coords, (BitVec.toNat (w := 32) (pf.at 1 (Rect.unit (s := S8) (k1_off1 i) S1.size (k1_off1_inb i)) numel1_S1)) < 8 := fun i => by
    rw [pfAt_one]; exact h (ex i)
  exact ⟨fun i => ⟨wBlock_inb _ _ (hk i) (hb i), .inr (Affine.block_words_dvd (of_decide_eq_true rfl) (by decide))⟩,
    fun i => ⟨sBlock_inb _ _ (hk i) (hb i), .inl rfl⟩⟩

theorem ok_pf0 : ok1 (pf0 m outs) := ok_of _ fun i => (eidx_toNat m outs i).trans_lt i.isLt

/-- The tables the region runs at. -/
def adm0 : (pcfg1 (F := F)).Adm := ⟨pf0 m (outs0 m), ok_pf0 m (outs0 m)⟩

theorem tablesAt0 : TablesAt m (adm0 m) := fun c k => by rw [dev_eq c]; rfl

theorem rowStart0 (hg : Good (gs m d0)) (i : grid1.Coords) : rowStart (F := F) ((adm0 m).1 0) i = BitVec.ofNat 32 (pre (gs m d0) (ex i).val) :=
  (rowStart_eq _ i).trans (pf0_zero m (outs0 m) (ex i).castSucc hg)

theorem rowEnd0 (hg : Good (gs m d0)) (i : grid1.Coords) : rowEnd (F := F) ((adm0 m).1 0) i = BitVec.ofNat 32 (pre (gs m d0) ((ex i).val + 1)) :=
  (rowEnd_eq _ i).trans (pf0_zero m (outs0 m) (ex i).succ hg)

theorem okWords0 (hg : Good (gs m d0)) : okWords (adm0 m) := fun i => by
  have h1 := pre_mono (gs m d0) (Nat.le_succ (ex i).val)
  have h2 := pre_le (gs m d0) hg (ex i).isLt
  rw [rowStart0 m hg, rowEnd0 m hg]
  exact ⟨chk1_of _ _ h1 h2, trips2 _ _ h1 h2⟩

/-- Every run ends with the arguments as they were and every semaphore at zero. -/
theorem frame_run (ρ : Dev nD → PrngReg) (hg : Good (gs m d0)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := run_all m (adm0 m) (fun _ _ _ => True) ρ (tablesAt0 m) (okWords0 m hg) (fun _ _ _ _ => trivial)
  exact θ_run_mono h fun r hr => ⟨fun c => (hr.1 c).1, hr.2⟩

end Cert.Kernel.Hand

end
-- ==== Proof.Val.Scale.lean ====
module

public import proofs.«01_k».proof.Proof.KI.Body0
public import Idealize.ShloMosaic.PureOps.Ideal
public import Idealize.ShloMosaic.PureOps.Ideal.Laws

/-! The scale of a row: the kernel finds the exponent field of the greatest power of two at most `p` one bit at a time, and one
    above it is the field of the scale. Here that search is shown to end where it should, and the two patterns the kernel builds
    from it to be a power of two and its inverse. -/

@[expose] public section

set_option maxRecDepth 16384

noncomputable section

namespace Cert.Scale

open Idealize.ShloMosaic

/-- The number whose pattern has exponent field `n` and nothing else. -/
def V (n : ℕ) : EReal := Ideal.ofBits .f32 (BitVec.ofNat 32 n <<< 23)

theorem fields : ∀ n : Fin 256, ((BitVec.ofNat 32 n.val <<< 23).extractLsb' 31 1 = 0#1) ∧ ((BitVec.ofNat 32 n.val <<< 23).extractLsb' 23 8).toNat = n.val
    ∧ ((BitVec.ofNat 32 n.val <<< 23).extractLsb' 0 23).toNat = 0 := by decide +kernel

theorem V_zero : V 0 = 0 := by
  have h := fields 0
  simp only [Fin.val_zero] at h
  unfold V Ideal.ofBits Ideal.ieee
  simp [h.1, h.2.1, h.2.2]

theorem V_top : V 255 = ⊤ := by
  generalize hN : (255 : ℕ) = N
  obtain ⟨h1, h2, h3⟩ := fields ⟨N, by omega⟩
  dsimp only at h1 h2 h3
  unfold V Ideal.ofBits Ideal.ieee
  simp only [h1, h2, h3]
  rw [if_pos (by omega), if_pos trivial, if_neg (by decide)]

theorem pow_eq (n : ℤ) : ((1 : ℝ) * ((2 ^ 23 + 0 : ℕ) : ℝ) * (2 : ℝ) ^ (n - 127 - 23)) = (2 : ℝ) ^ (n - 127) := by
  have : n - 127 = (n - 127 - 23) + 23 := by ring
  rw [this, zpow_add₀ (by norm_num : (2 : ℝ) ≠ 0)]
  have h : ((2 ^ 23 + 0 : ℕ) : ℝ) = (2 : ℝ) ^ (23 : ℤ) := by norm_cast
  rw [h, one_mul, mul_comm, show n - 127 - 23 + 23 - 23 = n - 127 - 23 by ring]

theorem V_pow (n : ℕ) (h0 : 1 ≤ n) (h : n ≤ 254) : V n = (((2 : ℝ) ^ ((n : ℤ) - 127) : ℝ) : EReal) := by
  obtain ⟨h1, h2, h3⟩ := fields ⟨n, by omega⟩
  dsimp only at h1 h2 h3
  unfold V Ideal.ofBits Ideal.ieee
  simp only [h1, h2, h3]
  rw [if_neg (by omega), if_neg (by omega), ← pow_eq]
  have e : (0#1 == 1#1) = false := by decide
  have e2 : (n : ℤ) - (2 ^ (8 - 1) - 1) - ((23 : ℕ) : ℤ) = (n : ℤ) - 127 - 23 := by norm_num
  rw [e, e2, if_neg Bool.false_ne_true]

theorem V_mono {a b : ℕ} (h : a ≤ b) (hb : b ≤ 254) : V a ≤ V b := by
  rcases Nat.eq_zero_or_pos a with rfl | ha
  · rw [V_zero]
    rcases Nat.eq_zero_or_pos b with rfl | hb0
    · exact V_zero.ge
    · rw [V_pow b hb0 hb]
      exact_mod_cast (zpow_pos (by norm_num : (0 : ℝ) < 2) _).le
  · rw [V_pow a ha (by omega), V_pow b (by omega) hb]
    exact_mod_cast zpow_le_zpow_right₀ (by norm_num : (1 : ℝ) ≤ 2) (by omega : (a : ℤ) - 127 ≤ (b : ℤ) - 127)

/-- The search's state: the answer lies in the `w` fields from `n` on. -/
def Inv (p : EReal) (n w : ℕ) : Prop := n + w ≤ 256 ∧ V n ≤ p ∧ (n + w = 256 ∨ p < V (n + w))

/-- One step of the search, on the words. -/
def wstep (p : EReal) (b f : BitVec 32) : BitVec 32 :=
  Scalar.select (Ideal.cmp .oge p (Ideal.ofBits .f32 (IntOp.shli .vector (IntOp.addi f b) 23#32))) (IntOp.addi f b) f

theorem wstep_inv (p : EReal) (b n : ℕ) (hb : b < 256) (hb0 : 0 < b) (h : Inv p n (2 * b)) :
    ∃ n', wstep p (BitVec.ofNat 32 b) (BitVec.ofNat 32 n) = BitVec.ofNat 32 n' ∧ Inv p n' b := by
  obtain ⟨h1, h2, h3⟩ := h
  have e : IntOp.addi (BitVec.ofNat 32 n) (BitVec.ofNat 32 b) = BitVec.ofNat 32 (n + b) := (BitVec.ofNat_add n b).symm
  have e2 : Ideal.ofBits .f32 (IntOp.shli .vector (BitVec.ofNat 32 (n + b)) 23#32) = V (n + b) := rfl
  unfold wstep
  rw [e, e2]
  by_cases hp : V (n + b) ≤ p
  · refine ⟨n + b, ?_, by omega, hp, ?_⟩
    · simp [Scalar.select, Ideal.cmp, hp]
    · rw [show n + b + b = n + 2 * b by omega]; exact h3
  · refine ⟨n, ?_, by omega, h2, .inr (not_le.mp hp)⟩
    simp [Scalar.select, Ideal.cmp, hp]

/-- The whole search. -/
def wfield (p : EReal) : BitVec 32 :=
  wstep p 1#32 (wstep p 2#32 (wstep p 4#32 (wstep p 8#32 (wstep p 16#32 (wstep p 32#32 (wstep p 64#32 (wstep p 128#32 0#32)))))))

theorem wfield_inv (p : EReal) (hp : 0 ≤ p) : ∃ n, wfield p = BitVec.ofNat 32 n ∧ Inv p n 1 := by
  have h0 : Inv p 0 (2 * 128) := ⟨by omega, V_zero.le.trans hp, .inl rfl⟩
  obtain ⟨n1, e1, h1⟩ := wstep_inv p 128 0 (by omega) (by omega) h0
  obtain ⟨n2, e2, h2⟩ := wstep_inv p 64 n1 (by omega) (by omega) h1
  obtain ⟨n3, e3, h3⟩ := wstep_inv p 32 n2 (by omega) (by omega) h2
  obtain ⟨n4, e4, h4⟩ := wstep_inv p 16 n3 (by omega) (by omega) h3
  obtain ⟨n5, e5, h5⟩ := wstep_inv p 8 n4 (by omega) (by omega) h4
  obtain ⟨n6, e6, h6⟩ := wstep_inv p 4 n5 (by omega) (by omega) h5
  obtain ⟨n7, e7, h7⟩ := wstep_inv p 2 n6 (by omega) (by omega) h6
  obtain ⟨n8, e8, h8⟩ := wstep_inv p 1 n7 (by omega) (by omega) h7
  refine ⟨n8, ?_, h8⟩
  unfold wfield
  rw [e1, e2, e3, e4, e5, e6, e7, e8]

/-- The exponent of a row's scale, as the kernel computes it. -/
def expo (p : EReal) : BitVec 32 :=
  Scalar.select (Ideal.cmp .oeq p (Ideal.ofBits .f32 0#32)) 0#32 (IntOp.subi (wfield p) 126#32)

/-- The scale and the factor the codes are multiplied by. -/
def scaleOf (p : EReal) : EReal := Ideal.ofBits .f32 (IntOp.shli .vector (IntOp.addi (expo p) 127#32) 23#32)
def invOf (p : EReal) : EReal := Ideal.ofBits .f32 (IntOp.shli .vector (IntOp.subi 127#32 (expo p)) 23#32)

theorem words : ∀ n : Fin 253, IntOp.addi (IntOp.subi (BitVec.ofNat 32 n.val) 126#32) 127#32 = BitVec.ofNat 32 (n.val + 1)
    ∧ IntOp.subi 127#32 (IntOp.subi (BitVec.ofNat 32 n.val) 126#32) = BitVec.ofNat 32 (253 - n.val) := by decide +kernel

/-- For `p` in range the scale is one at `p = 0`, else the least normal power of two above `p`; the other factor is its inverse. -/
theorem scale_spec (p : EReal) (hp : 0 ≤ p) (hlt : p < V 250) : (p = 0 ∧ scaleOf p = 1 ∧ invOf p = 1) ∨
    (p ≠ 0 ∧ ∃ n : ℕ, n ≤ 249 ∧ V n ≤ p ∧ p < V (n + 1) ∧ scaleOf p = V (n + 1) ∧ invOf p = V (253 - n)) := by
  have hz : Ideal.ofBits .f32 0#32 = (0 : EReal) := Ideal.ofBits_zero_f32
  by_cases h : p = 0
  · left
    have e : expo p = 0#32 := by unfold expo; rw [hz]; simp [Scalar.select, Ideal.cmp, h]
    have h1 : V 127 = 1 := by rw [V_pow 127 (by omega) (by omega)]; norm_num
    refine ⟨h, ?_, ?_⟩
    · unfold scaleOf; rw [e]; exact h1
    · unfold invOf; rw [e]; exact h1
  · right
    obtain ⟨n, en, i1, i2, i3⟩ := wfield_inv p hp
    have hn : n ≤ 249 := by
      by_contra hc
      by_cases h255 : n = 255
      · rw [h255, V_top] at i2
        exact absurd (lt_of_le_of_lt i2 hlt) not_top_lt
      exact absurd (lt_of_le_of_lt ((V_mono (by omega : 250 ≤ n) (by omega)).trans i2) hlt) (lt_irrefl _)
    have e : expo p = IntOp.subi (BitVec.ofNat 32 n) 126#32 := by unfold expo; rw [hz, en]; simp [Scalar.select, Ideal.cmp, h]
    obtain ⟨w1, w2⟩ := words ⟨n, by omega⟩
    dsimp only at w1 w2
    refine ⟨h, n, hn, i2, i3.resolve_left (by omega), ?_, ?_⟩
    · unfold scaleOf; rw [e, w1]; rfl
    · unfold invOf; rw [e, w2]; rfl

/-- Multiplying by the one is dividing by the other. -/
theorem mul_inv (p x : EReal) (hp : 0 ≤ p) (hlt : p < V 250) : x * invOf p = Ideal.div x (scaleOf p) := by
  rcases scale_spec p hp hlt with ⟨-, h1, h2⟩ | ⟨-, n, hn, -, -, h1, h2⟩
  · rw [h1, h2]; unfold Ideal.div; rw [if_neg one_ne_zero]; congr 1; rw [← EReal.coe_one, ← EReal.coe_inv, inv_one]
  · rw [h1, h2, V_pow _ (by omega) (by omega), V_pow _ (by omega) (by omega)]
    have hpos : (0 : ℝ) < (2 : ℝ) ^ (((n + 1 : ℕ) : ℤ) - 127) := zpow_pos (by norm_num) _
    unfold Ideal.div
    rw [if_neg (by exact_mod_cast hpos.ne'), ← EReal.coe_inv, ← zpow_neg]
    have : (((253 - n : ℕ) : ℤ) - 127) = -(((n + 1 : ℕ) : ℤ) - 127) := by omega
    rw [this]

end Cert.Scale

namespace Cert.KernelIdeal.Hand

open Idealize.ShloMosaic
open Cert.KernelIdeal.Gen Cert.Scale

/-- One step of the search over a block's rows. -/
def vstep (p : FVec Ideal S256x1 .f32) (b : BitVec 32) (f : IVec S256x1 32) : IVec S256x1 32 :=
  select (cmpf .oge p (bitcastToFloat .f32 (shli (addi f (broadcast S256x1 b)) (broadcast S256x1 23#32)))) (addi f (broadcast S256x1 b)) f

theorem vstep_apply (p : FVec Ideal S256x1 .f32) (b : BitVec 32) (f : IVec S256x1 32) (i : S256x1.Idx) :
    vstep p b f i = wstep (p i) b (f i) := rfl

theorem pay5_eq (x : Vec Ideal S256x2816 .bf16) :
    k0_pay5 (F := Ideal) x = vstep (k0_pay4 x) 32#32 (vstep (k0_pay4 x) 64#32 (vstep (k0_pay4 x) 128#32 (broadcast S256x1 0#32))) := rfl

theorem pay8_eq (p : FVec Ideal S256x1 .f32) (f : IVec S256x1 32) (i : S256x1.Idx) :
    k0_pay8 (F := Ideal) p f (cmpf .oge p (bitcastToFloat .f32 (shli (addi f (broadcast S256x1 16#32)) (broadcast S256x1 23#32)))) k0_pay7
      = select (cmpf .oeq p (broadcast S256x1 (Scalar.ofBits .f32 0x00000000#32))) (broadcast S256x1 0#32)
        (subi (vstep p 1#32 (vstep p 2#32 (vstep p 4#32 (vstep p 8#32 (vstep p 16#32 f))))) (broadcast S256x1 126#32)) := rfl

theorem pay8_apply (x : Vec Ideal S256x2816 .bf16) (i : S256x1.Idx) :
    k0_pay8 (F := Ideal) (k0_pay4 x) (k0_pay5 x) (k0_pay6 x) k0_pay7 i = expo (k0_pay4 (F := Ideal) x i) := by
  unfold k0_pay6
  refine (congrFun (pay8_eq (k0_pay4 x) (k0_pay5 x) i) i).trans ?_
  rw [pay5_eq]
  generalize k0_pay4 (F := Ideal) x = p
  show Scalar.select (Ideal.cmp .oeq (p i) (Ideal.ofBits .f32 0#32)) 0#32 (IntOp.subi (vstep p 1#32 _ i) 126#32) = _
  unfold expo wfield
  simp only [vstep_apply]
  rfl

end Cert.KernelIdeal.Hand
-- ==== Proof.Val.Codes.lean ====
module

public import proofs.«01_k».proof.Proof.Val.Scale
public import proofs.«01_k».proof.Proof.Groups
public import Idealize.ShloMosaic.Lib.ValueIdxCore
public import Idealize.ShloMosaic.Lib.Pipeline.Value
public import Idealize.ShloMosaic.Lib.Pipeline.ValueKit.Tiles

/-! One block of the quantiser, entry by entry: a row's scale, and the codes of the row. -/

@[expose] public section

set_option maxRecDepth 16384

noncomputable section

namespace Cert.Scale

open Idealize.ShloMosaic

/-- The greatest magnitude of a row. -/
def absmax (f : Fin 2816 → EReal) : EReal := (Finset.univ : Finset (Fin 2816)).fold max ⊥ (fun j => max (f j) (-(f j)))

/-- The row's greatest magnitude over 448, as the constant has it. -/
def pOf (f : Fin 2816 → EReal) : EReal := absmax f * Ideal.ofBits .f32 0x3B124925#32

/-- The code of the row's entry `j`. -/
def codeOf (f : Fin 2816 → EReal) (j : Fin 2816) : EReal :=
  min (Ideal.ofBits .f32 0x43E00000#32) (max (Ideal.ofBits .f32 0xC3E00000#32) (f j * invOf (pOf f)))

theorem ofBits_bot : Ideal.ofBits .f32 0xFF800000#32 = (⊥ : EReal) := by simp [Ideal.ofBits, Ideal.ieee]

end Cert.Scale

namespace Cert.KernelIdeal.Hand

open Idealize.ShloMosaic hiding ix2 ix3 ix1
open Idealize.ShloMosaic.ValueIdx
open Cert.KernelIdeal.Gen Cert.Scale

/-- Row `i` of a block. -/
def rowOf (x : Vec Ideal S256x2816 .bf16) (i : Fin 256) : Fin 2816 → EReal := fun j => x (ix2 i j)

theorem lift_row (h : S256x2816.Reduces [1] S256) (i : Fin 256) (k : Fin 2816) : h.lift (ValueIdx.ix1 i) k = ix2 i k := by
  refine funext fun c => Fin.ext ?_
  match c with
  | ⟨0, _⟩ => rfl
  | ⟨1, _⟩ => rfl

theorem fold_row (g : Fin 2816 → EReal) (f : Fin 2816 → EReal) (z : EReal) (hz : z = ⊥) (h : ∀ k, g k = max (f k) (-(f k))) :
    (Finset.univ : Finset (Fin 2816)).fold max z g = absmax f := by
  subst hz; rw [show g = fun k => max (f k) (-(f k)) from funext h]; rfl

theorem col_apply (y : FVec Ideal S256 .f32) (i : Fin 256) : shapeCast S256x1 y shapeCasts_S256_S256x1 (ix2 i 0) = y (ValueIdx.ix1 i) :=
  shapeCast_apply y shapeCasts_S256_S256x1 (ix2 i 0) (ValueIdx.ix1 i) (by simp [Shape.rowMajor_val_two, Shape.rowMajor_val_one])

theorem pay4_apply (x : Vec Ideal S256x2816 .bf16) (i : Fin 256) (z : Fin 1) : k0_pay4 (F := Ideal) x (ix2 i z) = pOf (rowOf x i) := by
  obtain rfl : z = 0 := Subsingleton.elim _ _
  unfold k0_pay4 k0_pay3
  unfold pOf
  refine congrArg (fun q : EReal => q * Ideal.ofBits .f32 0x3B124925#32) ((col_apply _ i).trans ?_)
  refine (Ideal.multiReduction_maximumf_single _ _ _ _ _ _).trans ?_
  exact fold_row _ _ _ ofBits_bot (fun k => congrArg (fun q => max (x q : EReal) (-(x q : EReal))) (lift_row _ i k))

theorem z2 : (![0, 0] : Fin 2 → ℕ) = fun _ => 0 := by funext a; fin_cases a <;> rfl

theorem ld0 (x : Vec Ideal S256x2816 .bf16) : View.ld x rq0 = x := View.ld_unit_zero z2 _ x

theorem pay9_apply (x : Vec Ideal S256x2816 .bf16) (i : Fin 256) (z : Fin 1) : k0_pay9 (F := Ideal) x (ix2 i z) = expo (pOf (rowOf x i)) := by
  unfold k0_pay9
  rw [ld0, pay8_apply, pay4_apply]

theorem out0_1_apply (x : Vec Ideal S256x2816 .bf16) (i : Fin 256) (j : Fin 2816) : out0_1 (F := Ideal) x (ix2 i j) = codeOf (rowOf x i) j := by
  unfold out0_1
  rw [View.canon_unit_zero z2, ld0]
  unfold k0_pay1 k0_pay3
  show min (Ideal.ofBits .f32 0x43E00000#32) (max (Ideal.ofBits .f32 0xC3E00000#32) (x (ix2 i j) * broadcastTo S256x2816 _ broadcasts_S256x1_S256x2816 (ix2 i j))) = _
  unfold codeOf
  refine congrArg (fun q => min _ (max _ (x (ix2 i j) * q))) ?_
  refine (broadcastTo_apply (α := EReal) _ broadcasts_S256x1_S256x2816 (ix2 i j) (ix2 i 0) ?_).trans ?_
  · intro a; match a with
    | ⟨0, _⟩ => rfl
    | ⟨1, _⟩ => rfl
  show Ideal.ofBits .f32 (IntOp.shli .vector (IntOp.subi 127#32 (k0_pay9 x (ix2 i 0))) 23#32) = _
  rw [pay9_apply]
  rfl

theorem out0_2_apply (x : Vec Ideal S256x2816 .bf16) (i : Fin 256) (l : Fin 128) : out0_2 (F := Ideal) x (ix2 i l) = scaleOf (pOf (rowOf x i)) := by
  unfold out0_2
  rw [View.canon_unit_zero z2]
  unfold k0_pay2
  refine (broadcastTo_apply (α := EReal) _ broadcasts_S256x1_S256x128 (ix2 i l) (ix2 i 0) ?_).trans ?_
  · intro a; match a with
    | ⟨0, _⟩ => rfl
    | ⟨1, _⟩ => rfl
  rw [shapeCast_self]
  show Ideal.ofBits .f32 (IntOp.shli .vector (IntOp.addi (k0_pay9 x (ix2 i 0)) 127#32) 23#32) = _
  rw [pay9_apply]
  rfl

end Cert.KernelIdeal.Hand
-- ==== Proof.Val.RefScale.lean ====
module

public import proofs.«01_k».proof.Proof.Gen.ReferenceIdeal.Run
public import proofs.«01_k».proof.Proof.Val.Codes
public import Idealize.ShloMosaic.Lib.IdealHost

/-! The reference's scales and codes, entry by entry: the least power of two above `p`, taken over all of them, is the scale the
    kernel's search finds; dividing by it is multiplying by the kernel's other factor. -/

@[expose] public section

set_option maxRecDepth 16384

noncomputable section

namespace Cert.Scale

open Idealize.ShloMosaic

/-- The bound on the activations: the greatest finite bf16. -/
def big : EReal := Ideal.ofBits .f32 0x7F7F0000#32

theorem big_eq : big = (((255 : ℝ) * 2 ^ 120 : ℝ) : EReal) := by
  unfold big Ideal.ofBits Ideal.ieee
  have h1 : (0x7F7F0000#32).extractLsb' 31 1 = 0#1 := by decide
  have h2 : ((0x7F7F0000#32).extractLsb' 23 8).toNat = 254 := by decide
  have h3 : ((0x7F7F0000#32).extractLsb' 0 23).toNat = 0x7F0000 := by decide
  simp only [h1, h2, h3]
  rw [if_neg (by norm_num), if_neg (by norm_num)]
  have e : (0#1 == 1#1) = false := by decide
  rw [e, if_neg Bool.false_ne_true]
  congr 1
  norm_num

/-- The constant 1/448 as the pattern has it. -/
theorem c_eq : Ideal.ofBits .f32 0x3B124925#32 = (((9586981 : ℝ) / 2 ^ 32 : ℝ) : EReal) := by
  unfold Ideal.ofBits Ideal.ieee
  have h1 : (0x3B124925#32).extractLsb' 31 1 = 0#1 := by decide
  have h2 : ((0x3B124925#32).extractLsb' 23 8).toNat = 118 := by decide
  have h3 : ((0x3B124925#32).extractLsb' 0 23).toNat = 1198373 := by decide
  simp only [h1, h2, h3]
  rw [if_neg (by norm_num), if_neg (by norm_num)]
  have e : (0#1 == 1#1) = false := by decide
  rw [e, if_neg Bool.false_ne_true]
  congr 1
  norm_num

theorem absmax_nonneg (f : Fin 2816 → EReal) : 0 ≤ absmax f := by
  unfold absmax
  rw [Finset.le_fold_max]
  refine .inr ⟨0, Finset.mem_univ _, ?_⟩
  rcases le_total 0 (f 0) with h | h
  · exact h.trans (le_max_left _ _)
  · exact (EReal.neg_nonneg.mpr h).trans (le_max_right _ _)

theorem absmax_le (f : Fin 2816 → EReal) (h : ∀ j, max (f j) (-(f j)) ≤ big) : absmax f ≤ big := by
  unfold absmax
  rw [Finset.fold_max_le]
  exact ⟨bot_le, fun j _ => h j⟩

theorem p_nonneg (f : Fin 2816 → EReal) : 0 ≤ pOf f := by
  unfold pOf
  refine mul_nonneg (absmax_nonneg f) ?_
  rw [c_eq]
  exact_mod_cast (by positivity : (0 : ℝ) ≤ 9586981 / 2 ^ 32)

theorem p_zero (f : Fin 2816 → EReal) : pOf f = 0 ↔ absmax f = 0 := by
  unfold pOf
  have h : Ideal.ofBits .f32 0x3B124925#32 ≠ (0 : EReal) := by
    rw [c_eq]; exact_mod_cast (by positivity : (9586981 / 2 ^ 32 : ℝ) ≠ 0)
  rw [mul_eq_zero]
  exact ⟨fun h' => h'.resolve_right h, .inl⟩

theorem p_lt (f : Fin 2816 → EReal) (h : ∀ j, max (f j) (-(f j)) ≤ big) : pOf f < V 250 := by
  have h1 : pOf f ≤ big * Ideal.ofBits .f32 0x3B124925#32 := by
    unfold pOf
    refine mul_le_mul_of_nonneg_right (absmax_le f h) ?_
    rw [c_eq]
    exact_mod_cast (by positivity : (0 : ℝ) ≤ 9586981 / 2 ^ 32)
  refine lt_of_le_of_lt h1 ?_
  rw [big_eq, c_eq, V_pow 250 (by omega) (by omega), ← EReal.coe_mul, EReal.coe_lt_coe_iff]
  norm_num

/-- The least power of two above `p`. -/
theorem least (p : EReal) (n : ℕ) (hn : n ≤ 249) (h1 : V n ≤ p) (h2 : p < V (n + 1)) (g : Fin 254 → EReal)
    (hg : ∀ k, g k = if p < V (k.val + 1) then V (k.val + 1) else ⊤) :
    (Finset.univ : Finset (Fin 254)).fold min ⊤ g = V (n + 1) := by
  refine le_antisymm ?_ ?_
  · rw [Finset.fold_min_le]
    exact .inr ⟨⟨n, by omega⟩, Finset.mem_univ _, by rw [hg, if_pos h2]⟩
  · rw [Finset.le_fold_min]
    refine ⟨le_top, fun k _ => ?_⟩
    rw [hg]
    split
    · rename_i hk
      refine V_mono ?_ (by omega)
      by_contra hc
      exact absurd (lt_of_lt_of_le hk ((V_mono (by omega : k.val + 1 ≤ n) (by omega)).trans h1)) (lt_irrefl _)
    · exact le_top

end Cert.Scale

namespace Cert.ReferenceIdeal.Value

open Idealize.ShloMosaic hiding ix2 ix3 ix1
open Idealize.ShloMosaic.ValueIdx Idealize.ShloMosaic.TcCoe
open Cert.ReferenceIdeal Cert.ReferenceIdeal.Gen
open Cert.Scale

variable (W : Valuation τ sig (Elt Ideal))

/-- Row `r` of the activations. -/
def xr (r : Fin 1536) : Fin 2816 → EReal := fun j => (W main_arg0 : FVec Ideal S1536x2816 .bf16) (ix2 r j)

/-- A column broadcast from a vector. -/
theorem col_apply {α : Type} (y : S1536.Idx → α) (r : Fin 1536) : broadcastInDim S1536x1 ![0] bcast_S1536_S1536x1_0 y (ix2 r 0) = y (ValueIdx.ix1 r) :=
  broadcastInDim_apply _ _ y (ix2 r 0) (ValueIdx.ix1 r) (fun a => by match a with | ⟨0, _⟩ => rfl)

theorem lift_row (h : S1536x2816.Reduces [1] S1536) (i : Fin 1536) (k : Fin 2816) : h.lift (ValueIdx.ix1 i) k = ix2 i k := by
  refine funext fun c => Fin.ext ?_
  match c with
  | ⟨0, _⟩ => rfl
  | ⟨1, _⟩ => rfl

theorem lift_pow (h : S1536x254.Reduces [1] S1536) (i : Fin 1536) (k : Fin 254) : h.lift (ValueIdx.ix1 i) k = ix2 i k := by
  refine funext fun c => Fin.ext ?_
  match c with
  | ⟨0, _⟩ => rfl
  | ⟨1, _⟩ => rfl

theorem rowmax_apply (x : FVec Ideal S1536x2816 .bf16) (r : Fin 1536) :
    Host.reduce (FloatOps.maximumf (F := Ideal) (φ := .f32)) (Host.absf (extf .f32 x bitsLt_bf16_f32)) (constant S_ .f32 0xFF800000#32) reducesTo_S1536x2816_S1536_d1 h_S_ (ValueIdx.ix1 r)
      = absmax (fun j => x (ix2 r j)) := by
  refine (Host.reduce_eq_fold_single (FloatOps.maximumf (F := Ideal) (φ := .f32)) _ _ _ (by decide : S1536x2816.Reduces [1] S1536) _ _).trans ?_
  exact Cert.KernelIdeal.Hand.fold_row _ _ _ ofBits_bot (fun k => congrArg (fun q => max (x q : EReal) (-(x q : EReal))) (lift_row _ r k))

theorem v3_apply (r : Fin 1536) : (res_main_v3 W : FVec Ideal S1536x1 .f32) (ix2 r 0) = absmax (xr W r) := by
  unfold res_main_v3 res_main_v0
  exact (col_apply _ r).trans (rowmax_apply _ r)

theorem pows_apply (k : Fin 254) : (res_main_v12 W : FVec Ideal S1x254 .f32) (ix2 0 k) = V (k.val + 1) := by
  unfold res_main_v12
  refine (broadcastInDim_apply _ _ _ (ix2 0 k) (ValueIdx.ix1 k) (fun a => by match a with | ⟨0, _⟩ => rfl)).trans ?_
  show Ideal.ofBits .f32 (IntOp.shli .host (IntOp.addi 1#32 (BitVec.ofNat 32 k.val)) 23#32) = _
  have e : IntOp.addi 1#32 (BitVec.ofNat 32 k.val) = BitVec.ofNat 32 (k.val + 1) := by
    rw [Nat.add_comm]; exact (BitVec.ofNat_add 1 k.val).symm
  rw [e]
  rfl

section Pointwise
variable {s : Shape} (i : s.Idx)
theorem min_at (x y : FVec Ideal s .f32) : minimumf x y i = min (x i : EReal) (y i) := rfl
theorem max_at (x y : FVec Ideal s .f32) : maximumf x y i = max (x i : EReal) (y i) := rfl
theorem mul_at (x y : FVec Ideal s .f32) : mulf x y i = (x i * y i : EReal) := rfl
theorem div_at (x y : FVec Ideal s .f32) : Host.divf x y i = Ideal.div (x i) (y i) := rfl
theorem sel_at (c : IVec s 1) (x y : FVec Ideal s .f32) : select c x y i = Scalar.select (c i) (x i) (y i) := rfl
theorem cmp_at (p : CmpFPredicate) (x y : FVec Ideal s .f32) : cmpf p x y i = Ideal.cmp p (x i) (y i) := rfl
theorem trunc_at (x : FVec Ideal s .f32) (h : FTy.bf16.bits < FTy.f32.bits) : truncf .bf16 x h i = x i := rfl
theorem ext_at (x : FVec Ideal s .bf16) (h : FTy.bf16.bits < FTy.f32.bits) : extf .f32 x h i = x i := rfl
theorem const_at (h : S_.BroadcastsInDim s ![]) (b : BitVec 32) : broadcastInDim s ![] h (constant (F := Ideal) S_ .f32 b) i = Ideal.ofBits .f32 b := rfl
theorem sel_one (c : BitVec 1) (x y : EReal) (h : c = 1#1) : Scalar.select c x y = x := by subst h; rfl
theorem sel_zero (c : BitVec 1) (x y : EReal) (h : c = 0#1) : Scalar.select c x y = y := by subst h; rfl
end Pointwise

/-- A lane-wise row read of a column. -/
theorem bcol {α : Type} (y : S1536x1.Idx → α) (r : Fin 1536) (k : Fin 254) :
    broadcastInDim S1536x254 ![0, 1] bcast_S1536x1_S1536x254_0_1 y (ix2 r k) = y (ix2 r 0) :=
  broadcastInDim_apply _ _ y (ix2 r k) (ix2 r 0) (fun a => by match a with | ⟨0, _⟩ => rfl | ⟨1, _⟩ => rfl)
theorem brow254 {α : Type} (y : S1x254.Idx → α) (r : Fin 1536) (k : Fin 254) :
    broadcastInDim S1536x254 ![0, 1] bcast_S1x254_S1536x254_0_1 y (ix2 r k) = y (ix2 0 k) :=
  broadcastInDim_apply _ _ y (ix2 r k) (ix2 0 k) (fun a => by match a with | ⟨0, _⟩ => rfl | ⟨1, _⟩ => rfl)
theorem bcol2816 {α : Type} (y : S1536x1.Idx → α) (r : Fin 1536) (k : Fin 2816) :
    broadcastInDim S1536x2816 ![0, 1] bcast_S1536x1_S1536x2816_0_1 y (ix2 r k) = y (ix2 r 0) :=
  broadcastInDim_apply _ _ y (ix2 r k) (ix2 r 0) (fun a => by match a with | ⟨0, _⟩ => rfl | ⟨1, _⟩ => rfl)

theorem ofBits_top : Ideal.ofBits .f32 0x7F800000#32 = (⊤ : EReal) := by simp [Ideal.ofBits, Ideal.ieee]

/-- The lanes of the search for the scale: the powers above `p`, the others infinite. -/
def lanes (a : FVec Ideal S1536x1 .f32) (w : FVec Ideal S1x254 .f32) : FVec Ideal S1536x254 .f32 :=
  select (cmpf .ogt (broadcastInDim S1536x254 ![0, 1] bcast_S1x254_S1536x254_0_1 w) (broadcastInDim S1536x254 ![0, 1] bcast_S1536x1_S1536x254_0_1 (mulf a (broadcastInDim S1536x1 ![] bcast_S_S1536x1 (constant S_ .f32 0x3B124925#32)))))
    (broadcastInDim S1536x254 ![0, 1] bcast_S1x254_S1536x254_0_1 w) (broadcastInDim S1536x254 ![] bcast_S_S1536x254 (constant S_ .f32 0x7F800000#32))

theorem lanes_apply (a : FVec Ideal S1536x1 .f32) (w : FVec Ideal S1x254 .f32) (p : EReal) (r : Fin 1536) (hp : (a (ix2 r 0) * Ideal.ofBits .f32 0x3B124925#32 : EReal) = p)
    (hw : ∀ k : Fin 254, w (ix2 0 k) = V (k.val + 1)) (k : Fin 254) : (lanes a w (ix2 r k) : EReal) = if p < V (k.val + 1) then V (k.val + 1) else ⊤ := by
  unfold lanes
  refine (sel_at _ _ _ _).trans ?_
  rw [cmp_at, brow254, bcol, mul_at, const_at, const_at, hw, ofBits_top, hp]
  by_cases h : p < V (k.val + 1) <;> simp [Scalar.select, Ideal.cmp, h]

theorem lanes_min (x : FVec Ideal S1536x254 .f32) (r : Fin 1536) :
    Host.reduce (FloatOps.minimumf (F := Ideal) (φ := .f32)) x (constant S_ .f32 0x7F800000#32) reducesTo_S1536x254_S1536_d1 h_S_ (ValueIdx.ix1 r)
      = (Finset.univ : Finset (Fin 254)).fold min (⊤ : EReal) (fun k => x (ix2 r k)) := by
  refine (Host.reduce_eq_fold_single (FloatOps.minimumf (F := Ideal) (φ := .f32)) x _ _ (by decide : S1536x254.Reduces [1] S1536) _ _).trans ?_
  have hf : (x ∘ (by decide : S1536x254.Reduces [1] S1536).lift (ValueIdx.ix1 r)) = fun k : Fin 254 => x (ix2 r k) := funext fun k => congrArg x (lift_pow _ r k)
  rw [hf]
  have hz : (constant (F := Ideal) S_ .f32 0x7F800000#32) (Shape.Idx.first h_S_) = (⊤ : EReal) := ofBits_top
  rw [hz]
  rfl

/-- The scales over the row's greatest magnitudes and the powers. -/
def scales (A : FVec Ideal S1536x1 .f32) (w : FVec Ideal S1x254 .f32) : FVec Ideal S1536x1 .f32 :=
  select (cmpf .oeq A (broadcastInDim S1536x1 ![] bcast_S_S1536x1 (constant S_ .f32 0x00000000#32))) (broadcastInDim S1536x1 ![] bcast_S_S1536x1 (constant S_ .f32 0x3F800000#32))
    (broadcastInDim S1536x1 ![0] bcast_S1536_S1536x1_0 (Host.reduce FloatOps.minimumf (lanes A w) (constant S_ .f32 0x7F800000#32) reducesTo_S1536x254_S1536_d1 h_S_))

theorem scales_apply (A : FVec Ideal S1536x1 .f32) (w : FVec Ideal S1x254 .f32) (f : Fin 2816 → EReal) (h : ∀ j, max (f j) (-(f j)) ≤ big) (r : Fin 1536)
    (hA : A (ix2 r 0) = absmax f) (hw : ∀ k : Fin 254, w (ix2 0 k) = V (k.val + 1)) : scales A w (ix2 r 0) = scaleOf (pOf f) := by
  unfold scales
  refine (sel_at _ _ _ _).trans ?_
  rw [cmp_at, const_at, const_at, col_apply, hA, Ideal.ofBits_zero_f32, Ideal.ofBits_one_f32]
  rcases scale_spec (pOf f) (p_nonneg _) (p_lt _ h) with ⟨h0, h1, -⟩ | ⟨h0, n, hn, i1, i2, h1, -⟩
  · rw [h1]
    exact sel_one _ _ _ (by rw [(p_zero _).mp h0]; simp [Ideal.cmp])
  · rw [h1]
    have hne : absmax f ≠ 0 := fun e => h0 ((p_zero _).mpr e)
    refine (sel_zero _ _ _ (by simp [Ideal.cmp, hne])).trans ?_
    refine (lanes_min _ r).trans ?_
    exact least (pOf f) n hn i1 i2 _ fun k => lanes_apply A w (pOf f) r (by rw [hA]; rfl) hw k

theorem v21_apply (r : Fin 1536) (h : ∀ j, max (xr W r j) (-(xr W r j)) ≤ big) : (res_main_v21 W : FVec Ideal S1536x1 .f32) (ix2 r 0) = scaleOf (pOf (xr W r)) :=
  scales_apply (res_main_v3 W) (res_main_v12 W) (xr W r) h r (v3_apply W r) (pows_apply W)

/-- The codes over the activations and the scales. -/
def codes (x : FVec Ideal S1536x2816 .f32) (A : FVec Ideal S1536x1 .f32) : FVec Ideal S1536x2816 .bf16 :=
  truncf .bf16 (minimumf (broadcastInDim S1536x2816 ![] bcast_S_S1536x2816 (constant S_ .f32 0x43E00000#32)) (maximumf (broadcastInDim S1536x2816 ![] bcast_S_S1536x2816 (constant S_ .f32 0xC3E00000#32))
    (Host.divf x (broadcastInDim S1536x2816 ![0, 1] bcast_S1536x1_S1536x2816_0_1 A)))) bitsLt_bf16_f32

theorem codes_apply (x : FVec Ideal S1536x2816 .f32) (A : FVec Ideal S1536x1 .f32) (f : Fin 2816 → EReal) (h : ∀ j, max (f j) (-(f j)) ≤ big) (r : Fin 1536)
    (hA : A (ix2 r 0) = scaleOf (pOf f)) (j : Fin 2816) (hx : x (ix2 r j) = f j) : codes x A (ix2 r j) = codeOf f j := by
  unfold codes
  refine (trunc_at _ _ _).trans ?_
  rw [min_at, max_at, div_at, const_at, const_at, bcol2816, hA, hx, ← mul_inv _ _ (p_nonneg _) (p_lt _ h)]
  unfold codeOf
  rfl

theorem v25_apply (r : Fin 1536) (j : Fin 2816) (h : ∀ j, max (xr W r j) (-(xr W r j)) ≤ big) : (res_main_v25 W : FVec Ideal S1536x2816 .bf16) (ix2 r j) = codeOf (xr W r) j :=
  codes_apply (res_main_v0 W) (res_main_v21 W) (xr W r) h r (v21_apply W r h) j rfl

end Cert.ReferenceIdeal.Value
-- ==== Proof.Val.Quant.lean ====
module

public import proofs.«01_k».proof.Proof.Val.Codes
public import proofs.«01_k».proof.Proof.KI.Launch1

/-! What the grouped product finds in its inputs: the quantiser's codes, their columns permuted, and its scales, over the
    launch contents of the activations. -/

@[expose] public section

set_option maxRecDepth 16384

noncomputable section

namespace Cert.KernelIdeal.Hand

open Idealize.ShloMosaic hiding ix2 ix3 ix1
open Idealize.ShloMosaic.ValueIdx Idealize.ShloMosaic.TcCoe
open Idealize.SL Idealize.SL.Sem
open Idealize.ShloMosaic.Pipeline (RDat Dat)
open Cert.KernelIdeal.Gen
open Cert.Scale

variable (m : (ℓ : Loc nD τ sig) → Buf (Elt Ideal) ℓ)

/-- Row `r` of the activations as launched. -/
def xrow (c : Dev nD) (r : Fin 1536) : Fin 2816 → EReal := fun j => (V0 m c main_arg0 : Vec Ideal S1536x2816 .bf16) (ix2 r j)

theorem co (t : Fin grid0.N) : (grid0.coords t 0).val = t.val := by
  rw [Pipeline.Grid.coords_val t 0 (S := 1) (B := 6) (by decide) (by decide)]
  have := t.isLt.trans_eq N_0; omega

theorem word0 (t : Fin grid0.N) : (BitVec.ofNat 32 (grid0.coords t 0).val).toNat = t.val := by
  rw [co, BitVec.toNat_ofNat]; have := t.isLt.trans_eq N_0; omega

/-- The row of the array under row `i` of the block at a point. -/
def rowIn (t : Fin grid0.N) (i : Fin 256) : Fin 1536 := ⟨t.val * 256 + i.val, by have := t.isLt.trans_eq N_0; omega⟩

theorem iblk_x (c : Dev nD) (t : Fin cfg0.N) (i : Fin 256) : rowOf (iblk0 m c 0 t) i = xrow m c (rowIn t i) := by
  refine funext fun j => ?_
  refine congrArg (V0 m c main_arg0 : Vec Ideal S1536x2816 .bf16) (funext fun x => Fin.ext ?_)
  refine ((cfg0.win 0).rect_emb_val t _ x).trans ?_
  match x with
  | ⟨0, _⟩ => show (BitVec.ofNat 32 (grid0.coords t 0).val).toNat * 256 + i.val = t.val * 256 + i.val; rw [word0]
  | ⟨1, _⟩ => show 0 * 2816 + j.val = j.val; omega

theorem emb_1 (t : Fin cfg0.N) (i : Fin 256) (j : Fin 2816) :
    (((cfg0.win 1).blk t).view.emb (ix2 i j : S256x2816.Idx) : S1536x2816.Idx) = ix2 (rowIn t i) j := by
  refine funext fun x => Fin.ext ?_
  refine ((cfg0.win 1).rect_emb_val t _ x).trans ?_
  match x with
  | ⟨0, _⟩ => show (BitVec.ofNat 32 (grid0.coords t 0).val).toNat * 256 + i.val = t.val * 256 + i.val; rw [word0]
  | ⟨1, _⟩ => show 0 * 2816 + j.val = j.val; omega

theorem emb_2 (t : Fin cfg0.N) (i : Fin 256) (j : Fin 128) :
    (((cfg0.win 2).blk t).view.emb (ix2 i j : S256x128.Idx) : S1536x128.Idx) = ix2 (rowIn t i) j := by
  refine funext fun x => Fin.ext ?_
  refine ((cfg0.win 2).rect_emb_val t _ x).trans ?_
  match x with
  | ⟨0, _⟩ => show (BitVec.ofNat 32 (grid0.coords t 0).val).toNat * 256 + i.val = t.val * 256 + i.val; rw [word0]
  | ⟨1, _⟩ => show 0 * 128 + j.val = j.val; omega

/-- The point whose block holds a row, and the row in it. -/
def ptOf (r : Fin 1536) : Fin cfg0.N := ⟨r.val / 256, (show r.val / 256 < 6 by omega).trans_eq N_0.symm⟩
def inOf (r : Fin 1536) : Fin 256 := ⟨r.val % 256, Nat.mod_lt _ (by decide)⟩

theorem row_split (r : Fin 1536) : rowIn (ptOf r) (inOf r) = r := Fin.ext (by show r.val / 256 * 256 + r.val % 256 = r.val; omega)

theorem codes_arr (c : Dev nD) (r : Fin 1536) (j : Fin 2816) :
    ((dat0 m c).arrAt 1 cfg0.N : Vec Ideal S1536x2816 .bf16) (ix2 r j) = codeOf (xrow m c r) j := by
  have key : ∀ i : S1536x2816.Idx, (fun (i : S1536x2816.Idx) (v : EReal) => v = codeOf (xrow m c (i 0)) (i 1)) i ((dat0 m c).arrAt 1 cfg0.N i) := by
    refine Dat.arrAt_forall_of_cover (dat0 m c) 1 (fun (i : S1536x2816.Idx) (v : EReal) => v = codeOf (xrow m c (i 0)) (i 1)) ?_ ?_
    · intro t ht y
      obtain ⟨i', j', rfl⟩ : ∃ (i' : Fin 256) (j' : Fin 2816), y = (ix2 i' j' : S256x2816.Idx) := ⟨y 0, y 1, ValueIdx.eq_ix2 y⟩
      have he := emb_1 t i' j'
      have e0 := congrFun he 0
      have e1 := congrFun he 1
      rw [Dat.flushed_apply]
      show ((dat0 m c).after 1 t _ : EReal) = _
      rw [afterq1]
      refine (out0_1_apply (iblk0 m c 0 t) i' j').trans ?_
      rw [iblk_x]
      exact (congrArg₂ (fun a b => codeOf (xrow m c a) b) e0 e1).symm
    · intro i
      obtain ⟨r, j, rfl⟩ : ∃ (r : Fin 1536) (j : Fin 2816), i = (ix2 r j : S1536x2816.Idx) := ⟨i 0, i 1, ValueIdx.eq_ix2 i⟩
      refine ⟨ptOf r, flush0_1 _, ?_⟩
      have he : ix2 r j = (((cfg0.win 1).blk (ptOf r)).view.emb (ix2 (inOf r) j : S256x2816.Idx) : S1536x2816.Idx) := by
        rw [emb_1, row_split]
      rw [he]
      exact Finset.mem_map_of_mem _ (Finset.mem_univ _)
  exact key (ix2 r j)

theorem scales_arr (c : Dev nD) (r : Fin 1536) (j : Fin 128) :
    ((dat0 m c).arrAt 2 cfg0.N : Vec Ideal S1536x128 .f32) (ix2 r j) = scaleOf (pOf (xrow m c r)) := by
  have key : ∀ i : S1536x128.Idx, (fun (i : S1536x128.Idx) (v : EReal) => v = scaleOf (pOf (xrow m c (i 0)))) i ((dat0 m c).arrAt 2 cfg0.N i) := by
    refine Dat.arrAt_forall_of_cover (dat0 m c) 2 (fun (i : S1536x128.Idx) (v : EReal) => v = scaleOf (pOf (xrow m c (i 0)))) ?_ ?_
    · intro t ht y
      obtain ⟨i', j', rfl⟩ : ∃ (i' : Fin 256) (j' : Fin 128), y = (ix2 i' j' : S256x128.Idx) := ⟨y 0, y 1, ValueIdx.eq_ix2 y⟩
      have he := emb_2 t i' j'
      have e0 := congrFun he 0
      rw [Dat.flushed_apply]
      show ((dat0 m c).after 2 t _ : EReal) = _
      rw [after0_2]
      refine (out0_2_apply (iblk0 m c 0 t) i' j').trans ?_
      rw [iblk_x]
      exact (congrArg (fun a => scaleOf (pOf (xrow m c a))) e0).symm
    · intro i
      obtain ⟨r, j, rfl⟩ : ∃ (r : Fin 1536) (j : Fin 128), i = (ix2 r j : S1536x128.Idx) := ⟨i 0, i 1, ValueIdx.eq_ix2 i⟩
      refine ⟨ptOf r, flush0_2 _, ?_⟩
      have he : ix2 r j = (((cfg0.win 2).blk (ptOf r)).view.emb (ix2 (inOf r) j : S256x128.Idx) : S1536x128.Idx) := by
        rw [emb_2, row_split]
      rw [he]
      exact Finset.mem_map_of_mem _ (Finset.mem_univ _)
  exact key (ix2 r j)

theorem V1_codes (c : Dev nD) : V1 m (outs0 m) c main_v0_0 = (dat0 m c).arrAt 1 cfg0.N :=
  (V1_outs0 m c main_v0_0).trans (Pipeline.afterRegion_arr (dat0 m c) (V0 m c) (launch0 (F := Ideal)).win.arr_inj 1)
theorem V1_scales (c : Dev nD) : V1 m (outs0 m) c main_v0_1 = (dat0 m c).arrAt 2 cfg0.N :=
  (V1_outs0 m c main_v0_1).trans (Pipeline.afterRegion_arr (dat0 m c) (V0 m c) (launch0 (F := Ideal)).win.arr_inj 2)

theorem V6_scales (c : Dev nD) (r : Fin 1536) (l : Fin 128) :
    (V6 m (outs0 m) c main_v0_1 : Vec Ideal S1536x128 .f32) (ix2 r l) = scaleOf (pOf (xrow m c r)) := by
  have h : V6 m (outs0 m) c main_v0_1 = (dat0 m c).arrAt 2 cfg0.N :=
    (V6_of m (outs0 m) c main_v0_1 (by decide)).trans ((V5_of m (outs0 m) c main_v0_1 (by decide)).trans ((V4_of m (outs0 m) c main_v0_1 (by decide)).trans
      ((V3_of m (outs0 m) c main_v0_1 (by decide)).trans ((V2_of m (outs0 m) c main_v0_1 (by decide)).trans (V1_scales m c)))))
  exact (congrFun h (ix2 r l)).trans (scales_arr m c r l)

theorem V6_arg2 (c : Dev nD) : V6 m (outs0 m) c main_arg2 = V0 m c main_arg2 :=
  (V6_of m (outs0 m) c main_arg2 (by decide)).trans ((V5_of m (outs0 m) c main_arg2 (by decide)).trans ((V4_of m (outs0 m) c main_arg2 (by decide)).trans
    ((V3_of m (outs0 m) c main_arg2 (by decide)).trans ((V2_of m (outs0 m) c main_arg2 (by decide)).trans (V1_of m (outs0 m) c main_arg2 (by decide))))))

theorem V6_arg3 (c : Dev nD) : V6 m (outs0 m) c main_arg3 = V0 m c main_arg3 :=
  (V6_of m (outs0 m) c main_arg3 (by decide)).trans ((V5_of m (outs0 m) c main_arg3 (by decide)).trans ((V4_of m (outs0 m) c main_arg3 (by decide)).trans
    ((V3_of m (outs0 m) c main_arg3 (by decide)).trans ((V2_of m (outs0 m) c main_arg3 (by decide)).trans (V1_of m (outs0 m) c main_arg3 (by decide))))))

/-- The column of the codes that the kernel keeps in column `K`. -/
def kOf (K : Fin 2816) : Fin 2816 := ⟨K.val / 128 % 2 * 1408 + K.val / 256 * 128 + K.val % 128, by omega⟩

end Cert.KernelIdeal.Hand
-- ==== Proof.Val.Perm.lean ====
module

public import proofs.«01_k».proof.Proof.Val.Quant
public import proofs.«01_k».proof.Proof.KI.Tables

/-! The columns of the codes as the grouped product finds them: cut into two halves of eleven groups of 128, the two halves
    interleaved group by group. -/

@[expose] public section

set_option maxRecDepth 16384

noncomputable section

namespace Cert.KernelIdeal.Hand

open Idealize.ShloMosaic hiding ix2 ix3 ix1
open Idealize.ShloMosaic.ValueIdx Idealize.ShloMosaic.TcCoe
open Idealize.SL Idealize.SL.Sem
open Cert.KernelIdeal.Gen
open Cert.Scale

section
variable {F : FTy → Type} [FloatOps F] (V : Valuation τ sig (Elt F))

theorem s0_v3 : (StableHlo.after hostOps1 V main_v3 : FVec F S1536x2816 .bf16)
    = shapeCast S1536x2816 (transpose S1536x11x2x128 [0, 2, 1, 3] (shapeCast S1536x2x11x128 (V main_v0_0 : FVec F S1536x2816 .bf16)
        shapeCasts_S1536x2816_S1536x2x11x128) transposes_S1536x2x11x128_S1536x11x2x128_0_2_1_3) shapeCasts_S1536x11x2x128_S1536x2816 := by
  after_results_simp
  rfl
end

/-- The permutation, entry by entry. -/
theorem perm_apply (x : FVec Ideal S1536x2816 .bf16) (r : Fin 1536) (K : Fin 2816) :
    shapeCast S1536x2816 (transpose S1536x11x2x128 [0, 2, 1, 3] (shapeCast S1536x2x11x128 x
        shapeCasts_S1536x2816_S1536x2x11x128) transposes_S1536x2x11x128_S1536x11x2x128_0_2_1_3) shapeCasts_S1536x11x2x128_S1536x2816 (ix2 r K)
      = x (ix2 r (kOf K)) := by
  let g : Fin 11 := ⟨K.val / 256, by omega⟩
  let f : Fin 2 := ⟨K.val / 128 % 2, by omega⟩
  let l : Fin 128 := ⟨K.val % 128, by omega⟩
  refine (shapeCast_apply _ _ (ix2 r K) (ValueIdx.ix4 r g f l) ?_).trans ?_
  · simp only [Shape.rowMajor_val_two, Shape.rowMajor_val_four]
    show ((r.val * 11 + K.val / 256) * 2 + K.val / 128 % 2) * 128 + K.val % 128 = r.val * 2816 + K.val
    omega
  refine (transpose_apply _ _ _ (ValueIdx.ix4 r g f l) (ValueIdx.ix4 r f g l) ?_).trans ?_
  · intro b; match b with
    | ⟨0, _⟩ => rfl
    | ⟨1, _⟩ => rfl
    | ⟨2, _⟩ => rfl
    | ⟨3, _⟩ => rfl
  refine shapeCast_apply _ _ (ValueIdx.ix4 r f g l) (ix2 r (kOf K)) ?_
  simp only [Shape.rowMajor_val_two, Shape.rowMajor_val_four]
  show r.val * 2816 + (K.val / 128 % 2 * 1408 + K.val / 256 * 128 + K.val % 128) = ((r.val * 2 + K.val / 128 % 2) * 11 + K.val / 256) * 128 + K.val % 128
  omega

variable (m : (ℓ : Loc nD τ sig) → Buf (Elt Ideal) ℓ)

theorem V6_codes (c : Dev nD) (r : Fin 1536) (K : Fin 2816) :
    (V6 m (outs0 m) c main_v3 : FVec Ideal S1536x2816 .bf16) (ix2 r K) = codeOf (xrow m c r) (kOf K) := by
  have h : (V6 m (outs0 m) c main_v3 : FVec Ideal S1536x2816 .bf16) = _ :=
    (V6_of m (outs0 m) c main_v3 (by decide)).trans ((V5_of m (outs0 m) c main_v3 (by decide)).trans ((V4_of m (outs0 m) c main_v3 (by decide)).trans
      ((V3_of m (outs0 m) c main_v3 (by decide)).trans (s0_v3 (V1 m (outs0 m) c)))))
  rw [h]
  refine (perm_apply _ r K).trans ?_
  exact (congrFun (V1_codes m c) (ix2 r (kOf K))).trans (codes_arr m c r (kOf K))

/-- The column in which the kernel keeps column `k` of the codes. -/
def kInv (k : Fin 2816) : Fin 2816 := ⟨k.val % 1408 / 128 * 256 + k.val / 1408 * 128 + k.val % 1408 % 128, by omega⟩

theorem kInv_kOf : ∀ K : Fin 2816, kInv (kOf K) = K := by decide +kernel
theorem kOf_kInv : ∀ K : Fin 2816, kOf (kInv K) = K := by decide +kernel

/-- The reordering is one to one. -/
def kEquiv : Fin 2816 ≃ Fin 2816 := ⟨kOf, kInv, kInv_kOf, kOf_kInv⟩

end Cert.KernelIdeal.Hand
-- ==== Proof.Val.Nibble.lean ====
module

public import Idealize.ShloMosaic.PureOps.Contract
public import Idealize.ShloMosaic.Lib.BitcastFour
public import Idealize.ShloMosaic.Lib.IdealHost
public import Idealize.ShloMosaic.Lib.Pointwise.Index

/-! The two signed nibbles of a byte: as a shift of the byte widened to a word reads them, and as a word of four packed bytes,
    shifted and masked and read as bytes again, gives sixteen times each of them. -/

@[expose] public section

set_option maxRecDepth 16384

noncomputable section

namespace Cert.Nibble

open Idealize.ShloMosaic hiding ix1 ix2 ix3
open Idealize.ShloMosaic.ValueIdx

/-- The low nibble of a byte, signed. -/
def lo (b : BitVec 8) : ℤ := ((b.setWidth 32 <<< 28).sshiftRight 28).toInt
/-- The high nibble of a byte, signed. -/
def hi (b : BitVec 8) : ℤ := ((b.setWidth 32 <<< 24).sshiftRight 28).toInt
/-- The nibble of parity `f`. -/
def nib (f : ℕ) (b : BitVec 8) : ℤ := if f = 0 then lo b else hi b

theorem lo_eq : ∀ b : BitVec 8, (b <<< 4).toInt = 16 * lo b := by decide
theorem hi_eq : ∀ b : BitVec 8, (b &&& 0xF0#8).toInt = 16 * hi b := by decide

variable {R r n : ℕ}

/-- Bit `q` of the byte at row `a` of words read as bytes: bit `8 (a % 4) + q` of the word at row `a / 4`. -/
theorem bitcast_32_8 (y : (⟨2, ![r, n]⟩ : Shape).Idx → BitVec 32) (h : (⟨2, ![r, n]⟩ : Shape).Bitcasts 32 ⟨2, ![R, n]⟩ 8)
    (a : Fin R) (l : Fin n) (q : ℕ) (hq : q < 8) (p : Fin r) (hp : p.val = a.val / 4) :
    (bitcast ⟨2, ![R, n]⟩ 8 y h (ix2 a l)).getLsbD q = (y (ix2 p l)).getLsbD (8 * (a.val % 4) + q) := by
  rw [bitcast_getLsbD y h _ q hq (by decide)]
  have hr : (⟨2, ![R, n]⟩ : Shape).row (ix2 a l) = a.val := rfl
  have e2 : ((⟨2, ![R, n]⟩ : Shape).row (ix2 a l) * 8 + q) % 32 = 8 * (a.val % 4) + q := by rw [hr]; omega
  rw [e2]
  congr 2
  funext c
  match c with
  | ⟨0, _⟩ =>
    refine Fin.ext ((h.srcIdx_row _ _ _ ⟨0, Nat.zero_lt_two⟩ rfl).trans ?_)
    show ((⟨2, ![R, n]⟩ : Shape).row (ix2 a l) * 8 + q) / 32 = p.val
    rw [hr]; omega
  | ⟨1, _⟩ => exact Fin.ext (h.srcIdx_other _ _ _ ⟨1, Nat.one_lt_two⟩ (by show ¬ 1 + 2 = 2; omega))

theorem mask_bit : ∀ c : Fin 4, ∀ q : Fin 8, (0xF0F0F0F0#32 : BitVec 32).getLsbD (8 * c.val + q.val) = decide (4 ≤ q.val) := by decide
theorem mask8_bit : ∀ q : Fin 8, (0xF0#8 : BitVec 8).getLsbD q.val = decide (4 ≤ q.val) := by decide

variable (x : (⟨2, ![R, n]⟩ : Shape).Idx → BitVec 8) (h1 : (⟨2, ![R, n]⟩ : Shape).Bitcasts 8 ⟨2, ![r, n]⟩ 32)
  (h2 : (⟨2, ![r, n]⟩ : Shape).Bitcasts 32 ⟨2, ![R, n]⟩ 8)

/-- Four packed bytes masked to their high nibbles are each masked. -/
theorem packed_hi (a : Fin R) (l : Fin n) (hr : a.val / 4 < r) :
    bitcast ⟨2, ![R, n]⟩ 8 (andi (bitcast ⟨2, ![r, n]⟩ 32 x h1) (broadcast ⟨2, ![r, n]⟩ 4042322160#32)) h2 (ix2 a l) = x (ix2 a l) &&& 0xF0#8 := by
  apply BitVec.eq_of_getLsbD_eq
  intro q hq
  rw [bitcast_32_8 _ h2 a l q hq ⟨a.val / 4, hr⟩ rfl]
  show (bitcast ⟨2, ![r, n]⟩ 32 x h1 (ix2 ⟨a.val / 4, hr⟩ l) &&& 4042322160#32).getLsbD _ = _
  rw [BitVec.getLsbD_and, BitVec.getLsbD_and, mask8_bit ⟨q, hq⟩, mask_bit ⟨a.val % 4, Nat.mod_lt _ (by decide)⟩ ⟨q, hq⟩,
    bitcast_8_32_getLsbD_ix2 x h1 ⟨a.val / 4, hr⟩ l (8 * (a.val % 4) + q) (by omega) a (by show a.val = 4 * (a.val / 4) + _; omega)]
  congr 2
  omega

/-- Four packed bytes shifted by four and masked to their high nibbles are each shifted by four. -/
theorem packed_lo (a : Fin R) (l : Fin n) (hr : a.val / 4 < r) :
    bitcast ⟨2, ![R, n]⟩ 8 (andi (shli (bitcast ⟨2, ![r, n]⟩ 32 x h1) (broadcast ⟨2, ![r, n]⟩ 4#32)) (broadcast ⟨2, ![r, n]⟩ 4042322160#32)) h2 (ix2 a l)
      = x (ix2 a l) <<< 4 := by
  apply BitVec.eq_of_getLsbD_eq
  intro q hq
  rw [bitcast_32_8 _ h2 a l q hq ⟨a.val / 4, hr⟩ rfl]
  show (bitcast ⟨2, ![r, n]⟩ 32 x h1 (ix2 ⟨a.val / 4, hr⟩ l) <<< 4 &&& 4042322160#32).getLsbD _ = _
  rw [BitVec.getLsbD_and, mask_bit ⟨a.val % 4, Nat.mod_lt _ (by decide)⟩ ⟨q, hq⟩, BitVec.getLsbD_shiftLeft, BitVec.getLsbD_shiftLeft]
  by_cases h4 : 4 ≤ q
  · rw [bitcast_8_32_getLsbD_ix2 x h1 ⟨a.val / 4, hr⟩ l (8 * (a.val % 4) + q - 4) (by omega) a (by show a.val = 4 * (a.val / 4) + _; omega)]
    have e : (8 * (a.val % 4) + q - 4) % 8 = q - 4 := by omega
    have e1 : decide (8 * (a.val % 4) + q < 4) = false := by simp; omega
    have e2 : decide (q < 4) = false := by simp; omega
    have e3 : decide (8 * (a.val % 4) + q < 32) = true := by simp; omega
    simp [e, h4, hq, e1, e2, e3]
  · have e2 : decide (q < 4) = true := by simp; omega
    simp [h4, e2]

/-- Sixteen times a nibble by a sixteenth of the scale is the nibble by the scale. -/
theorem sixteenth (z w : ℤ) (hz : z = 16 * w) (s : EReal) :
    ((z : ℝ) : EReal) * (s * Ideal.ofBits .bf16 0x3D80#16) = ((w : ℝ) : EReal) * s := by
  rw [Ideal.ofBits_sixteenth_bf16, hz, mul_comm s, ← mul_assoc, ← EReal.coe_mul]
  congr 2
  push_cast; ring

end Cert.Nibble
-- ==== Proof.Val.Deq.lean ====
module

public import proofs.«01_k».proof.Proof.KI.Body1
public import proofs.«01_k».proof.Proof.Val.Nibble
public import Idealize.ShloMosaic.Lib.Pipeline.ValueKit.Tiles

/-! The dequantised block of weights, entry by entry: row `128 p + l` holds the nibble of parity `p % 2` of byte row
    `128 (p / 2) + l`, by the scale of its group. -/

@[expose] public section

set_option maxRecDepth 16384

noncomputable section

namespace Cert.KernelIdeal.Hand

open Idealize.ShloMosaic hiding ix1 ix2 ix3
open Idealize.ShloMosaic.ValueIdx Idealize.ShloMosaic.TcCoe
open Cert.KernelIdeal.Gen
open Cert.Nibble

/-- The byte row of row `K` of the dequantised block. -/
def brow (K : Fin 2816) : Fin 1408 := ⟨128 * (K.val / 128 / 2) + K.val % 128, by omega⟩
/-- The scale row of row `K`. -/
def srow (K : Fin 2816) : Fin 22 := ⟨11 * (K.val / 128 % 2) + K.val / 128 / 2, by omega⟩

/-- Entry (`K`, `j`) of the dequantised block. -/
def deqAt (x6 : Vec Ideal S1x1408x512 .i8) (x7 : Vec Ideal S1x22x512 .f32) (y : S2816x512.Idx) : EReal :=
  ((nib ((y 0).val / 128 % 2) (x6 (ix3 0 (brow (y 0)) (y 1))) : ℝ) : EReal) * x7 (ix3 0 (srow (y 0)) (y 1))

theorem pay2_apply (v8 : Vec Ideal S1x128x512 .i8) (v17 : Vec Ideal S1x1x512 .f32) (l : Fin 128) (j : Fin 512) :
    (k1_pay2 (F := Ideal) v8 v17 (ix2 l j) : EReal) = ((lo (v8 (ix3 0 l j)) : ℝ) : EReal) * v17 (ix3 0 0 j) := by
  unfold k1_pay2 k1_pay1
  dsimp only
  rw [shapeCast_self]
  show (((bitcast S128x512 8 _ _ (ix2 l j) : BitVec 8).toInt : ℝ) : EReal) * broadcastTo S128x512 _ _ (ix2 l j) = _
  rw [packed_lo _ _ _ l j (by omega), broadcastTo_apply _ _ (ix2 l j) (ix2 0 j) (by intro a; match a with | ⟨0, _⟩ => rfl | ⟨1, _⟩ => rfl)]
  show _ * (shapeCast S1x512 v17 _ (ix2 0 j) * Ideal.ofBits .bf16 0x3D80#16) = _
  rw [sixteenth _ _ (lo_eq _)]
  rw [shapeCast_apply _ _ (ix2 l j) (ix3 0 l j) (by simp [Shape.rowMajor_val_two, Shape.rowMajor_val_three]),
    shapeCast_apply _ _ (ix2 0 j) (ix3 0 0 j) (by simp [Shape.rowMajor_val_two, Shape.rowMajor_val_three])]

theorem pay3_apply (v8 : Vec Ideal S1x128x512 .i8) (v17 : Vec Ideal S1x1x512 .f32) (l : Fin 128) (j : Fin 512) :
    (k1_pay3 (F := Ideal) v8 v17 (ix2 l j) : EReal) = ((hi (v8 (ix3 0 l j)) : ℝ) : EReal) * v17 (ix3 0 0 j) := by
  unfold k1_pay3 k1_pay1
  dsimp only
  rw [shapeCast_self]
  show (((bitcast S128x512 8 _ _ (ix2 l j) : BitVec 8).toInt : ℝ) : EReal) * broadcastTo S128x512 _ _ (ix2 l j) = _
  rw [packed_hi _ _ _ l j (by omega), broadcastTo_apply _ _ (ix2 l j) (ix2 0 j) (by intro a; match a with | ⟨0, _⟩ => rfl | ⟨1, _⟩ => rfl)]
  show _ * (shapeCast S1x512 v17 _ (ix2 0 j) * Ideal.ofBits .bf16 0x3D80#16) = _
  rw [sixteenth _ _ (hi_eq _)]
  rw [shapeCast_apply _ _ (ix2 l j) (ix3 0 l j) (by simp [Shape.rowMajor_val_two, Shape.rowMajor_val_three]),
    shapeCast_apply _ _ (ix2 0 j) (ix3 0 0 j) (by simp [Shape.rowMajor_val_two, Shape.rowMajor_val_three])]

theorem deqRows_apply (x6 : Vec Ideal S1x1408x512 .i8) (x7 : Vec Ideal S1x22x512 .f32) (p : Fin 22) (l : Fin 128) (j : Fin 512) (y : S2816x512.Idx)
    (h0 : (y 0).val = 128 * p.val + l.val) (h1 : (y 1).val = j.val) :
    (deqRows (F := Ideal) x6 x7 p (ix2 l j) : EReal) = deqAt x6 x7 y := by
  have hp : (y 0).val / 128 = p.val := by omega
  have hl : (y 0).val % 128 = l.val := by omega
  have e6 : ∀ h, View.ld x6 (Rect.unit (s := S1x1408x512) ![0, 128 * (p.val / 2), 0] S1x128x512.size h) (ix3 0 l j) = x6 (ix3 0 (brow (y 0)) (y 1)) := fun h =>
    View.ld_unit_apply_of _ _ _ _ _ _ (by
      intro a
      match a with
      | ⟨0, _⟩ => rfl
      | ⟨1, _⟩ => show 128 * ((y 0).val / 128 / 2) + (y 0).val % 128 = 128 * (p.val / 2) + l.val; rw [hp, hl]
      | ⟨2, _⟩ => show (y 1).val = 0 + j.val; omega)
  have e7 : ∀ h, View.ld x7 (Rect.unit (s := S1x22x512) ![0, 11 * (p.val % 2) + p.val / 2, 0] S1x1x512.size h) (ix3 0 0 j) = x7 (ix3 0 (srow (y 0)) (y 1)) := fun h =>
    View.ld_unit_apply_of _ _ _ _ _ _ (by
      intro a
      match a with
      | ⟨0, _⟩ => rfl
      | ⟨1, _⟩ => show 11 * ((y 0).val / 128 % 2) + (y 0).val / 128 / 2 = 11 * (p.val % 2) + p.val / 2 + 0; rw [hp]; rfl
      | ⟨2, _⟩ => show (y 1).val = 0 + j.val; omega)
  unfold deqRows deqAt nib
  rw [hp]
  split
  · rw [pay2_apply, e6, e7]
  · rw [pay3_apply, e6, e7]

theorem deqV_apply (x6 : Vec Ideal S1x1408x512 .i8) (x7 : Vec Ideal S1x22x512 .f32) (y : S2816x512.Idx) :
    (deqV (F := Ideal) x6 x7 y : EReal) = deqAt x6 x7 y := by
  unfold deqV
  refine View.canon_apply_of_pieces (Val := Elt Ideal) (e := .bf16) (deqAt x6 x7) _ ?_ y (cover9 _ y)
  intro pc hpc x
  obtain ⟨k, rfl⟩ := List.mem_ofFn.mp hpc
  obtain ⟨l, j, rfl⟩ : ∃ (l : Fin 128) (j : Fin 512), x = ix2 l j := ⟨x 0, x 1, ValueIdx.eq_ix2 x⟩
  refine deqRows_apply x6 x7 k.rev l j _ ?_ ?_
  · show 128 * k.rev.val + 1 * l.val = _; omega
  · show 0 + 1 * j.val = _; omega

end Cert.KernelIdeal.Hand
-- ==== Proof.Val.Acc.lean ====
module

public import proofs.«01_k».proof.Proof.KI.Words1
public import proofs.«01_k».proof.Proof.Val.Deq
public import Idealize.ShloMosaic.Lib.MatmulPlain

/-! One expert's update of its block of output columns, entry by entry: the rows of the expert get the product of the codes and the
    dequantised weights by the scale of the row; the other rows keep what they held. -/

@[expose] public section

set_option maxRecDepth 16384

noncomputable section

namespace Cert.KernelIdeal.Hand

open Idealize.ShloMosaic hiding ix1 ix2 ix3
open Idealize.ShloMosaic.ValueIdx Idealize.ShloMosaic.TcCoe
open Cert.KernelIdeal.Gen
open scoped BigOperators

/-- The product of row `r` and column `j`, scaled. -/
def prodAt {R : ℕ} {L : ℕ} (x4 : (⟨2, ![R, 2816]⟩ : Shape).Idx → EReal) (x5 : (⟨2, ![R, L]⟩ : Shape).Idx → EReal) (x9 : S2816x512.Idx → EReal)
    (hL : 0 < L) (r : Fin R) (j : Fin 512) : EReal :=
  (∑ K : Fin 2816, x4 (ix2 r K) * x9 (ix2 K j)) * x5 (ix2 r ⟨0, hL⟩)

theorem toInt_ofNat (n : ℕ) (h : n < 2 ^ 31) : (BitVec.ofNat 32 n).toInt = (n : ℤ) := by
  rw [BitVec.toInt_eq_toNat_of_lt (by rw [BitVec.toNat_ofNat]; omega), BitVec.toNat_ofNat]; omega

/-- The test of a row: at least the first and before the last. -/
theorem between (n a b : ℕ) (hn : n < 4096) (ha : a ≤ 1536) (hb : b ≤ 1536) :
    IntOp.andi (IntOp.cmpi .sge (BitVec.ofNat 32 n) (BitVec.ofNat 32 a)) (IntOp.cmpi .slt (BitVec.ofNat 32 n) (BitVec.ofNat 32 b))
      = if a ≤ n ∧ n < b then 1#1 else 0#1 := by
  have h1 : (BitVec.ofNat 32 a).sle (BitVec.ofNat 32 n) = decide (a ≤ n) := by
    rw [BitVec.sle_eq_decide, toInt_ofNat _ (by omega), toInt_ofNat _ (by omega)]; simp
  have h2 : (BitVec.ofNat 32 n).slt (BitVec.ofNat 32 b) = decide (n < b) := by
    rw [BitVec.slt_eq_decide, toInt_ofNat _ (by omega), toInt_ofNat _ (by omega)]; simp
  show (BitVec.ofBool ((BitVec.ofNat 32 a).sle (BitVec.ofNat 32 n)) &&& BitVec.ofBool ((BitVec.ofNat 32 n).slt (BitVec.ofNat 32 b))) = _
  rw [h1, h2]
  by_cases ha : a ≤ n <;> by_cases hb : n < b <;> simp [ha, hb]

theorem pay43_apply (a b : ℕ) (ha : a ≤ 1536) (hb : b ≤ 1536) (k : Fin (k1_t1_loop (BitVec.ofNat 32 a) (BitVec.ofNat 32 b)).trips) (hk : k.val < 7)
    (v421 : Vec Ideal S256x2816 .bf16) (v423 : Vec Ideal S2816x512 .bf16) (v426 : Vec Ideal S256x1 .f32) (v434 : Vec Ideal S256x512 .bf16)
    (i : Fin 256) (j : Fin 512) :
    (k1_pay43 (F := Ideal) (BitVec.ofNat 32 a) (BitVec.ofNat 32 b) 16#32 (wq (BitVec.ofNat 32 a)) (ws (BitVec.ofNat 32 a)) k v421 v423 v426 v434 (ix2 i j) : EReal)
      = if a ≤ min (16 * (a / 16) + 256 * k.val) 1280 + i.val ∧ min (16 * (a / 16) + 256 * k.val) 1280 + i.val < b
        then prodAt v421 v426 v423 Nat.one_pos i j else v434 (ix2 i j) := by
  have hrow := rowAt_first a k.val ha hk
  have hw : IntOp.addi (rowAt (first (BitVec.ofNat 32 a)) k.val) (BitVec.ofNat 32 i.val)
      = BitVec.ofNat 32 (min (16 * (a / 16) + 256 * k.val) 1280 + i.val) := by
    apply BitVec.eq_of_toNat_eq
    show (rowAt (first (BitVec.ofNat 32 a)) k.val + BitVec.ofNat 32 i.val).toNat = _
    rw [BitVec.toNat_add, hrow, BitVec.toNat_ofNat, BitVec.toNat_ofNat]
    have := i.isLt
    omega
  unfold k1_pay43
  dsimp only
  rw [shapeCast_self, shapeCast_self, shapeCast_self]
  show (if IntOp.andi (IntOp.cmpi .sge (IntOp.addi (rowAt (first (BitVec.ofNat 32 a)) k.val) (iota .tc S256x512 32 [0] _ (ix2 i j))) (BitVec.ofNat 32 a))
      (IntOp.cmpi .slt (IntOp.addi (rowAt (first (BitVec.ofNat 32 a)) k.val) (iota .tc S256x512 32 [0] _ (ix2 i j))) (BitVec.ofNat 32 b)) = 1#1
    then ((FloatOps.matmul (F := Ideal) (φ₁ := .bf16) (φ₂ := .bf16) (DotDims.plain 256 2816 512) none v421 v423 (constant (F := Ideal) S256x512 .f32 0x00000000#32) (ix2 i j) : Ideal .f32) * broadcastTo S256x512 v426 _ (ix2 i j) : EReal)
    else v434 (ix2 i j)) = _
  rw [iota_single_apply]
  show (if IntOp.andi (IntOp.cmpi .sge (IntOp.addi (rowAt (first (BitVec.ofNat 32 a)) k.val) (BitVec.ofNat 32 i.val)) (BitVec.ofNat 32 a))
      (IntOp.cmpi .slt (IntOp.addi (rowAt (first (BitVec.ofNat 32 a)) k.val) (BitVec.ofNat 32 i.val)) (BitVec.ofNat 32 b)) = 1#1 then _ else _) = _
  rw [hw, between _ a b (by have := i.isLt; omega) ha hb, Ideal.matmul_plain_apply,
    broadcastTo_apply _ _ (ix2 i j) (ix2 i 0) (by intro a; match a with | ⟨0, _⟩ => rfl | ⟨1, _⟩ => rfl)]
  have h0 : (constant (F := Ideal) S256x512 .f32 0x00000000#32 (ix2 i j) : EReal) = 0 := Ideal.ofBits_zero_f32
  rw [h0, zero_add]
  by_cases h : a ≤ min (16 * (a / 16) + 256 * k.val) 1280 + i.val ∧ min (16 * (a / 16) + 256 * k.val) 1280 + i.val < b
  · rw [if_pos h, if_pos h, if_pos rfl]; rfl
  · rw [if_neg h, if_neg h, if_neg (by decide)]

theorem put2_apply {α : Type} {R C h w : ℕ} (x : (⟨2, ![R, C]⟩ : Shape).Idx → α) (o : ℕ) (p : (⟨2, ![h, w]⟩ : Shape).Idx → α) (r : Fin R) (j : Fin C)
    (hw : w = C) :
    VecWindow.put x ![o, 0] ![h, w] p (ix2 r j)
      = if hh : o ≤ r.val ∧ r.val < o + h then p (ix2 ⟨r.val - o, by omega⟩ ⟨j.val, by omega⟩) else x (ix2 r j) := by
  unfold VecWindow.put
  by_cases hh : o ≤ r.val ∧ r.val < o + h
  · have hA : ∀ a : Fin 2, (![o, 0] : Fin 2 → ℕ) a ≤ ((ix2 r j : (⟨2, ![R, C]⟩ : Shape).Idx) a).val ∧ ((ix2 r j : (⟨2, ![R, C]⟩ : Shape).Idx) a).val < (![o, 0] : Fin 2 → ℕ) a + (![h, w] : Fin 2 → ℕ) a := by
      intro a
      match a with
      | ⟨0, _⟩ => exact hh
      | ⟨1, _⟩ => exact ⟨Nat.zero_le _, by show j.val < 0 + w; omega⟩
    rw [dif_pos hA, dif_pos hh]
    exact congrArg p (funext fun a => Fin.ext (by match a with | ⟨0, _⟩ => rfl | ⟨1, _⟩ => rfl))
  · rw [dif_neg hh, dif_neg (fun hA => hh (hA 0))]

theorem accV_apply (a b : ℕ) (hab : a ≤ b) (hb : b ≤ 1536) (x4 : Vec Ideal S1536x2816 .bf16) (x5 : Vec Ideal S1536x128 .f32) (x9 : Vec Ideal S2816x512 .bf16)
    (hw : k1_chk1 (BitVec.ofNat 32 a) (BitVec.ofNat 32 b)) (h1 : k1_cond1 (BitVec.ofNat 32 a) (BitVec.ofNat 32 b) = 1#1) (y : Vec Ideal S1536x512 .bf16)
    (r : Fin 1536) (j : Fin 512) : ∀ k, k ≤ (k1_t1_loop (BitVec.ofNat 32 a) (BitVec.ofNat 32 b)).trips →
    (accV (F := Ideal) x4 x5 x9 (BitVec.ofNat 32 a) (BitVec.ofNat 32 b) hw h1 y k (ix2 r j) : EReal)
      = if a ≤ r.val ∧ r.val < b ∧ r.val < 16 * (a / 16) + 256 * k then prodAt x4 x5 x9 (by decide) r j else y (ix2 r j)
  | 0, _ => by
    rw [if_neg (by omega)]; rfl
  | k + 1, hk => by
    have ih := accV_apply a b hab hb x4 x5 x9 hw h1 y r j k (by omega)
    have ht := trips1 a b hab hb
    have hk7 : k < 7 := by omega
    have hrow := rowAt_first a k (by omega) hk7
    have hr := r.isLt
    rw [accV, dif_pos (show k < _ from hk)]
    have e6 : k1_off6 (BitVec.ofNat 32 a) (BitVec.ofNat 32 b) ⟨k, hk⟩ = ![min (16 * (a / 16) + 256 * k) 1280, 0] := by rw [off6_eq]; dsimp only; rw [hrow]
    have e4 : k1_off4 (BitVec.ofNat 32 a) (BitVec.ofNat 32 b) ⟨k, hk⟩ = ![min (16 * (a / 16) + 256 * k) 1280, 0] := by rw [off4_eq]; dsimp only; rw [hrow]
    have e5 : k1_off5 (BitVec.ofNat 32 a) (BitVec.ofNat 32 b) ⟨k, hk⟩ = ![min (16 * (a / 16) + 256 * k) 1280, 0] := by rw [off5_eq]; dsimp only; rw [hrow]
    have ep : ∀ (X : S1536x512.Idx → EReal) (P : S256x512.Idx → EReal), VecWindow.put X (k1_off6 (BitVec.ofNat 32 a) (BitVec.ofNat 32 b) ⟨k, hk⟩) S256x512.size P
        = VecWindow.put X ![min (16 * (a / 16) + 256 * k) 1280, 0] ![256, 512] P := fun X P => by rw [e6]
    refine (congrFun (ep _ _) _).trans ?_
    refine (put2_apply (h := 256) (w := 512) _ _ _ r j rfl).trans ?_
    by_cases hh : min (16 * (a / 16) + 256 * k) 1280 ≤ r.val ∧ r.val < min (16 * (a / 16) + 256 * k) 1280 + 256
    · rw [dif_pos hh]
      refine (pay43_apply a b (by omega) hb ⟨k, hk⟩ hk7 _ _ _ _ _ _).trans ?_
      have hs : min (16 * (a / 16) + 256 * k) 1280 + (r.val - min (16 * (a / 16) + 256 * k) 1280) = r.val := by omega
      dsimp only
      rw [hs]
      by_cases hc : a ≤ r.val ∧ r.val < b
      · rw [if_pos hc, if_pos (by omega)]
        unfold prodAt
        congr 1
        · refine Finset.sum_congr rfl fun K _ => congrArg (· * _) ?_
          refine View.ld_unit_apply_of _ _ _ _ _ _ (by
            intro a'
            match a' with
            | ⟨0, _⟩ => exact hs.symm.trans (congrArg (· + (r.val - min (16 * (a / 16) + 256 * k) 1280)) (congrFun e4 0).symm)
            | ⟨1, _⟩ => exact (Nat.zero_add _).symm.trans (congrArg (· + K.val) (congrFun e4 1).symm))
        · refine View.ld_unit_apply_of _ _ _ _ _ _ (by
            intro a'
            match a' with
            | ⟨0, _⟩ => exact hs.symm.trans (congrArg (· + (r.val - min (16 * (a / 16) + 256 * k) 1280)) (congrFun e5 0).symm)
            | ⟨1, _⟩ => exact (congrFun e5 1).symm)
      · rw [if_neg hc, if_neg (by omega)]
        refine (View.ld_unit_apply_of _ _ _ _ _ (ix2 r j) (by
            intro a'
            match a' with
            | ⟨0, _⟩ => exact hs.symm.trans (congrArg (· + (r.val - min (16 * (a / 16) + 256 * k) 1280)) (congrFun e6 0).symm)
            | ⟨1, _⟩ => exact (Nat.zero_add _).symm.trans (congrArg (· + j.val) (congrFun e6 1).symm))).trans ?_
        rw [ih, if_neg (by omega)]
    · rw [dif_neg hh, ih]
      by_cases hc : a ≤ r.val ∧ r.val < b ∧ r.val < 16 * (a / 16) + 256 * k
      · rw [if_pos hc, if_pos (by omega)]
      · rw [if_neg hc, if_neg (by omega)]

/-- The body's output block at an entry. -/
theorem out1_apply (a b : ℕ) (hab : a ≤ b) (hb : b ≤ 1536) (x4 : Vec Ideal S1536x2816 .bf16) (x5 : Vec Ideal S1536x128 .f32)
    (x6 : Vec Ideal S1x1408x512 .i8) (x7 : Vec Ideal S1x22x512 .f32) (hw : k1_chk1 (BitVec.ofNat 32 a) (BitVec.ofNat 32 b)) (y : Vec Ideal S1536x512 .bf16)
    (r : Fin 1536) (j : Fin 512) :
    (out1 (F := Ideal) x4 x5 x6 x7 (BitVec.ofNat 32 a) (BitVec.ofNat 32 b) hw y (ix2 r j) : EReal)
      = if a ≤ r.val ∧ r.val < b then prodAt x4 x5 (deqAt x6 x7) (by decide) r j else y (ix2 r j) := by
  by_cases h : a < b
  · have h1 := (cond1_iff a b (by omega) hb).mpr h
    rw [out1_of_cond _ _ _ _ _ _ _ _ h1, accV_apply a b hab hb x4 x5 _ hw h1 y r j _ le_rfl, trips1 a b hab hb]
    have e : (deqV (F := Ideal) x6 x7 : S2816x512.Idx → EReal) = deqAt x6 x7 := funext fun y => deqV_apply x6 x7 y
    rw [e]
    by_cases hc : a ≤ r.val ∧ r.val < b
    · rw [if_pos hc, if_pos (by omega)]
    · rw [if_neg hc, if_neg (by omega)]
  · rw [out1_of_not _ _ _ _ _ _ _ _ (fun hh => h ((cond1_iff a b (by omega) hb).mp hh)), if_neg (by omega)]

end Cert.KernelIdeal.Hand
-- ==== Proof.Val.Geo.lean ====
module

public import proofs.«01_k».proof.Proof.KI.Tables
public import Idealize.ShloMosaic.Lib.Pipeline.ValueKit.Tiles
public import Idealize.ShloMosaic.Lib.Pipeline.ArrRel
public import Idealize.ShloMosaic.Lib.ValueIdxCore

/-! Where the blocks of the grouped product's windows lie, and at which points its output is written back. -/

@[expose] public section

set_option maxRecDepth 16384

noncomputable section

namespace Cert.KernelIdeal.Hand

open Idealize.ShloMosaic hiding ix1 ix2 ix3
open Idealize.ShloMosaic.ValueIdx Idealize.ShloMosaic.TcCoe
open Idealize.SL Idealize.SL.Sem
open Cert.KernelIdeal.Gen
open Cert.Groups

variable {F : FTy → Type} [FloatOps F]
variable (m : (ℓ : Loc nD τ sig) → Buf (Elt F) ℓ) (outs : Outs (F := F)) (a : (pcfg1 (F := F)).Adm)

theorem co0 (t : Fin grid1.N) : (grid1.coords t 0).val = t.val / 8 := by
  rw [Pipeline.Grid.coords_val t 0 (S := 8) (B := 28) (by decide) (by decide)]
  have := t.isLt.trans_eq N_1; omega
theorem co1 (t : Fin grid1.N) : (grid1.coords t 1).val = t.val % 8 := by
  rw [Pipeline.Grid.coords_val t 1 (S := 1) (B := 8) (by decide) (by decide)]
  omega

theorem flushOf4 : ∀ t : Fin grid1.N, Pipeline.Window.flushOf grid1 true cc1_transform_4 t = decide (t.val % 8 = 7) := by decide +kernel

theorem flush4 (t : Fin (cfg1 a).N) : ((cfg1 a).win 4).flush t = decide (t.val % 8 = 7) := flushOf4 t

theorem fetch4 (t : Fin (cfg1 a).N) : ((cfg1 a).win 4).fetch t = false := rfl

theorem iblk_0 (c : Dev nD) (t : Fin (cfg1 a).N) (r : Fin 1536) (K : Fin 2816) :
    (iblk1 m outs a c 0 t : Vec F S1536x2816 .bf16) (ix2 r K) = (V6 m outs c main_v3 : Vec F S1536x2816 .bf16) (ix2 r K) := by
  refine congrArg (V6 m outs c main_v3 : Vec F S1536x2816 .bf16) (funext fun x => Fin.ext ?_)
  refine (((cfg1 a).win 0).rect_emb_val t _ x).trans ?_
  match x with
  | ⟨0, _⟩ => show 0 * 1536 + r.val = r.val; omega
  | ⟨1, _⟩ => show 0 * 2816 + K.val = K.val; omega

theorem iblk_1 (c : Dev nD) (t : Fin (cfg1 a).N) (r : Fin 1536) (K : Fin 128) :
    (iblk1 m outs a c 1 t : Vec F S1536x128 .f32) (ix2 r K) = (V6 m outs c main_v0_1 : Vec F S1536x128 .f32) (ix2 r K) := by
  refine congrArg (V6 m outs c main_v0_1 : Vec F S1536x128 .f32) (funext fun x => Fin.ext ?_)
  refine (((cfg1 a).win 1).rect_emb_val t _ x).trans ?_
  match x with
  | ⟨0, _⟩ => show 0 * 1536 + r.val = r.val; omega
  | ⟨1, _⟩ => show 0 * 128 + K.val = K.val; omega

/-- The word of the table of experts at a point. -/
abbrev eix (t : Fin grid1.N) : BitVec 32 := (a.1 1 : IVec S8 32) (Idealize.ShloMosaic.ix1 (ex (grid1.coords t)))

theorem col_lt (t : Fin grid1.N) (j : Fin 512) : t.val / 8 * 512 + j.val < 14336 := by
  have := t.isLt.trans_eq N_1; omega

/-- The column of the output under column `j` of the block at a point. -/
def colAt (t : Fin grid1.N) (j : Fin 512) : Fin 14336 := ⟨t.val / 8 * 512 + j.val, col_lt t j⟩

theorem nword (t : Fin grid1.N) : (BitVec.ofNat 32 (grid1.coords t 0).val).toNat = t.val / 8 := by
  rw [co0, BitVec.toNat_ofNat]; have := t.isLt.trans_eq N_1; omega

theorem iblk_2 (c : Dev nD) (t : Fin (cfg1 a).N) (e : Fin 8) (he : (eix a t).toNat = e.val) (k : Fin 1408) (j : Fin 512) :
    (iblk1 m outs a c 2 t : Vec F S1x1408x512 .i8) (ix3 0 k j) = (V6 m outs c main_arg2 : Vec F S8x1408x14336 .i8) (ix3 e k (colAt t j)) := by
  refine congrArg (V6 m outs c main_arg2 : Vec F S8x1408x14336 .i8) (funext fun x => Fin.ext ?_)
  refine (((cfg1 a).win 2).rect_emb_val t _ x).trans ?_
  match x with
  | ⟨0, _⟩ =>
    show BitVec.toNat (w := 32) (a.1.at 1 (Rect.unit (s := S8) (k1_off1 (grid1.coords t)) S1.size (k1_off1_inb (grid1.coords t))) numel1_S1) * 1 + 0 = e.val
    rw [pfAt_one, he]; omega
  | ⟨1, _⟩ => show 0 * 1408 + k.val = k.val; omega
  | ⟨2, _⟩ => show (BitVec.ofNat 32 (grid1.coords t 0).val).toNat * 512 + j.val = t.val / 8 * 512 + j.val; rw [nword]

theorem iblk_3 (c : Dev nD) (t : Fin (cfg1 a).N) (e : Fin 8) (he : (eix a t).toNat = e.val) (k : Fin 22) (j : Fin 512) :
    (iblk1 m outs a c 3 t : Vec F S1x22x512 .f32) (ix3 0 k j) = (V6 m outs c main_arg3 : Vec F S8x22x14336 .f32) (ix3 e k (colAt t j)) := by
  refine congrArg (V6 m outs c main_arg3 : Vec F S8x22x14336 .f32) (funext fun x => Fin.ext ?_)
  refine (((cfg1 a).win 3).rect_emb_val t _ x).trans ?_
  match x with
  | ⟨0, _⟩ =>
    show BitVec.toNat (w := 32) (a.1.at 1 (Rect.unit (s := S8) (k1_off1 (grid1.coords t)) S1.size (k1_off1_inb (grid1.coords t))) numel1_S1) * 1 + 0 = e.val
    rw [pfAt_one, he]; omega
  | ⟨1, _⟩ => show 0 * 22 + k.val = k.val; omega
  | ⟨2, _⟩ => show (BitVec.ofNat 32 (grid1.coords t 0).val).toNat * 512 + j.val = t.val / 8 * 512 + j.val; rw [nword]

theorem adm0_fst : (adm0 m).1 = pf0 m (outs0 m) := by unfold adm0; rfl

theorem eix0 (t : Fin grid1.N) : eix (adm0 m) t = fold8 IntOp.maxsi 2147483648#32 (own (gs m d0)) (ex (grid1.coords t)) := by
  unfold eix
  rw [adm0_fst]
  exact pf0_one m (outs0 m) _

/-- Where column `j` of the output's block at a point lies. -/
theorem emb4 (t : Fin (cfg1 a).N) (r : Fin 1536) (j : Fin 512) :
    ((((cfg1 a).win 4).blk t).view.emb (ix2 r j : S1536x512.Idx) : S1536x14336.Idx) = ix2 r (colAt t j) := by
  refine funext fun x => Fin.ext ?_
  refine (((cfg1 a).win 4).rect_emb_val t _ x).trans ?_
  match x with
  | ⟨0, _⟩ => show 0 * 1536 + r.val = r.val; omega
  | ⟨1, _⟩ => show (BitVec.ofNat 32 (grid1.coords t 0).val).toNat * 512 + j.val = t.val / 8 * 512 + j.val; rw [nword]

end Cert.KernelIdeal.Hand
-- ==== Proof.Val.Out.lean ====
module

public import proofs.«01_k».proof.Proof.Val.Acc
public import proofs.«01_k».proof.Proof.Val.Geo

/-! What the grouped product leaves in its output array: every row of every expert holds the scaled product of its codes and the
    expert's dequantised weights. -/

@[expose] public section

set_option maxRecDepth 16384

noncomputable section

namespace Cert.KernelIdeal.Hand

open Idealize.ShloMosaic hiding ix1 ix2 ix3
open Idealize.ShloMosaic.ValueIdx Idealize.ShloMosaic.TcCoe
open Idealize.SL Idealize.SL.Sem
open Idealize.ShloMosaic.Pipeline (RDat Dat)
open Cert.KernelIdeal.Gen
open Cert.Groups Cert.Nibble
open scoped BigOperators

/-- Entry (`K`, `col`) of expert `e`'s weights, its rows in the order the kernel keeps them. -/
def wAt (A2 : Vec Ideal S8x1408x14336 .i8) (A3 : Vec Ideal S8x22x14336 .f32) (e : Fin 8) (K : Fin 2816) (col : Fin 14336) : EReal :=
  ((nib (K.val / 128 % 2) (A2 (ix3 e (brow K) col)) : ℝ) : EReal) * A3 (ix3 e (srow K) col)

/-- Entry (`r`, `col`) of the output, for a row of expert `e`. -/
def outAt (A0 : Vec Ideal S1536x2816 .bf16) (A1 : Vec Ideal S1536x128 .f32) (A2 : Vec Ideal S8x1408x14336 .i8) (A3 : Vec Ideal S8x22x14336 .f32)
    (e : Fin 8) (r : Fin 1536) (col : Fin 14336) : EReal :=
  (∑ K : Fin 2816, A0 (ix2 r K) * wAt A2 A3 e K col) * A1 (ix2 r 0)

variable (m : (ℓ : Loc nD τ sig) → Buf (Elt Ideal) ℓ)

/-- Entry (`r`, `col`) of the output over the arrays the region reads. -/
def outm (c : Dev nD) (e : Fin 8) (r : Fin 1536) (col : Fin 14336) : EReal :=
  outAt (V6 m (outs0 m) c main_v3) (V6 m (outs0 m) c main_v0_1) (V6 m (outs0 m) c main_arg2) (V6 m (outs0 m) c main_arg3) e r col

/-- The relation the output's block is held to: the rows of the experts up to the point's are done. -/
def R4o (c : Dev nD) (t : Fin (cfg1 (adm0 m)).N) (Y : Vec Ideal S1536x512 .bf16) : Prop :=
  ∀ (e : Fin 8) (r : Fin 1536) (j : Fin 512), e.val ≤ t.val % 8 → pre (gs m d0) e.val ≤ r.val → r.val < pre (gs m d0) (e.val + 1) →
    (Y (ix2 r j) : EReal) = outm m c e r (colAt t j)

theorem eix_eq (hg : Good (gs m d0)) (t : Fin grid1.N) (e : Fin 8) (he : e.val = t.val % 8) (h : pre (gs m d0) e.val < pre (gs m d0) (e.val + 1)) :
    (eix (adm0 m) t).toNat = e.val := by
  have hx : ex (grid1.coords t) = e := Fin.ext ((co1 t).trans he.symm)
  rw [eix0, hx]
  refine eidx_eq _ e ?_ (hg.1 e)
  have := pre_succ (gs m d0) e
  omega

theorem prodAt_blk (c : Dev nD) (t : Fin (cfg1 (adm0 m)).N) (e : Fin 8) (he : (eix (adm0 m) t).toNat = e.val) (r : Fin 1536) (j : Fin 512) :
    prodAt (iblk1 m (outs0 m) (adm0 m) c 0 t) (iblk1 m (outs0 m) (adm0 m) c 1 t) (deqAt (iblk1 m (outs0 m) (adm0 m) c 2 t) (iblk1 m (outs0 m) (adm0 m) c 3 t))
      (by decide : 0 < 128) r j = outm m c e r (colAt t j) := by
  unfold prodAt outm outAt
  refine congrArg₂ (· * ·) (Finset.sum_congr rfl fun K _ => congrArg₂ (· * ·) (iblk_0 m _ _ c t r K) ?_) (iblk_1 m _ _ c t r 0)
  unfold deqAt wAt
  exact congrArg₂ (· * ·) (congrArg (fun b : BitVec 8 => ((nib (K.val / 128 % 2) b : ℝ) : EReal)) (iblk_2 m _ _ c t e he (brow K) j)) (iblk_3 m _ _ c t e he (srow K) j)

theorem step_ok (hg : Good (gs m d0)) : Step1 m (outs0 m) (adm0 m) (okWords0 m hg) (R4o m) := by
  intro c t Y hY e r j het h1 h2
  have ht : t.val < 224 := t.isLt.trans_eq N_1
  have hmono := fun i j h => pre_mono (gs m d0) (a := i) (b := j) h
  have hrs := rowStart0 m hg (grid1.coords t)
  have hre := rowEnd0 m hg (grid1.coords t)
  have hex : (ex (grid1.coords t)).val = t.val % 8 := co1 t
  rw [hex] at hrs hre
  have hle : pre (gs m d0) (t.val % 8 + 1) ≤ 1536 := pre_le (gs m d0) hg (by omega)
  have key : ∀ (v1 v4 : BitVec 32) (hw : k1_chk1 v1 v4), v1 = BitVec.ofNat 32 (pre (gs m d0) (t.val % 8)) → v4 = BitVec.ofNat 32 (pre (gs m d0) (t.val % 8 + 1)) →
      (out1 (F := Ideal) (iblk1 m (outs0 m) (adm0 m) c 0 t) (iblk1 m (outs0 m) (adm0 m) c 1 t) (iblk1 m (outs0 m) (adm0 m) c 2 t) (iblk1 m (outs0 m) (adm0 m) c 3 t)
        v1 v4 hw Y (ix2 r j) : EReal) = outm m c e r (colAt t j) := by
    rintro _ _ hw rfl rfl
    refine (out1_apply (pre (gs m d0) (t.val % 8)) (pre (gs m d0) (t.val % 8 + 1)) (hmono _ _ (Nat.le_succ _)) hle (iblk1 m (outs0 m) (adm0 m) c 0 t)
      (iblk1 m (outs0 m) (adm0 m) c 1 t) (iblk1 m (outs0 m) (adm0 m) c 2 t) (iblk1 m (outs0 m) (adm0 m) c 3 t) hw Y r j).trans ?_
    by_cases hee : e.val = t.val % 8
    · rw [← hee, if_pos ⟨h1, h2⟩]
      exact prodAt_blk m c t e (eix_eq m hg t e hee (by omega)) r j
    · have hlt : pre (gs m d0) (e.val + 1) ≤ pre (gs m d0) (t.val % 8) := hmono _ _ (by omega)
      rw [if_neg (by omega)]
      have hY' := (RDat.finds_of_pos (rdat1 m (outs0 m) (adm0 m) (R4o m) c) (w := (4 : Fin 5)) (fetch4 (adm0 m) t) (by omega) Y).mp hY
      rcases hY' with hf | hl
      · rw [flush4] at hf
        have hf' := of_decide_eq_true hf
        dsimp only at hf'
        omega
      · have hR : R4o m c ⟨t.val - 1, Nat.lt_of_le_of_lt (Nat.sub_le _ _) t.isLt⟩ Y := Dat.toRRel_leaves (dat1 m (outs0 m) (adm0 m) c) (fgt := fgt1 (adm0 m)) (Rl := Rl1 (adm0 m) (R4o m c)) (w := (4 : Fin 5)) rfl hl
        have := hR e r j (by dsimp only; omega) h1 h2
        rw [this]
        congr 1
        refine Fin.ext ?_
        show (t.val - 1) / 8 * 512 + j.val = t.val / 8 * 512 + j.val
        omega
  exact key _ _ _ hrs hre

/-- What an entry of the output is to be. -/
def Pout (c : Dev nD) (i : S1536x14336.Idx) (v : EReal) : Prop :=
  ∀ (e : Fin 8) (r : Fin 1536) (col : Fin 14336), i = ix2 r col → pre (gs m d0) e.val ≤ r.val → r.val < pre (gs m d0) (e.val + 1) → v = outm m c e r col

theorem flushed_out (c : Dev nD) (X : Fin (cfg1 (adm0 m)).N → (((cfg1 (adm0 m)).win (4 : Fin 5)).block.Idx → Elt Ideal ((cfg1 (adm0 m)).win (4 : Fin 5)).elt))
    (hX : ∀ u : Fin (cfg1 (adm0 m)).N, u.val < (cfg1 (adm0 m)).N → ((cfg1 (adm0 m)).win (4 : Fin 5)).flush u = true → (rdat1 m (outs0 m) (adm0 m) (R4o m) c).Leaves (4 : Fin 5) u (X u))
    (t : Fin (cfg1 (adm0 m)).N) (ht : ((cfg1 (adm0 m)).win (4 : Fin 5)).flush t = true) (y : S1536x512.Idx) :
    Pout m c (((cfg1 (adm0 m)).win 4).blk t |>.view.emb y)
      (((rdat1 m (outs0 m) (adm0 m) (R4o m) c).withAfter (Function.update (fun _ _ _ => Classical.arbitrary _) (4 : Fin 5) X)).flushed (4 : Fin 5) t y) := by
  intro e r col hi h1 h2
  have hR : R4o m c t (X t) := Dat.toRRel_leaves (dat1 m (outs0 m) (adm0 m) c) (fgt := fgt1 (adm0 m)) (Rl := Rl1 (adm0 m) (R4o m c)) (w := (4 : Fin 5)) rfl (hX t t.isLt ht)
  obtain ⟨r', j, rfl⟩ : ∃ (r' : Fin 1536) (j : Fin 512), y = (ix2 r' j : S1536x512.Idx) := ⟨y 0, y 1, ValueIdx.eq_ix2 y⟩
  have hi' := (emb4 (adm0 m) t r' j).symm.trans hi
  have e0 : r' = r := congrFun hi' 0
  have e1 : colAt t j = col := congrFun hi' 1
  subst e0; subst e1
  rw [flush4] at ht
  have := of_decide_eq_true ht
  refine Eq.trans ?_ (hR e r' j (by omega) h1 h2)
  rw [Dat.flushed_apply]
  show Function.update (β := fun w' : Fin (cfg1 (adm0 m)).W => Fin (cfg1 (adm0 m)).N → (((cfg1 (adm0 m)).win w').block.Idx → Elt Ideal ((cfg1 (adm0 m)).win w').elt)) (fun _ _ _ => Classical.arbitrary _) (4 : Fin 5) X (4 : Fin 5) t _ = _
  rw [Function.update_self]
  rfl

theorem cover_out (i : S1536x14336.Idx) :
    ∃ t : Fin (cfg1 (adm0 m)).N, ((cfg1 (adm0 m)).win (4 : Fin 5)).flush t = true ∧ i ∈ (((cfg1 (adm0 m)).win (4 : Fin 5)).blk t).view.set := by
  obtain ⟨r, col, rfl⟩ : ∃ (r : Fin 1536) (col : Fin 14336), i = (ix2 r col : S1536x14336.Idx) := ⟨i 0, i 1, ValueIdx.eq_ix2 i⟩
  have hc := col.isLt
  let t : Fin (cfg1 (adm0 m)).N := ⟨8 * (col.val / 512) + 7, (show 8 * (col.val / 512) + 7 < 224 by omega).trans_eq N_1.symm⟩
  refine ⟨t, (flush4 (adm0 m) t).trans (decide_eq_true (by show (8 * (col.val / 512) + 7) % 8 = 7; omega)), ?_⟩
  have he : ix2 r col = ((((cfg1 (adm0 m)).win 4).blk t).view.emb (ix2 r ⟨col.val % 512, Nat.mod_lt _ (by decide)⟩ : S1536x512.Idx) : S1536x14336.Idx) := by
    rw [emb4]
    refine congrArg (ix2 r) (Fin.ext ?_)
    show col.val = (8 * (col.val / 512) + 7) / 8 * 512 + col.val % 512
    omega
  rw [he]
  exact Finset.mem_map_of_mem _ (Finset.mem_univ _)

/-- The whole output. -/
theorem arr_out (hg : Good (gs m d0)) (c : Dev nD) (G : Vec Ideal S1536x14336 .bf16)
    (hG : (rdat1 m (outs0 m) (adm0 m) (R4o m) c).ArrAt (4 : Fin 5) (cfg1 (adm0 m)).N G)
    (e : Fin 8) (r : Fin 1536) (col : Fin 14336) (h1 : pre (gs m d0) e.val ≤ r.val) (h2 : r.val < pre (gs m d0) (e.val + 1)) :
    (G (ix2 r col) : EReal) = outm m c e r col := by
  obtain ⟨X, hX, hA⟩ := hG.exists_exact
  have hA' := hA (Function.update (fun _ _ _ => Classical.arbitrary _) (4 : Fin 5) X) (fun u _ _ => by rw [Function.update_self])
  have key : ∀ i : S1536x14336.Idx, Pout m c i (G i) := by
    rw [hA']
    refine Dat.arrAt_forall_of_cover ((rdat1 m (outs0 m) (adm0 m) (R4o m) c).withAfter (Function.update (fun _ _ _ => Classical.arbitrary _) (4 : Fin 5) X)) (4 : Fin 5) (Pout m c) ?_ ?_
    · exact flushed_out m c X hX
    · exact cover_out m
  exact key (ix2 r col) e r col rfl h1 h2

end Cert.KernelIdeal.Hand
-- ==== Proof.Val.RefOut.lean ====
module

public import proofs.«01_k».proof.Proof.Val.RefScale
public import proofs.«01_k».proof.Proof.Val.Perm
public import proofs.«01_k».proof.Proof.Val.Out
public import Idealize.ShloMosaic.Lib.StackMember

/-! The reference's weights and its masked sum over the experts, entry by entry. -/

@[expose] public section

set_option maxRecDepth 16384

noncomputable section

namespace Cert.ReferenceIdeal.Value

open Idealize.ShloMosaic hiding ix2 ix3 ix1
open Idealize.ShloMosaic.ValueIdx Idealize.ShloMosaic.TcCoe
open Cert.ReferenceIdeal Cert.ReferenceIdeal.Gen
open Cert.Scale Cert.Groups Cert.Nibble
open Cert.KernelIdeal.Hand (kOf kEquiv brow srow wAt between)
open scoped BigOperators

/-! ## The weights -/

theorem lo_word : ∀ b : BitVec 8, (IntOp.shrsi .host (IntOp.shli .host (b.setWidth 32) 28#32) 28#32).toInt = lo b := by decide +kernel
theorem hi_word : ∀ b : BitVec 8, (IntOp.shrsi .host (IntOp.shli .host (b.setWidth 32) 24#32) 28#32).toInt = hi b := by decide +kernel

/-- One half of the nibbles. -/
def half (b : BitVec 32) (x : IVec S8x1408x14336 8) : IVec S8x1408x14336 32 :=
  Host.shrsi (Host.shli (extui 32 x natLt_8_32) (broadcastInDim S8x1408x14336 ![] bcast_S_S8x1408x14336 (constantI S_ 32 b))) (broadcastInDim S8x1408x14336 ![] bcast_S_S8x1408x14336 (constantI S_ 32 28#32))

theorem half_apply (b : BitVec 32) (x : IVec S8x1408x14336 8) (i : S8x1408x14336.Idx) :
    half b x i = IntOp.shrsi .host (IntOp.shli .host ((x i).setWidth 32) b) 28#32 := rfl

/-- All the nibbles. -/
def nibs (x : IVec S8x1408x14336 8) : IVec S8x2816x14336 32 :=
  concatenate S8x2816x14336 1 [⟨S8x1408x14336, half 28#32 x⟩, ⟨S8x1408x14336, half 24#32 x⟩] concatenates_S8x1408x14336_S8x1408x14336_S8x2816x14336_d1

theorem cat_left (a b : IVec S8x1408x14336 32) (e : Fin 8) (K : Fin 2816) (col : Fin 14336) (hf : K.val / 128 % 2 = 0) :
    concatenate S8x2816x14336 1 [⟨S8x1408x14336, a⟩, ⟨S8x1408x14336, b⟩] concatenates_S8x1408x14336_S8x1408x14336_S8x2816x14336_d1 (ix3 e (kOf K) col) = a (ix3 e (brow K) col) := by
  refine concatenate_pair_apply_left (t := S8x2816x14336) (s₁ := S8x1408x14336) (s₂ := S8x1408x14336) 1 a b _ _ rfl (ix3 e (brow K) col) ?_
  intro b
  match b with
  | ⟨0, _⟩ => rfl
  | ⟨1, _⟩ => show 128 * (K.val / 128 / 2) + K.val % 128 = K.val / 128 % 2 * 1408 + K.val / 256 * 128 + K.val % 128; omega
  | ⟨2, _⟩ => rfl

theorem cat_right (a b : IVec S8x1408x14336 32) (e : Fin 8) (K : Fin 2816) (col : Fin 14336) (hf : K.val / 128 % 2 ≠ 0) :
    concatenate S8x2816x14336 1 [⟨S8x1408x14336, a⟩, ⟨S8x1408x14336, b⟩] concatenates_S8x1408x14336_S8x1408x14336_S8x2816x14336_d1 (ix3 e (kOf K) col) = b (ix3 e (brow K) col) := by
  refine concatenate_pair_apply_right (t := S8x2816x14336) (s₁ := S8x1408x14336) (s₂ := S8x1408x14336) 1 a b _ _ rfl rfl (ix3 e (brow K) col) ?_ ?_
  · intro b hb
    match b with
    | ⟨0, _⟩ => rfl
    | ⟨1, _⟩ => exact absurd rfl hb
    | ⟨2, _⟩ => rfl
  · show 128 * (K.val / 128 / 2) + K.val % 128 + 1408 = K.val / 128 % 2 * 1408 + K.val / 256 * 128 + K.val % 128
    omega

theorem nibs_apply (x : IVec S8x1408x14336 8) (e : Fin 8) (K : Fin 2816) (col : Fin 14336) :
    (nibs x (ix3 e (kOf K) col)).toInt = nib (K.val / 128 % 2) (x (ix3 e (brow K) col)) := by
  unfold nibs nib
  by_cases hf : K.val / 128 % 2 = 0
  · rw [if_pos hf, cat_left _ _ e K col hf, half_apply]
    exact lo_word _
  · rw [if_neg hf, cat_right _ _ e K col hf, half_apply]
    exact hi_word _

/-- The scales of the weights, each for its 128 rows. -/
def wscales (s : FVec Ideal S8x22x14336 .f32) : FVec Ideal S8x2816x14336 .bf16 :=
  shapeCast S8x2816x14336 (broadcastInDim S8x22x128x14336 ![0, 1, 3] bcast_S8x22x14336_S8x22x128x14336_0_1_3 (truncf .bf16 s bitsLt_bf16_f32)) shapeCasts_S8x22x128x14336_S8x2816x14336

theorem wscales_apply (s : FVec Ideal S8x22x14336 .f32) (e : Fin 8) (K : Fin 2816) (col : Fin 14336) :
    wscales s (ix3 e (kOf K) col) = s (ix3 e (srow K) col) := by
  unfold wscales
  refine (shapeCast_apply _ _ (ix3 e (kOf K) col) (ValueIdx.ix4 e (srow K) (⟨K.val % 128, by omega⟩ : Fin 128) col) ?_).trans ?_
  · simp only [Shape.rowMajor_val_three, Shape.rowMajor_val_four]
    show ((e.val * 22 + (11 * (K.val / 128 % 2) + K.val / 128 / 2)) * 128 + K.val % 128) * 14336 + col.val
      = (e.val * 2816 + (K.val / 128 % 2 * 1408 + K.val / 256 * 128 + K.val % 128)) * 14336 + col.val
    omega
  refine (broadcastInDim_apply _ _ _ _ (ix3 e (srow K) col) ?_).trans rfl
  intro a
  match a with
  | ⟨0, _⟩ => rfl
  | ⟨1, _⟩ => rfl
  | ⟨2, _⟩ => rfl

/-- The dequantised weights. -/
def weights (x : IVec S8x1408x14336 8) (s : FVec Ideal S8x22x14336 .f32) : FVec Ideal S8x2816x14336 .bf16 :=
  mulf (sitofp .bf16 (nibs x)) (wscales s)

theorem mulsi_at {s : Shape} (i : s.Idx) (x : IVec s 32) (y : FVec Ideal s .bf16) : mulf (sitofp .bf16 x) y i = ((((x i).toInt : ℝ) : EReal) * y i : EReal) := rfl

theorem weights_apply (x : IVec S8x1408x14336 8) (s : FVec Ideal S8x22x14336 .f32) (e : Fin 8) (K : Fin 2816) (col : Fin 14336) :
    weights x s (ix3 e (kOf K) col) = wAt x s e K col := by
  unfold weights wAt
  rw [mulsi_at, nibs_apply, wscales_apply]

/-! ## One expert's term -/

/-- A bound of expert `e`, spread over the rows. -/
theorem pick (st : IVec S8 32) (o : Fin 1 → ℕ) (h : S8.Slices o S1) (e : Fin 8) (he : o 0 = e.val) (i : S1536x1.Idx) :
    broadcastInDim S1536x1 ![] bcast_S_S1536x1 (shapeCast S_ (extractStridedSlice S1 o st h) shapeCasts_S1_S_) i = st (Idealize.ShloMosaic.ix1 e) := by
  refine (broadcastInDim_apply _ _ _ i (fun a => a.elim0) (fun a => a.elim0)).trans ?_
  refine (shapeCast_apply _ _ _ (Idealize.ShloMosaic.ix1 0) ?_).trans ?_
  · have h1 : (S1.rowMajor (Idealize.ShloMosaic.ix1 0)).val < 1 := Fin.isLt _
    have h2 : (S_.rowMajor (fun a => a.elim0)).val < 1 := Fin.isLt _
    exact (Nat.lt_one_iff.mp h1).trans (Nat.lt_one_iff.mp h2).symm
  refine extractStridedSlice_apply _ _ _ _ (Idealize.ShloMosaic.ix1 e) ?_
  intro a
  match a with
  | ⟨0, _⟩ => show e.val = o 0 + 0; omega

theorem dot_plain : dot_S1536x2816_S2816x14336_S1536x14336_1_0_0_1_n_n = DotDims.plain 1536 2816 14336 := rfl

/-- One expert's weights out of all. -/
theorem slab (w : FVec Ideal S8x2816x14336 .bf16) (o : Fin 3 → ℕ) (h : S8x2816x14336.Slices o S1x2816x14336) (e : Fin 8) (he : o = ![e.val, 0, 0])
    (k : Fin 2816) (col : Fin 14336) :
    shapeCast S2816x14336 (extractStridedSlice S1x2816x14336 o w h) shapeCasts_S1x2816x14336_S2816x14336 (ix2 k col) = w (ix3 e k col) := by
  refine (shapeCast_apply _ _ (ix2 k col) (ix3 0 k col) ?_).trans ?_
  · simp only [Shape.rowMajor_val_three, Shape.rowMajor_val_two]
    show (0 * 2816 + k.val) * 14336 + col.val = k.val * 14336 + col.val
    omega
  refine extractStridedSlice_apply _ _ _ _ (ix3 e k col) ?_
  subst he
  intro a
  match a with
  | ⟨0, _⟩ => show e.val = e.val + 0; omega
  | ⟨1, _⟩ => show k.val = 0 + k.val; omega
  | ⟨2, _⟩ => show col.val = 0 + col.val; omega

/-- One expert's term: its product on its own rows, zero elsewhere. -/
def term (q : FVec Ideal S1536x2816 .bf16) (w : FVec Ideal S8x2816x14336 .bf16) (v44 : IVec S1536x1 32) (st en : IVec S8 32)
    (o : Fin 1 → ℕ) (h : S8.Slices o S1) (o3 : Fin 3 → ℕ) (h3 : S8x2816x14336.Slices o3 S1x2816x14336) : FVec Ideal S1536x14336 .f32 :=
  select (broadcastInDim S1536x14336 ![0, 1] bcast_S1536x1_S1536x14336_0_1
      (andi (cmpi .sge v44 (broadcastInDim S1536x1 ![] bcast_S_S1536x1 (shapeCast S_ (extractStridedSlice S1 o st h) shapeCasts_S1_S_)))
        (cmpi .slt v44 (broadcastInDim S1536x1 ![] bcast_S_S1536x1 (shapeCast S_ (extractStridedSlice S1 o en h) shapeCasts_S1_S_)))))
    (Host.dotGeneral dot_S1536x2816_S2816x14336_S1536x14336_1_0_0_1_n_n none q (shapeCast S2816x14336 (extractStridedSlice S1x2816x14336 o3 w h3) shapeCasts_S1x2816x14336_S2816x14336))
    (broadcastInDim S1536x14336 ![] bcast_S_S1536x14336 (constant S_ .f32 0x00000000#32))

theorem andi_at {s : Shape} (i : s.Idx) (a b : IVec s 1) : andi a b i = IntOp.andi (a i) (b i) := rfl
theorem cmpi_at {s : Shape} (i : s.Idx) (p : CmpIPredicate) (a b : IVec s 32) : cmpi p a b i = IntOp.cmpi p (a i) (b i) := rfl

theorem term_apply (q : FVec Ideal S1536x2816 .bf16) (w : FVec Ideal S8x2816x14336 .bf16) (v44 : IVec S1536x1 32) (st en : IVec S8 32)
    (o : Fin 1 → ℕ) (h : S8.Slices o S1) (o3 : Fin 3 → ℕ) (h3 : S8x2816x14336.Slices o3 S1x2816x14336) (e : Fin 8) (ho : o 0 = e.val) (ho3 : o3 = ![e.val, 0, 0])
    (g : IVec T8 32) (hg : Good g) (hst : st (Idealize.ShloMosaic.ix1 e) = BitVec.ofNat 32 (pre g e.val)) (hen : en (Idealize.ShloMosaic.ix1 e) = BitVec.ofNat 32 (pre g (e.val + 1)))
    (r : Fin 1536) (col : Fin 14336) (h44 : v44 (ix2 r 0) = BitVec.ofNat 32 r.val) :
    (term q w v44 st en o h o3 h3 (ix2 r col) : EReal) = if pre g e.val ≤ r.val ∧ r.val < pre g (e.val + 1) then ∑ k : Fin 2816, (q (ix2 r k) * w (ix3 e k col) : EReal) else 0 := by
  unfold term
  refine (sel_at _ _ _ _).trans ?_
  have e1 : ∀ y : IVec S1536x1 1, broadcastInDim S1536x14336 ![0, 1] bcast_S1536x1_S1536x14336_0_1 y (ix2 r col) = y (ix2 r 0) := fun y =>
    broadcastInDim_apply _ _ y (ix2 r col) (ix2 r 0) (fun a => by match a with | ⟨0, _⟩ => rfl | ⟨1, _⟩ => rfl)
  rw [e1, andi_at, cmpi_at, cmpi_at, pick st o h e ho, pick en o h e ho, h44, hst, hen,
    between r.val _ _ (by have := r.isLt; omega) (pre_le g hg (by omega)) (pre_le g hg (by omega)), const_at, Ideal.ofBits_zero_f32]
  by_cases hc : pre g e.val ≤ r.val ∧ r.val < pre g (e.val + 1)
  · rw [if_pos hc, if_pos hc]
    refine (sel_one _ _ _ rfl).trans ?_
    rw [dot_plain]
    refine (StackMember.dotGeneral_plain_apply none _ _ r col).trans (Finset.sum_congr rfl fun k _ => ?_)
    rw [slab w o3 h3 e ho3]
  · rw [if_neg hc, if_neg hc]
    exact sel_zero _ _ _ rfl

end Cert.ReferenceIdeal.Value
-- ==== Proof.Val.RefTotal.lean ====
module

public import proofs.«01_k».proof.Proof.Val.RefOut

/-! The reference's result, entry by entry: the terms of the other experts are zero on a row, and the row's own is its product
    with that expert's weights, scaled. -/

@[expose] public section

set_option maxRecDepth 16384

noncomputable section

namespace Cert.ReferenceIdeal.Value

open Idealize.ShloMosaic hiding ix2 ix3 ix1
open Idealize.ShloMosaic.ValueIdx Idealize.ShloMosaic.TcCoe
open Idealize.SL Idealize.SL.Sem
open Cert.ReferenceIdeal Cert.ReferenceIdeal.Gen
open Cert.Scale Cert.Groups Cert.Nibble
open Cert.KernelIdeal.Hand (kOf kEquiv brow srow wAt between)
open scoped BigOperators

section
variable (q : FVec Ideal S1536x2816 .bf16) (w : FVec Ideal S8x2816x14336 .bf16) (v44 : IVec S1536x1 32) (st en : IVec S8 32)

/-- The sum of the experts' terms. -/
def acc8 : FVec Ideal S1536x14336 .f32 :=
  addf (addf (addf (addf (addf (addf (addf (addf (broadcastInDim S1536x14336 ![] bcast_S_S1536x14336 (constant S_ .f32 0x00000000#32))
    (term q w v44 st en ![0] slices_S8_S1_0 ![0, 0, 0] slices_S8x2816x14336_S1x2816x14336_0_0_0))
    (term q w v44 st en ![1] slices_S8_S1_1 ![1, 0, 0] slices_S8x2816x14336_S1x2816x14336_1_0_0))
    (term q w v44 st en ![2] slices_S8_S1_2 ![2, 0, 0] slices_S8x2816x14336_S1x2816x14336_2_0_0))
    (term q w v44 st en ![3] slices_S8_S1_3 ![3, 0, 0] slices_S8x2816x14336_S1x2816x14336_3_0_0))
    (term q w v44 st en ![4] slices_S8_S1_4 ![4, 0, 0] slices_S8x2816x14336_S1x2816x14336_4_0_0))
    (term q w v44 st en ![5] slices_S8_S1_5 ![5, 0, 0] slices_S8x2816x14336_S1x2816x14336_5_0_0))
    (term q w v44 st en ![6] slices_S8_S1_6 ![6, 0, 0] slices_S8x2816x14336_S1x2816x14336_6_0_0))
    (term q w v44 st en ![7] slices_S8_S1_7 ![7, 0, 0] slices_S8x2816x14336_S1x2816x14336_7_0_0)

theorem add_at {s : Shape} (i : s.Idx) (x y : FVec Ideal s .f32) : addf x y i = (x i + y i : EReal) := rfl

theorem acc8_apply (g : IVec T8 32) (hg : Good g) (hst : ∀ e : Fin 8, st (Idealize.ShloMosaic.ix1 e) = BitVec.ofNat 32 (pre g e.val))
    (hen : ∀ e : Fin 8, en (Idealize.ShloMosaic.ix1 e) = BitVec.ofNat 32 (pre g (e.val + 1))) (e : Fin 8) (r : Fin 1536) (col : Fin 14336)
    (h44 : v44 (ix2 r 0) = BitVec.ofNat 32 r.val) (h1 : pre g e.val ≤ r.val) (h2 : r.val < pre g (e.val + 1)) :
    (acc8 q w v44 st en (ix2 r col) : EReal) = ∑ k : Fin 2816, (q (ix2 r k) * w (ix3 e k col) : EReal) := by
  let D : Fin 8 → EReal := fun e' => if pre g e'.val ≤ r.val ∧ r.val < pre g (e'.val + 1) then ∑ k : Fin 2816, (q (ix2 r k) * w (ix3 e' k col) : EReal) else 0
  have hD : ∑ e' : Fin 8, D e' = ∑ k : Fin 2816, (q (ix2 r k) * w (ix3 e k col) : EReal) := by
    rw [Finset.sum_eq_single e]
    · exact if_pos ⟨h1, h2⟩
    · intro e' _ hne
      refine if_neg fun hc => ?_
      rcases Nat.lt_or_gt_of_ne (fun h => hne (Fin.ext h) : e'.val ≠ e.val) with hlt | hgt
      · have := pre_mono g (a := e'.val + 1) (b := e.val) hlt; omega
      · have := pre_mono g (a := e.val + 1) (b := e'.val) hgt; omega
    · exact fun h => absurd (Finset.mem_univ _) h
  have ht : ∀ (e' : Fin 8) (o : Fin 1 → ℕ) (h : S8.Slices o S1) (o3 : Fin 3 → ℕ) (h3 : S8x2816x14336.Slices o3 S1x2816x14336), o 0 = e'.val → o3 = ![e'.val, 0, 0] →
      (term q w v44 st en o h o3 h3 (ix2 r col) : EReal) = D e' := fun e' o h o3 h3 ho ho3 =>
    term_apply q w v44 st en o h o3 h3 e' ho ho3 g hg (hst e') (hen e') r col h44
  rw [← hD, Fin.sum_univ_eight]
  unfold acc8
  simp only [add_at]
  rw [const_at, Ideal.ofBits_zero_f32, zero_add, ht 0 ![0] slices_S8_S1_0 ![0, 0, 0] slices_S8x2816x14336_S1x2816x14336_0_0_0 rfl rfl, ht 1 ![1] slices_S8_S1_1 ![1, 0, 0] slices_S8x2816x14336_S1x2816x14336_1_0_0 rfl rfl, ht 2 ![2] slices_S8_S1_2 ![2, 0, 0] slices_S8x2816x14336_S1x2816x14336_2_0_0 rfl rfl, ht 3 ![3] slices_S8_S1_3 ![3, 0, 0] slices_S8x2816x14336_S1x2816x14336_3_0_0 rfl rfl,
    ht 4 ![4] slices_S8_S1_4 ![4, 0, 0] slices_S8x2816x14336_S1x2816x14336_4_0_0 rfl rfl, ht 5 ![5] slices_S8_S1_5 ![5, 0, 0] slices_S8x2816x14336_S1x2816x14336_5_0_0 rfl rfl, ht 6 ![6] slices_S8_S1_6 ![6, 0, 0] slices_S8x2816x14336_S1x2816x14336_6_0_0 rfl rfl, ht 7 ![7] slices_S8_S1_7 ![7, 0, 0] slices_S8x2816x14336_S1x2816x14336_7_0_0 rfl rfl]

/-- The reference's result over its codes, weights, bounds and scales. -/
def total (s : FVec Ideal S1536x1 .f32) : FVec Ideal S1536x14336 .bf16 :=
  truncf .bf16 (mulf (acc8 q w v44 st en) (broadcastInDim S1536x14336 ![0, 1] bcast_S1536x1_S1536x14336_0_1 s)) bitsLt_bf16_f32

theorem total_apply (s : FVec Ideal S1536x1 .f32) (g : IVec T8 32) (hg : Good g) (hst : ∀ e : Fin 8, st (Idealize.ShloMosaic.ix1 e) = BitVec.ofNat 32 (pre g e.val))
    (hen : ∀ e : Fin 8, en (Idealize.ShloMosaic.ix1 e) = BitVec.ofNat 32 (pre g (e.val + 1))) (e : Fin 8) (r : Fin 1536) (col : Fin 14336)
    (h44 : v44 (ix2 r 0) = BitVec.ofNat 32 r.val) (h1 : pre g e.val ≤ r.val) (h2 : r.val < pre g (e.val + 1)) :
    (total q w v44 st en s (ix2 r col) : EReal) = (∑ k : Fin 2816, (q (ix2 r k) * w (ix3 e k col) : EReal)) * s (ix2 r 0) := by
  unfold total
  refine (trunc_at _ _ _).trans ?_
  have e1 : broadcastInDim S1536x14336 ![0, 1] bcast_S1536x1_S1536x14336_0_1 s (ix2 r col) = s (ix2 r 0) :=
    broadcastInDim_apply _ _ s (ix2 r col) (ix2 r 0) (fun a => by match a with | ⟨0, _⟩ => rfl | ⟨1, _⟩ => rfl)
  rw [mul_at, e1, acc8_apply q w v44 st en g hg hst hen e r col h44 h1 h2]
end

/-! ## Over the launch contents -/

variable (W : Valuation τ sig (Elt Ideal))

/-- The group sizes. -/
def gsr : IVec T8 32 := W main_arg1

theorem v41_apply (hg : Good (gsr W)) (e : Fin 8) : (res_main_v41 W : IVec S8 32) (Idealize.ShloMosaic.ix1 e) = BitVec.ofNat 32 (pre (gsr W) (e.val + 1)) := by
  unfold res_main_v41
  exact (reduceWindow_eq _ _ _ _ _ e).trans (cumsum_eq (gsr W) hg e)

theorem v42_apply (hg : Good (gsr W)) (e : Fin 8) : (res_main_v42 W : IVec S8 32) (Idealize.ShloMosaic.ix1 e) = BitVec.ofNat 32 (pre (gsr W) e.val) := by
  have h : (res_main_v42 W : IVec S8 32) (Idealize.ShloMosaic.ix1 e)
      = IntOp.subi ((res_main_v41 W : IVec S8 32) (Idealize.ShloMosaic.ix1 e)) (gsr W (Idealize.ShloMosaic.ix1 e)) := rfl
  rw [h, v41_apply W hg e, pre_succ]
  show BitVec.ofNat 32 (_ + _) - _ = _
  rw [BitVec.ofNat_add, BitVec.ofNat_toNat, BitVec.setWidth_eq, BitVec.add_sub_cancel]

theorem v44_apply (r : Fin 1536) : (res_main_v44 W : IVec S1536x1 32) (ix2 r 0) = BitVec.ofNat 32 r.val := by
  unfold res_main_v44
  exact (col_apply _ r).trans rfl

/-- The reference's result. -/
def refOut : FVec Ideal S1536x14336 .bf16 := total (res_main_v25 W) (res_main_v40 W) (res_main_v44 W) (res_main_v42 W) (res_main_v41 W) (res_main_v21 W)

/-- An entry of it: the sum in the kernel's order. -/
theorem refOut_apply (hg : Good (gsr W)) (e : Fin 8) (r : Fin 1536) (col : Fin 14336) (h1 : pre (gsr W) e.val ≤ r.val) (h2 : r.val < pre (gsr W) (e.val + 1))
    (h : ∀ j, max (xr W r j) (-(xr W r j)) ≤ big) :
    (refOut W (ix2 r col) : EReal) = (∑ K : Fin 2816, codeOf (xr W r) (kOf K) * wAt (W main_arg2) (W main_arg3) e K col) * scaleOf (pOf (xr W r)) := by
  refine (total_apply _ _ _ _ _ _ (gsr W) hg (v42_apply W hg) (v41_apply W hg) e r col (v44_apply W r) h1 h2).trans ?_
  rw [v21_apply W r h]
  refine congrArg (fun a : EReal => a * scaleOf (pOf (xr W r))) ?_
  rw [← Equiv.sum_comp kEquiv]
  refine Finset.sum_congr rfl fun K _ => ?_
  exact congrArg₂ (· * ·) (v25_apply W r (kOf K) h) (weights_apply (W main_arg2) (W main_arg3) e K col)

variable (m : (ℓ : Loc nD τ sig) → Buf (Elt Ideal) ℓ) (ρ : Dev nD → PrngReg)

theorem run_out : θ_run defs (onTc (τ := τ) (main (F := Ideal))) ⟨m, fun _ => 0, ρ⟩ fun r => ∀ c : Dev nD,
      r.2.mem ((c.tc : Thread nD τ).loc main_v160) = refOut (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.ReferenceIdeal.Value
-- ==== Proof.Val.Equal.lean ====
module

public import proofs.«01_k».proof.Proof.Cover
public import proofs.«01_k».proof.Proof.Val.RefTotal

/-! The two results are equal: the kernel's entry and the reference's, at a row of any expert. -/

@[expose] public section

set_option maxRecDepth 16384

noncomputable section

namespace Cert.Equal

open Idealize.ShloMosaic hiding ix2 ix3 ix1
open Idealize.ShloMosaic.ValueIdx Idealize.ShloMosaic.TcCoe
open Idealize.SL Idealize.SL.Sem
open Cert.Scale Cert.Groups
open Cert.KernelIdeal.Gen Cert.KernelIdeal.Hand
open scoped BigOperators

/-- Every row belongs to an expert. -/
theorem exists_expert (g : IVec T8 32) (hg : Good g) (r : ℕ) (hr : r < 1536) : ∃ e : Fin 8, pre g e.val ≤ r ∧ r < pre g (e.val + 1) := by
  have key : ∀ k, r < pre g k → ∃ e, e < k ∧ pre g e ≤ r ∧ r < pre g (e + 1) := by
    intro k
    induction k with
    | zero => intro h; rw [pre_zero] at h; omega
    | succ k ih =>
      intro h
      by_cases hk : r < pre g k
      · obtain ⟨e, he, h1⟩ := ih hk
        exact ⟨e, by omega, h1⟩
      · exact ⟨k, by omega, by omega, h⟩
  obtain ⟨e, he, h1⟩ := key 8 (by rw [pre_eight g hg]; exact hr)
  exact ⟨⟨e, he⟩, h1⟩

/-- A comparison that says yes of a magnitude bounds it. -/
theorem le_of_ole {s t : Shape} (x : FVec Ideal s .f32) (i : s.Idx) (b : BitVec 32) (h : cmpf .ole (Host.absf x) (constant s .f32 b) i = 1#1) :
    max (x i : EReal) (-(x i : EReal)) ≤ Ideal.ofBits .f32 b := by
  have h2 : BitVec.ofBool (decide (max (x i : EReal) (-(x i : EReal)) ≤ Ideal.ofBits .f32 b)) = 1#1 := h
  by_contra hc
  rw [decide_eq_false hc] at h2
  exact absurd h2 (by decide)

theorem bound [Cert.Pre_sizes_cover_finite.Facts] {x0 : FVec Ideal ⟨2, ![1536, 2816]⟩ .bf16} {x1 x2 x3} (h : Cert.Pre_sizes_cover_finite.fn (F := Ideal) x0 x1 x2 x3 = fun _ => 1#1)
    (r : Fin 1536) (j : Fin 2816) : max (x0 (ix2 r j) : EReal) (-(x0 (ix2 r j) : EReal)) ≤ big :=
  le_of_ole (t := ⟨0, ![]⟩) (extf .f32 x0 Cert.Pre_sizes_cover_finite.Facts.bitsLt_bf16_f32) (ix2 r j) 0x7F7F0000#32 (finite_of h (ix2 r j))

variable (m : (ℓ : Loc Cert.KernelIdeal.nD Cert.KernelIdeal.τ Cert.KernelIdeal.sig) → Buf (Elt Ideal) ℓ)

/-- The kernel's entry in terms of its arguments. -/
theorem outm_eq (c : Dev Cert.KernelIdeal.nD) (e : Fin 8) (r : Fin 1536) (col : Fin 14336) :
    outm m c e r col = (∑ K : Fin 2816, codeOf (xrow m c r) (kOf K) * wAt (V0 m c Cert.KernelIdeal.main_arg2) (V0 m c Cert.KernelIdeal.main_arg3) e K col)
      * scaleOf (pOf (xrow m c r)) := by
  unfold outm outAt
  rw [V6_arg2, V6_arg3, V6_scales]
  refine congrArg (fun a : EReal => a * scaleOf (pOf (xrow m c r))) (Finset.sum_congr rfl fun K _ => ?_)
  exact congrArg (fun a : EReal => a * wAt (V0 m c Cert.KernelIdeal.main_arg2) (V0 m c Cert.KernelIdeal.main_arg3) e K col) (V6_codes m c r K)

variable (W : Valuation Cert.ReferenceIdeal.τ Cert.ReferenceIdeal.sig (Elt Ideal))

/-- From equal arguments, with the bound and good sizes, an output that meets the kernel's relation is the reference's. -/
theorem out_eq (c : Dev Cert.KernelIdeal.nD) (hg : Good (gs m d0)) (h0 : W Cert.ReferenceIdeal.main_arg0 = V0 m c Cert.KernelIdeal.main_arg0)
    (h1 : Cert.ReferenceIdeal.Value.gsr W = gs m d0) (h2 : W Cert.ReferenceIdeal.main_arg2 = V0 m c Cert.KernelIdeal.main_arg2)
    (h3 : W Cert.ReferenceIdeal.main_arg3 = V0 m c Cert.KernelIdeal.main_arg3)
    (hb : ∀ r j, max (xrow m c r j) (-(xrow m c r j)) ≤ big)
    (G : Vec Ideal Cert.KernelIdeal.S1536x14336 .bf16)
    (hG : (rdat1 m (outs0 m) (adm0 m) (R4o m) c).ArrAt (4 : Fin 5) (Cert.KernelIdeal.cfg1 (adm0 m)).N G) :
    G = Cert.ReferenceIdeal.Value.refOut W := by
  have hx : ∀ r, Cert.ReferenceIdeal.Value.xr W r = xrow m c r := fun r => funext fun j => congrFun h0 (ix2 r j)
  funext i
  obtain ⟨r, col, rfl⟩ : ∃ (r : Fin 1536) (col : Fin 14336), i = ix2 r col := ⟨i 0, i 1, ValueIdx.eq_ix2 i⟩
  obtain ⟨e, ha, hz⟩ := exists_expert (gs m d0) hg r.val r.isLt
  refine (arr_out m hg c G hG e r col ha hz).trans ((outm_eq m c e r col).trans ?_)
  refine Eq.trans ?_ (Cert.ReferenceIdeal.Value.refOut_apply W (h1 ▸ hg) e r col (h1.symm ▸ ha) (h1.symm ▸ hz) (fun j => by rw [hx]; exact hb r j)).symm
  rw [hx, h2, h3]

end Cert.Equal
-- ==== Proof.lean ====
module

public import proofs.«01_k».proof.Defs
public import proofs.«01_k».proof.Proof.Cover
public import proofs.«01_k».proof.Proof.KI.Tables
public import proofs.«01_k».proof.Proof.KB.Tables
public import proofs.«01_k».proof.Proof.Val.Equal
public import proofs.«01_k».proof.Proof.Gen.ReferenceIdeal
public import proofs.«01_k».proof.Proof.Gen.ReferenceIdeal.Run
public import proofs.«01_k».proof.Proof.Gen.Pre_sizes_cover
public import proofs.«01_k».proof.Proof.Gen.Pre_sizes_cover_finite
public import Idealize.ShloMosaic.Adequacy
public import Idealize.ShloMosaic.Init

@[expose] public section

noncomputable section

namespace Cert.Proof

open Idealize.ShloMosaic Idealize.SL.Sem

/-- `quiescent_Kernel`: the grouped sizes being good, every run ends with the arguments as they were. -/
theorem frame_p : Cert.quiescent_Kernel := fun m ρ h =>
  Cert.Kernel.Hand.frame_run m ρ (Cert.Groups.good_cover (h Cert.Kernel.Hand.d0))

/-- `quiescent_KernelIdeal`: likewise at the extended reals. -/
theorem frame_pi : Cert.quiescent_KernelIdeal := fun m ρ h =>
  Cert.KernelIdeal.Hand.frame_run m ρ (Cert.Groups.good_cover (h Cert.KernelIdeal.Hand.d0))

/-- and under the value claim's precondition. -/
theorem frame_pi' : Cert.quiescent_KernelIdeal_pre_sizes_cover_finite := fun m ρ h =>
  Cert.KernelIdeal.Hand.frame_run m ρ (Cert.Groups.good_finite (h Cert.KernelIdeal.Hand.d0))

/-- `quiescent_ReferenceIdeal`: the reference's run, read at its arguments; it declares no semaphore. -/
theorem frame_ri : Cert.quiescent_ReferenceIdeal := fun m ρ _ =>
  θ_run_mono (Cert.ReferenceIdeal.Value.run m ρ) fun r h => ⟨fun c => (h c).2, sem_eq_zero_of_no_sems (by decide) r.2⟩

theorem frame_ri' : Cert.quiescent_ReferenceIdeal_pre_sizes_cover_finite := fun m ρ _ =>
  θ_run_mono (Cert.ReferenceIdeal.Value.run m ρ) fun r h => ⟨fun c => (h c).2, sem_eq_zero_of_no_sems (by decide) r.2⟩

/-- `algebraic_KernelIdeal_ReferenceIdeal`: both programs run, and end with the reference's result. -/
theorem alg : Cert.algebraic_KernelIdeal_ReferenceIdeal_pre_sizes_cover_finite := fun m ρ m' ρ' h ha => by
  have hg : Cert.Groups.Good (Cert.KernelIdeal.Hand.gs m Cert.KernelIdeal.Hand.d0) := Cert.Groups.good_finite (h Cert.KernelIdeal.Hand.d0)
  have hd : ∀ c : Dev Cert.KernelIdeal.nD, c = Cert.KernelIdeal.Hand.d0 := Cert.KernelIdeal.Hand.dev_eq
  refine ⟨fun c => Cert.ReferenceIdeal.Value.refOut (StableHlo.launchContents m' c), ?_, Cert.ReferenceIdeal.Value.run_out m' ρ'⟩
  have hk := Cert.KernelIdeal.Hand.run_all m (Cert.KernelIdeal.Hand.adm0 m) (Cert.KernelIdeal.Hand.R4o m) ρ (Cert.KernelIdeal.Hand.tablesAt0 m)
    (Cert.KernelIdeal.Hand.okWords0 m hg) (Cert.KernelIdeal.Hand.step_ok m hg)
  refine θ_run_mono hk fun r hr c => ⟨?_, (hr.1 c).1⟩
  refine Cert.Equal.out_eq m (StableHlo.launchContents m' c) c hg (ha c).1 ?_ (ha c).2.2.1 (ha c).2.2.2 (fun r j => Cert.Equal.bound (h c) r j) _ (hr.1 c).2
  rw [hd c]
  exact (ha Cert.KernelIdeal.Hand.d0).2.1

theorem claim : Cert.Claim := ⟨Cert.Kernel.Gen.facts, Cert.KernelIdeal.Gen.facts, Cert.ReferenceIdeal.Gen.facts, Cert.Pre_sizes_cover.Gen.facts, Cert.Pre_sizes_cover_finite.Gen.facts,
  frame_p, frame_pi, frame_pi', frame_ri, frame_ri', trivial, alg⟩

end Cert.Proof

end
